-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_in_range : Cert.Pre_in_range.Facts) (hPre_usable : Cert.Pre_usable.Facts),
    quiescent_Kernel (hKernel := hKernel) (hPre_in_range := hPre_in_range)
    ∧ quiescent_KernelIdeal (hKernelIdeal := hKernelIdeal) (hPre_in_range := hPre_in_range)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_in_range.lean ====
abbrev S4096x50 : Shape := ⟨2, ![4096, 50]⟩
abbrev S4096 : Shape := ⟨1, ![4096]⟩
abbrev S1000x128 : Shape := ⟨2, ![1000, 128]⟩
abbrev S20x128 : Shape := ⟨2, ![20, 128]⟩
abbrev S2x128 : Shape := ⟨2, ![2, 128]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x1000 : Shape := ⟨2, ![512, 1000]⟩
abbrev S1000 : Shape := ⟨1, ![1000]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v12 : IVec S_ 1) (main_v14 : IVec S4096 1) (main_v15 : IVec S4096 32) : IVec S_ 1 :=
  let main_v16 : IVec S4096 1 := cmpi .slt main_arg2 main_v15
  let main_v17 : IVec S4096 1 := andi main_v14 main_v16
  let main_c_7 : IVec S_ 1 := constantI S_ 1 1#1
  let main_v18 : IVec S_ 1 := (fun x v => Host.reduce IntOp.andi x v reducesTo_S4096_S_d0 h_S_) main_v17 main_c_7
  let main_v19 : IVec S_ 1 := andi main_v12 main_v18
  main_v19

def fn {F : FTy → Type} [FloatOps F] (main_arg0 : IVec S4096x50 32) (main_arg1 : IVec S4096 32) (main_arg2 : IVec S4096 32) (main_arg3 : FVec F S1000x128 .f32) (main_arg4 : FVec F S20x128 .f32) (main_arg5 : FVec F S2x128 .f32) (main_arg6 : FVec F S512x1024 .f32) (main_arg7 : FVec F S1024 .f32) (main_arg8 : FVec F S1024 .f32) (main_arg9 : FVec F S1024 .f32) (main_arg10 : FVec F S1024x1024 .f32) (main_arg11 : FVec F S1024 .f32) (main_arg12 : FVec F S1024 .f32) (main_arg13 : FVec F S1024 .f32) (main_arg14 : FVec F S1024x512 .f32) (main_arg15 : FVec F S512 .f32) (main_arg16 : FVec F S512 .f32) (main_arg17 : FVec F S512 .f32) (main_arg18 : FVec F S512x1000 .f32) (main_arg19 : FVec F S1000 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 1000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg1 main_v6
  let main_c_3 : IVec S_ 32 := constantI S_ 32 20#32
  let main_v8 : IVec S4096 32 := broadcastInDim S4096 ![] bcast_S_S4096 main_c_3
  let main_v9 : IVec S4096 1 := cmpi .slt main_arg1 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_c_5 : IVec S_ 32 := constantI S_ 32 0#32
  let main_v13 : IVec S4096 32 := broadcastInDim S4096 ![] bcast_S_S4096 main_c_5
  let main_v14 : IVec S4096 1 := cmpi .sge main_arg2 main_v13
  let main_c_6 : IVec S_ 32 := constantI S_ 32 2#32
  let main_v15 : IVec S4096 32 := broadcastInDim S4096 ![] bcast_S_S4096 main_c_6
  fn_part1 (F := F) main_arg2 main_v12 main_v14 main_v15
-- ==== Pre_usable.lean ====
abbrev S4096x50 : Shape := ⟨2, ![4096, 50]⟩
abbrev S4096 : Shape := ⟨1, ![4096]⟩
abbrev S1000x128 : Shape := ⟨2, ![1000, 128]⟩
abbrev S20x128 : Shape := ⟨2, ![20, 128]⟩
abbrev S2x128 : Shape := ⟨2, ![2, 128]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x1000 : Shape := ⟨2, ![512, 1000]⟩
abbrev S1000 : Shape := ⟨1, ![1000]⟩
abbrev S_ : Shape := ⟨0, ![]⟩
abbrev S1x128 : Shape := ⟨2, ![1, 128]⟩
abbrev S128 : Shape := ⟨1, ![128]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel
  bcast_S_S4096 : S_.BroadcastsInDim S4096 (![] : Fin 0 → Fin S4096.rank)
  reducesTo_S4096_S_d0 : S4096.ReducesTo [0] S_
  slices_S1000x128_S1x128_0_0 : S1000x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_
  bcast_S_S1000x128 : S_.BroadcastsInDim S1000x128 (![] : Fin 0 → Fin S1000x128.rank)
  reducesTo_S1000x128_S_d0_1 : S1000x128.ReducesTo [0, 1] S_
  bcast_S_S20x128 : S_.BroadcastsInDim S20x128 (![] : Fin 0 → Fin S20x128.rank)
  reducesTo_S20x128_S_d0_1 : S20x128.ReducesTo [0, 1] S_
  bcast_S_S2x128 : S_.BroadcastsInDim S2x128 (![] : Fin 0 → Fin S2x128.rank)
  reducesTo_S2x128_S_d0_1 : S2x128.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg15 : FVec F S512 .f32) (main_arg16 : FVec F S512 .f32) (main_v80 : IVec S_ 1) (main_v84 : IVec S_ 1) : IVec S_ 1 :=
  let main_v85 : IVec S_ 1 := andi main_v80 main_v84
  let main_v86 : FVec F S512 .f32 := Host.absf main_arg15
  let main_cst_33 : FVec F S_ .f32 := constant S_ .f32 0x7F800000#32
  let main_v87 : FVec F S512 .f32 := broadcastInDim S512 ![] bcast_S_S512 main_cst_33
  let main_v88 : IVec S512 1 := cmpf .olt main_v86 main_v87
  let main_c_34 : IVec S_ 1 := constantI S_ 1 1#1
  let main_v89 : IVec S_ 1 := (fun x v => Host.reduce IntOp.andi x v reducesTo_S512_S_d0 h_S_) main_v88 main_c_34
  let main_v90 : IVec S_ 1 := andi main_v85 main_v89
  let main_v91 : FVec F S512 .f32 := Host.absf main_arg16
  let main_cst_35 : FVec F S_ .f32 := constant S_ .f32 0x7F800000#32
  let main_v92 : FVec F S512 .f32 := broadcastInDim S512 ![] bcast_S_S512 main_cst_35
  let main_v93 : IVec S512 1 := cmpf .olt main_v91 main_v92
  let main_c_36 : IVec S_ 1 := constantI S_ 1 1#1
  let main_v94 : IVec S_ 1 := (fun x v => Host.reduce IntOp.andi x v reducesTo_S512_S_d0 h_S_) main_v93 main_c_36
  let main_v95 : IVec S_ 1 := andi main_v90 main_v94
  main_v95

def fn_part4 {F : FTy → Type} [FloatOps F] (main_arg12 : FVec F S1024 .f32) (main_arg13 : FVec F S1024 .f32) (main_arg14 : FVec F S1024x512 .f32) (main_arg15 : FVec F S512 .f32) (main_arg16 : FVec F S512 .f32) (main_v65 : IVec S_ 1) (main_v66 : FVec F S1024 .f32) (main_v67 : FVec F S1024 .f32) : IVec S_ 1 :=
  let main_v68 : IVec S1024 1 := cmpf .olt main_v66 main_v67
  let main_c_26 : IVec S_ 1 := constantI S_ 1 1#1
  let main_v69 : IVec S_ 1 := (fun x v => Host.reduce IntOp.andi x v reducesTo_S1024_S_d0 h_S_) main_v68 main_c_26
  let main_v70 : IVec S_ 1 := andi main_v65 main_v69
  let main_v71 : FVec F S1024 .f32 := Host.absf main_arg12
  let main_cst_27 : FVec F S_ .f32 := constant S_ .f32 0x7F800000#32
  let main_v72 : FVec F S1024 .f32 := broadcastInDim S1024 ![] bcast_S_S1024 main_cst_27
  let main_v73 : IVec S1024 1 := cmpf .olt main_v71 main_v72
  let main_c_28 : IVec S_ 1 := constantI S_ 1 1#1
  let main_v74 : IVec S_ 1 := (fun x v => Host.reduce IntOp.andi x v reducesTo_S1024_S_d0 h_S_) main_v73 main_c_28
  let main_v75 : IVec S_ 1 := andi main_v70 main_v74
  let main_v76 : FVec F S1024 .f32 := Host.absf main_arg13
  let main_cst_29 : FVec F S_ .f32 := constant S_ .f32 0x7F800000#32
  let main_v77 : FVec F S1024 .f32 := broadcastInDim S1024 ![] bcast_S_S1024 main_cst_29
  let main_v78 : IVec S1024 1 := cmpf .olt main_v76 main_v77
  let main_c_30 : IVec S_ 1 := constantI S_ 1 1#1
  let main_v79 : IVec S_ 1 := (fun x v => Host.reduce IntOp.andi x v reducesTo_S1024_S_d0 h_S_) main_v78 main_c_30
  let main_v80 : IVec S_ 1 := andi main_v75 main_v79
  let main_v81 : FVec F S1024x512 .f32 := Host.absf main_arg14
  let main_cst_31 : FVec F S_ .f32 := constant S_ .f32 0x7F800000#32
  let main_v82 : FVec F S1024x512 .f32 := broadcastInDim S1024x512 ![] bcast_S_S1024x512 main_cst_31
  let main_v83 : IVec S1024x512 1 := cmpf .olt main_v81 main_v82
  let main_c_32 : IVec S_ 1 := constantI S_ 1 1#1
  let main_v84 : IVec S_ 1 := (fun x v => Host.reduce IntOp.andi x v reducesTo_S1024x512_S_d0_1 h_S_) main_v83 main_c_32
  fn_part5 (F := F) main_arg15 main_arg16 main_v80 main_v84

def fn_part3 {F : FTy → Type} [FloatOps F] (main_arg8 : FVec F S1024 .f32) (main_arg9 : FVec F S1024 .f32) (main_arg10 : FVec F S1024x1024 .f32) (main_arg11 : FVec F S1024 .f32) (main_arg12 : FVec F S1024 .f32) (main_arg13 : FVec F S1024 .f32) (main_arg14 : FVec F S1024x512 .f32) (main_arg15 : FVec F S512 .f32) (main_arg16 : FVec F S512 .f32) (main_v50 : IVec S_ 1) : IVec S_ 1 :=
  let main_v51 : FVec F S1024 .f32 := Host.absf main_arg8
  let main_cst_19 : FVec F S_ .f32 := constant S_ .f32 0x7F800000#32
  let main_v52 : FVec F S1024 .f32 := broadcastInDim S1024 ![] bcast_S_S1024 main_cst_19
  let main_v53 : IVec S1024 1 := cmpf .olt main_v51 main_v52
  let main_c_20 : IVec S_ 1 := constantI S_ 1 1#1
  let main_v54 : IVec S_ 1 := (fun x v => Host.reduce IntOp.andi x v reducesTo_S1024_S_d0 h_S_) main_v53 main_c_20
  let main_v55 : IVec S_ 1 := andi main_v50 main_v54
  let main_v56 : FVec F S1024 .f32 := Host.absf main_arg9
  let main_cst_21 : FVec F S_ .f32 := constant S_ .f32 0x7F800000#32
  let main_v57 : FVec F S1024 .f32 := broadcastInDim S1024 ![] bcast_S_S1024 main_cst_21
  let main_v58 : IVec S1024 1 := cmpf .olt main_v56 main_v57
  let main_c_22 : IVec S_ 1 := constantI S_ 1 1#1
  let main_v59 : IVec S_ 1 := (fun x v => Host.reduce IntOp.andi x v reducesTo_S1024_S_d0 h_S_) main_v58 main_c_22
  let main_v60 : IVec S_ 1 := andi main_v55 main_v59
  let main_v61 : FVec F S1024x1024 .f32 := Host.absf main_arg10
  let main_cst_23 : FVec F S_ .f32 := constant S_ .f32 0x7F800000#32
  let main_v62 : FVec F S1024x1024 .f32 := broadcastInDim S1024x1024 ![] bcast_S_S1024x1024 main_cst_23
  let main_v63 : IVec S1024x1024 1 := cmpf .olt main_v61 main_v62
  let main_c_24 : IVec S_ 1 := constantI S_ 1 1#1
  let main_v64 : IVec S_ 1 := (fun x v => Host.reduce IntOp.andi x v reducesTo_S1024x1024_S_d0_1 h_S_) main_v63 main_c_24
  let main_v65 : IVec S_ 1 := andi main_v60 main_v64
  let main_v66 : FVec F S1024 .f32 := Host.absf main_arg11
  let main_cst_25 : FVec F S_ .f32 := constant S_ .f32 0x7F800000#32
  let main_v67 : FVec F S1024 .f32 := broadcastInDim S1024 ![] bcast_S_S1024 main_cst_25
  fn_part4 (F := F) main_arg12 main_arg13 main_arg14 main_arg15 main_arg16 main_v65 main_v66 main_v67

def fn_part2 {F : FTy → Type} [FloatOps F] (main_arg5 : FVec F S2x128 .f32) (main_arg6 : FVec F S512x1024 .f32) (main_arg7 : FVec F S1024 .f32) (main_arg8 : FVec F S1024 .f32) (main_arg9 : FVec F S1024 .f32) (main_arg10 : FVec F S1024x1024 .f32) (main_arg11 : FVec F S1024 .f32) (main_arg12 : FVec F S1024 .f32) (main_arg13 : FVec F S1024 .f32) (main_arg14 : FVec F S1024x512 .f32) (main_arg15 : FVec F S512 .f32) (main_arg16 : FVec F S512 .f32) (main_v30 : IVec S_ 1) (main_v33 : IVec S20x128 1) : IVec S_ 1 :=
  let main_c_12 : IVec S_ 1 := constantI S_ 1 1#1
  let main_v34 : IVec S_ 1 := (fun x v => Host.reduce IntOp.andi x v reducesTo_S20x128_S_d0_1 h_S_) main_v33 main_c_12
  let main_v35 : IVec S_ 1 := andi main_v30 main_v34
  let main_v36 : FVec F S2x128 .f32 := Host.absf main_arg5
  let main_cst_13 : FVec F S_ .f32 := constant S_ .f32 0x7F800000#32
  let main_v37 : FVec F S2x128 .f32 := broadcastInDim S2x128 ![] bcast_S_S2x128 main_cst_13
  let main_v38 : IVec S2x128 1 := cmpf .olt main_v36 main_v37
  let main_c_14 : IVec S_ 1 := constantI S_ 1 1#1
  let main_v39 : IVec S_ 1 := (fun x v => Host.reduce IntOp.andi x v reducesTo_S2x128_S_d0_1 h_S_) main_v38 main_c_14
  let main_v40 : IVec S_ 1 := andi main_v35 main_v39
  let main_v41 : FVec F S512x1024 .f32 := Host.absf main_arg6
  let main_cst_15 : FVec F S_ .f32 := constant S_ .f32 0x7F800000#32
  let main_v42 : FVec F S512x1024 .f32 := broadcastInDim S512x1024 ![] bcast_S_S512x1024 main_cst_15
  let main_v43 : IVec S512x1024 1 := cmpf .olt main_v41 main_v42
  let main_c_16 : IVec S_ 1 := constantI S_ 1 1#1
  let main_v44 : IVec S_ 1 := (fun x v => Host.reduce IntOp.andi x v reducesTo_S512x1024_S_d0_1 h_S_) main_v43 main_c_16
  let main_v45 : IVec S_ 1 := andi main_v40 main_v44
  let main_v46 : FVec F S1024 .f32 := Host.absf main_arg7
  let main_cst_17 : FVec F S_ .f32 := constant S_ .f32 0x7F800000#32
  let main_v47 : FVec F S1024 .f32 := broadcastInDim S1024 ![] bcast_S_S1024 main_cst_17
  let main_v48 : IVec S1024 1 := cmpf .olt main_v46 main_v47
  let main_c_18 : IVec S_ 1 := constantI S_ 1 1#1
  let main_v49 : IVec S_ 1 := (fun x v => Host.reduce IntOp.andi x v reducesTo_S1024_S_d0 h_S_) main_v48 main_c_18
  let main_v50 : IVec S_ 1 := andi main_v45 main_v49
  fn_part3 (F := F) main_arg8 main_arg9 main_arg10 main_arg11 main_arg12 main_arg13 main_arg14 main_arg15 main_arg16 main_v50

def fn_part1 {F : FTy → Type} [FloatOps F] (main_arg2 : IVec S4096 32) (main_arg3 : FVec F S1000x128 .f32) (main_arg4 : FVec F S20x128 .f32) (main_arg5 : FVec F S2x128 .f32) (main_arg6 : FVec F S512x1024 .f32) (main_arg7 : FVec F S1024 .f32) (main_arg8 : FVec F S1024 .f32) (main_arg9 : FVec F S1024 .f32) (main_arg10 : FVec F S1024x1024 .f32) (main_arg11 : FVec F S1024 .f32) (main_arg12 : FVec F S1024 .f32) (main_arg13 : FVec F S1024 .f32) (main_arg14 : FVec F S1024x512 .f32) (main_arg15 : FVec F S512 .f32) (main_arg16 : FVec F S512 .f32) (main_v12 : IVec S_ 1) (main_v14 : IVec S4096 1) (main_v15 : IVec S4096 32) : IVec S_ 1 :=
  let main_v16 : IVec S4096 1 := cmpi .slt main_arg2 main_v15
  let main_v17 : IVec S4096 1 := andi main_v14 main_v16
  let main_c_7 : IVec S_ 1 := constantI S_ 1 1#1
  let main_v18 : IVec S_ 1 := (fun x v => Host.reduce IntOp.andi x v reducesTo_S4096_S_d0 h_S_) main_v17 main_c_7
  let main_v19 : IVec S_ 1 := andi main_v12 main_v18
  let main_v20 : FVec F S1x128 .f32 := (extractStridedSlice S1x128 ![0, 0] · slices_S1000x128_S1x128_0_0) main_arg3
  let main_v21 : FVec F S128 .f32 := shapeCast S128 main_v20 shapeCasts_S1x128_S128
  let main_cst : FVec F S_ .f32 := constant S_ .f32 0x00000000#32
  let main_v22 : FVec F S128 .f32 := broadcastInDim S128 ![] bcast_S_S128 main_cst
  let main_v23 : IVec S128 1 := cmpf .oeq main_v21 main_v22
  let main_c_8 : IVec S_ 1 := constantI S_ 1 1#1
  let main_v24 : IVec S_ 1 := (fun x v => Host.reduce IntOp.andi x v reducesTo_S128_S_d0 h_S_) main_v23 main_c_8
  let main_v25 : IVec S_ 1 := andi main_v19 main_v24
  let main_v26 : FVec F S1000x128 .f32 := Host.absf main_arg3
  let main_cst_9 : FVec F S_ .f32 := constant S_ .f32 0x7F800000#32
  let main_v27 : FVec F S1000x128 .f32 := broadcastInDim S1000x128 ![] bcast_S_S1000x128 main_cst_9
  let main_v28 : IVec S1000x128 1 := cmpf .olt main_v26 main_v27
  let main_c_10 : IVec S_ 1 := constantI S_ 1 1#1
  let main_v29 : IVec S_ 1 := (fun x v => Host.reduce IntOp.andi x v reducesTo_S1000x128_S_d0_1 h_S_) main_v28 main_c_10
  let main_v30 : IVec S_ 1 := andi main_v25 main_v29
  let main_v31 : FVec F S20x128 .f32 := Host.absf main_arg4
  let main_cst_11 : FVec F S_ .f32 := constant S_ .f32 0x7F800000#32
  let main_v32 : FVec F S20x128 .f32 := broadcastInDim S20x128 ![] bcast_S_S20x128 main_cst_11
  let main_v33 : IVec S20x128 1 := cmpf .olt main_v31 main_v32
  fn_part2 (F := F) main_arg5 main_arg6 main_arg7 main_arg8 main_arg9 main_arg10 main_arg11 main_arg12 main_arg13 main_arg14 main_arg15 main_arg16 main_v30 main_v33

def fn {F : FTy → Type} [FloatOps F] (main_arg0 : IVec S4096x50 32) (main_arg1 : IVec S4096 32) (main_arg2 : IVec S4096 32) (main_arg3 : FVec F S1000x128 .f32) (main_arg4 : FVec F S20x128 .f32) (main_arg5 : FVec F S2x128 .f32) (main_arg6 : FVec F S512x1024 .f32) (main_arg7 : FVec F S1024 .f32) (main_arg8 : FVec F S1024 .f32) (main_arg9 : FVec F S1024 .f32) (main_arg10 : FVec F S1024x1024 .f32) (main_arg11 : FVec F S1024 .f32) (main_arg12 : FVec F S1024 .f32) (main_arg13 : FVec F S1024 .f32) (main_arg14 : FVec F S1024x512 .f32) (main_arg15 : FVec F S512 .f32) (main_arg16 : FVec F S512 .f32) (main_arg17 : FVec F S512 .f32) (main_arg18 : FVec F S512x1000 .f32) (main_arg19 : FVec F S1000 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 1000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg1 main_v6
  let main_c_3 : IVec S_ 32 := constantI S_ 32 20#32
  let main_v8 : IVec S4096 32 := broadcastInDim S4096 ![] bcast_S_S4096 main_c_3
  let main_v9 : IVec S4096 1 := cmpi .slt main_arg1 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_c_5 : IVec S_ 32 := constantI S_ 32 0#32
  let main_v13 : IVec S4096 32 := broadcastInDim S4096 ![] bcast_S_S4096 main_c_5
  let main_v14 : IVec S4096 1 := cmpi .sge main_arg2 main_v13
  let main_c_6 : IVec S_ 32 := constantI S_ 32 2#32
  let main_v15 : IVec S4096 32 := broadcastInDim S4096 ![] bcast_S_S4096 main_c_6
  fn_part1 (F := F) main_arg2 main_arg3 main_arg4 main_arg5 main_arg6 main_arg7 main_arg8 main_arg9 main_arg10 main_arg11 main_arg12 main_arg13 main_arg14 main_arg15 main_arg16 main_v12 main_v14 main_v15
-- ==== Kernel.lean ====
abbrev S4096x50 : Shape := ⟨2, ![4096, 50]⟩
abbrev S4096 : Shape := ⟨1, ![4096]⟩
abbrev S1000x128 : Shape := ⟨2, ![1000, 128]⟩
abbrev S20x128 : Shape := ⟨2, ![20, 128]⟩
abbrev S2x128 : Shape := ⟨2, ![2, 128]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x1000 : Shape := ⟨2, ![512, 1000]⟩
abbrev S1000 : Shape := ⟨1, ![1000]⟩
abbrev S_ : Shape := ⟨0, ![]⟩
abbrev S4096x64 : Shape := ⟨2, ![4096, 64]⟩
abbrev S4194304 : Shape := ⟨1, ![4194304]⟩
abbrev S4096x128 : Shape := ⟨2, ![4096, 128]⟩
abbrev S8x64 : Shape := ⟨2, ![8, 64]⟩
abbrev S8192 : Shape := ⟨1, ![8192]⟩
abbrev S128 : Shape := ⟨1, ![128]⟩
abbrev S128x128 : Shape := ⟨2, ![128, 128]⟩
abbrev S16 : Shape := ⟨1, ![16]⟩
abbrev S1x16 : Shape := ⟨2, ![1, 16]⟩
abbrev S4096x1024 : Shape := ⟨2, ![4096, 1024]⟩
abbrev S1024x128 : Shape := ⟨2, ![1024, 128]⟩
abbrev S1x1024 : Shape := ⟨2, ![1, 1024]⟩
abbrev S2x1024 : Shape := ⟨2, ![2, 1024]⟩
abbrev S512x128 : Shape := ⟨2, ![512, 128]⟩
abbrev S512x1 : Shape := ⟨2, ![512, 1]⟩
abbrev S512x512 : Shape := ⟨2, ![512, 512]⟩
abbrev S1x512 : Shape := ⟨2, ![1, 512]⟩
abbrev S4096x512 : Shape := ⟨2, ![4096, 512]⟩
abbrev S2x512 : Shape := ⟨2, ![2, 512]⟩
abbrev S4096x1000 : Shape := ⟨2, ![4096, 1000]⟩

abbrev nBuf : Table → Nat
  | .hbm => 59
  | .local .tc .vmem => 41
  | .local .scVector .vmem => 4
  | _ => 0

abbrev bufTy : (tb : Table) → Fin (nBuf tb) → BufTy
  | .hbm, ⟨0, _⟩ => ⟨S4096x50, .i32⟩
  | .hbm, ⟨1, _⟩ => ⟨S4096, .i32⟩
  | .hbm, ⟨2, _⟩ => ⟨S4096, .i32⟩
  | .hbm, ⟨3, _⟩ => ⟨S1000x128, .f32⟩
  | .hbm, ⟨4, _⟩ => ⟨S20x128, .f32⟩
  | .hbm, ⟨5, _⟩ => ⟨S2x128, .f32⟩
  | .hbm, ⟨6, _⟩ => ⟨S512x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512x1000, .f32⟩
  | .hbm, ⟨19, _⟩ => ⟨S1000, .f32⟩
  | .hbm, ⟨20, _⟩ => ⟨S_, .i32⟩
  | .hbm, ⟨21, _⟩ => ⟨S_, .i32⟩
  | .hbm, ⟨22, _⟩ => ⟨S4096x64, .i32⟩
  | .hbm, ⟨23, _⟩ => ⟨S4194304, .f32⟩
  | .hbm, ⟨24, _⟩ => ⟨S4096x128, .f32⟩
  | .hbm, ⟨25, _⟩ => ⟨S4096x128, .f32⟩
  | .hbm, ⟨26, _⟩ => ⟨S4096x1024, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x128, .bf16⟩
  | .hbm, ⟨31, _⟩ => ⟨S512x1024, .bf16⟩
  | .hbm, ⟨32, _⟩ => ⟨S1024x1024, .bf16⟩
  | .hbm, ⟨33, _⟩ => ⟨S1024x512, .bf16⟩
  | .hbm, ⟨34, _⟩ => ⟨S_, .i32⟩
  | .hbm, ⟨35, _⟩ => ⟨S_, .f32⟩
  | .hbm, ⟨36, _⟩ => ⟨S512x1024, .f32⟩
  | .hbm, ⟨37, _⟩ => ⟨S512x1024, .bf16⟩
  | .hbm, ⟨38, _⟩ => ⟨S_, .i32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1x1024, .f32⟩
  | .hbm, ⟨43, _⟩ => ⟨S4096x1024, .bf16⟩
  | .hbm, ⟨44, _⟩ => ⟨S2x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S4096x1024, .bf16⟩
  | .hbm, ⟨49, _⟩ => ⟨S2x1024, .f32⟩
  | .hbm, ⟨50, _⟩ => ⟨S1x1024, .f32⟩
  | .hbm, ⟨51, _⟩ => ⟨S1x1024, .f32⟩
  | .hbm, ⟨52, _⟩ => ⟨S1x512, .f32⟩
  | .hbm, ⟨53, _⟩ => ⟨S4096x512, .bf16⟩
  | .hbm, ⟨54, _⟩ => ⟨S2x512, .f32⟩
  | .hbm, ⟨55, _⟩ => ⟨S1x512, .f32⟩
  | .hbm, ⟨56, _⟩ => ⟨S1x512, .f32⟩
  | .hbm, ⟨57, _⟩ => ⟨S4096x1024, .f32⟩
  | .hbm, ⟨58, _⟩ => ⟨S4096x1000, .f32⟩
  | .local .tc .vmem, ⟨0, _⟩ => ⟨S512x1024, .f32⟩
  | .local .tc .vmem, ⟨1, _⟩ => ⟨S512x1024, .f32⟩
  | .local .tc .vmem, ⟨2, _⟩ => ⟨S512x128, .f32⟩
  | .local .tc .vmem, ⟨3, _⟩ => ⟨S512x128, .f32⟩
  | .local .tc .vmem, ⟨4, _⟩ => ⟨S512x128, .f32⟩
  | .local .tc .vmem, ⟨5, _⟩ => ⟨S512x128, .f32⟩
  | .local .tc .vmem, ⟨6, _⟩ => ⟨S1024x128, .bf16⟩
  | .local .tc .vmem, ⟨7, _⟩ => ⟨S512x1024, .bf16⟩
  | .local .tc .vmem, ⟨8, _⟩ => ⟨S1x1024, .f32⟩
  | .local .tc .vmem, ⟨9, _⟩ => ⟨S512x1024, .bf16⟩
  | .local .tc .vmem, ⟨10, _⟩ => ⟨S512x1024, .bf16⟩
  | .local .tc .vmem, ⟨11, _⟩ => ⟨S2x1024, .f32⟩
  | .local .tc .vmem, ⟨12, _⟩ => ⟨S512x1024, .bf16⟩
  | .local .tc .vmem, ⟨13, _⟩ => ⟨S512x1024, .bf16⟩
  | .local .tc .vmem, ⟨14, _⟩ => ⟨S2x1024, .f32⟩
  | .local .tc .vmem, ⟨15, _⟩ => ⟨S1x1024, .f32⟩
  | .local .tc .vmem, ⟨16, _⟩ => ⟨S1x1024, .f32⟩
  | .local .tc .vmem, ⟨17, _⟩ => ⟨S1024x1024, .bf16⟩
  | .local .tc .vmem, ⟨18, _⟩ => ⟨S1x1024, .f32⟩
  | .local .tc .vmem, ⟨19, _⟩ => ⟨S512x1024, .bf16⟩
  | .local .tc .vmem, ⟨20, _⟩ => ⟨S512x1024, .bf16⟩
  | .local .tc .vmem, ⟨21, _⟩ => ⟨S2x1024, .f32⟩
  | .local .tc .vmem, ⟨22, _⟩ => ⟨S512x1024, .bf16⟩
  | .local .tc .vmem, ⟨23, _⟩ => ⟨S512x1024, .bf16⟩
  | .local .tc .vmem, ⟨24, _⟩ => ⟨S2x1024, .f32⟩
  | .local .tc .vmem, ⟨25, _⟩ => ⟨S1x1024, .f32⟩
  | .local .tc .vmem, ⟨26, _⟩ => ⟨S1x1024, .f32⟩
  | .local .tc .vmem, ⟨27, _⟩ => ⟨S1024x512, .bf16⟩
  | .local .tc .vmem, ⟨28, _⟩ => ⟨S1x512, .f32⟩
  | .local .tc .vmem, ⟨29, _⟩ => ⟨S512x512, .bf16⟩
  | .local .tc .vmem, ⟨30, _⟩ => ⟨S512x512, .bf16⟩
  | .local .tc .vmem, ⟨31, _⟩ => ⟨S2x512, .f32⟩
  | .local .tc .vmem, ⟨32, _⟩ => ⟨S512x512, .bf16⟩
  | .local .tc .vmem, ⟨33, _⟩ => ⟨S512x512, .bf16⟩
  | .local .tc .vmem, ⟨34, _⟩ => ⟨S2x512, .f32⟩
  | .local .tc .vmem, ⟨35, _⟩ => ⟨S1x512, .f32⟩
  | .local .tc .vmem, ⟨36, _⟩ => ⟨S1x512, .f32⟩
  | .local .tc .vmem, ⟨37, _⟩ => ⟨S512x1024, .bf16⟩
  | .local .tc .vmem, ⟨38, _⟩ => ⟨S1x1024, .f32⟩
  | .local .tc .vmem, ⟨39, _⟩ => ⟨S512x1024, .f32⟩
  | .local .tc .vmem, ⟨40, _⟩ => ⟨S512x1024, .f32⟩
  | .local .scVector .vmem, ⟨0, _⟩ => ⟨S8x64, .i32⟩
  | .local .scVector .vmem, ⟨1, _⟩ => ⟨S8192, .f32⟩
  | .local .scVector .vmem, ⟨2, _⟩ => ⟨S128, .i32⟩
  | .local .scVector .vmem, ⟨3, _⟩ => ⟨S128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 48 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTables nBuf rfl bufTy 4 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_call0_v0 : Ref sig .tc := ⟨.hbm, 21, rfl⟩
abbrev main_v0 : Ref sig .tc := ⟨.hbm, 22, rfl⟩
abbrev main_v1_0 : Ref sig .tc := ⟨.hbm, 23, rfl⟩
abbrev main_v1_1 : Ref sig .tc := ⟨.hbm, 24, rfl⟩
abbrev main_v1_2 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c_1 : Ref sig .tc := ⟨.hbm, 34, rfl⟩
abbrev main_call2_v0 : Ref sig .tc := ⟨.hbm, 35, rfl⟩
abbrev main_v8 : Ref sig .tc := ⟨.hbm, 36, rfl⟩
abbrev main_v9 : Ref sig .tc := ⟨.hbm, 37, rfl⟩
abbrev main_c_2 : Ref sig .tc := ⟨.hbm, 38, rfl⟩
abbrev main_call3_v0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13_0 : Ref sig .tc := ⟨.hbm, 43, rfl⟩
abbrev main_v13_1 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17_0 : Ref sig .tc := ⟨.hbm, 48, rfl⟩
abbrev main_v17_1 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21_0 : Ref sig .tc := ⟨.hbm, 53, rfl⟩
abbrev main_v21_1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v0_scv : Ref sig .scVector := ⟨.hbm, 22, rfl⟩
abbrev main_arg1_scv : Ref sig .scVector := ⟨.hbm, 1, rfl⟩
abbrev main_arg2_scv : Ref sig .scVector := ⟨.hbm, 2, rfl⟩
abbrev main_arg4_scv : Ref sig .scVector := ⟨.hbm, 4, rfl⟩
abbrev main_arg5_scv : Ref sig .scVector := ⟨.hbm, 5, rfl⟩
abbrev main_v1_0_scv : Ref sig .scVector := ⟨.hbm, 23, rfl⟩
abbrev main_v1_1_scv : Ref sig .scVector := ⟨.hbm, 24, rfl⟩
abbrev main_v1_2_scv : Ref sig .scVector := ⟨.hbm, 25, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg6_1 : Ref sig .tc := ⟨.vmem, 10, rfl⟩
abbrev cc1_stg7_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc2_stg7_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg6_1 : Ref sig .tc := ⟨.vmem, 30, rfl⟩
abbrev cc3_stg7_0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg6_1 : Ref sig .tc := ⟨.vmem, 40, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc3_sem7_0 : DmaSem sig := 38
abbrev cc4_sem0_0 : DmaSem sig := 39
abbrev cc4_sem0_1 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem6_1 : DmaSem sig := 47
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c512_i32 : BitVec 32 := 512#32
  let v5 : BitVec 32 := Scalar.addi c0_i32_1 c512_i32
  let c1_i32 : BitVec 32 := 1#32
  ⟨c0_i32_1, v5, c1_i32⟩
def k0_off1 (k0_t1 : Fin k0_t1_loop.trips) : Fin 1 → Nat :=
  let c0_i32_1 : BitVec 32 := 0#32
  let c1_i32 : BitVec 32 := 1#32
  let arg15 : BitVec 32 := Scf.iv c0_i32_1 c1_i32 k0_t1
  let c16_i32_15 : BitVec 32 := 16#32
  let v11 : BitVec 32 := Scalar.muli arg15 c16_i32_15
  let v12 : Index := Scalar.indexCast v11
  ![v12.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_15_r1 : BitVec 32 := 0#32
  ![v2.toNat, 0]
@[reducible] def k0_t2_loop : Scf.Loop 32 :=
  let c0_i32_12 : BitVec 32 := 0#32
  let c16_i32 : BitVec 32 := 16#32
  let v10 : BitVec 32 := Scalar.addi c0_i32_12 c16_i32
  let c1_i32_13 : BitVec 32 := 1#32
  ⟨c0_i32_12, v10, c1_i32_13⟩
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let c1_i32_13 : BitVec 32 := 1#32
  let arg15 : BitVec 32 := Scf.iv c0_i32_12 c1_i32_13 k0_t2
  let c8_i32 : BitVec 32 := 8#32
  let v11 : BitVec 32 := Scalar.muli arg15 c8_i32
  let v12 : BitVec 32 := Scalar.addi v2 v11
  let c0_i32_192_r4 : BitVec 32 := 0#32
  ![v12.toNat, 0]

def k0_chk1 (v16 : IVec S16 32) : Prop :=
  (∀ a x, ((![v16] : Fin 1 → IVec S16 32) a x).toNat < S8192.size a)
theorem k0_idx1_inb : ∀ (v16 : IVec S16 32) (k0_hw1 : k0_chk1 v16), ∀ a x, ((![v16] : Fin 1 → IVec S16 32) a x).toNat < S8192.size a := fun v16 k0_hw1 => k0_hw1

def k0_chk2 (v20 : IVec S16 32) : Prop :=
  (∀ a x, ((![v20] : Fin 1 → IVec S16 32) a x).toNat < S8192.size a)
theorem k0_idx2_inb : ∀ (v20 : IVec S16 32) (k0_hw2 : k0_chk2 v20), ∀ a x, ((![v20] : Fin 1 → IVec S16 32) a x).toNat < S8192.size a := fun v20 k0_hw2 => k0_hw2

def k0_chk3 (v24 : IVec S16 32) : Prop :=
  (∀ a x, ((![v24] : Fin 1 → IVec S16 32) a x).toNat < S8192.size a)
theorem k0_idx3_inb : ∀ (v24 : IVec S16 32) (k0_hw3 : k0_chk3 v24), ∀ a x, ((![v24] : Fin 1 → IVec S16 32) a x).toNat < S8192.size a := fun v24 k0_hw3 => k0_hw3

def k0_chk4 (v28 : IVec S16 32) : Prop :=
  (∀ a x, ((![v28] : Fin 1 → IVec S16 32) a x).toNat < S8192.size a)
theorem k0_idx4_inb : ∀ (v28 : IVec S16 32) (k0_hw4 : k0_chk4 v28), ∀ a x, ((![v28] : Fin 1 → IVec S16 32) a x).toNat < S8192.size a := fun v28 k0_hw4 => k0_hw4

def k0_chk5 (v32 : IVec S16 32) : Prop :=
  (∀ a x, ((![v32] : Fin 1 → IVec S16 32) a x).toNat < S8192.size a)
theorem k0_idx5_inb : ∀ (v32 : IVec S16 32) (k0_hw5 : k0_chk5 v32), ∀ a x, ((![v32] : Fin 1 → IVec S16 32) a x).toNat < S8192.size a := fun v32 k0_hw5 => k0_hw5

def k0_chk6 (v36 : IVec S16 32) : Prop :=
  (∀ a x, ((![v36] : Fin 1 → IVec S16 32) a x).toNat < S8192.size a)
theorem k0_idx6_inb : ∀ (v36 : IVec S16 32) (k0_hw6 : k0_chk6 v36), ∀ a x, ((![v36] : Fin 1 → IVec S16 32) a x).toNat < S8192.size a := fun v36 k0_hw6 => k0_hw6

def k0_chk7 (v40 : IVec S16 32) : Prop :=
  (∀ a x, ((![v40] : Fin 1 → IVec S16 32) a x).toNat < S8192.size a)
theorem k0_idx7_inb : ∀ (v40 : IVec S16 32) (k0_hw7 : k0_chk7 v40), ∀ a x, ((![v40] : Fin 1 → IVec S16 32) a x).toNat < S8192.size a := fun v40 k0_hw7 => k0_hw7

def k0_chk8 (v44 : IVec S16 32) : Prop :=
  (∀ a x, ((![v44] : Fin 1 → IVec S16 32) a x).toNat < S8192.size a)
theorem k0_idx8_inb : ∀ (v44 : IVec S16 32) (k0_hw8 : k0_chk8 v44), ∀ a x, ((![v44] : Fin 1 → IVec S16 32) a x).toNat < S8192.size a := fun v44 k0_hw8 => k0_hw8

def k0_chk9 (v48 : IVec S16 32) : Prop :=
  (∀ a x, ((![v48] : Fin 1 → IVec S16 32) a x).toNat < S8192.size a)
theorem k0_idx9_inb : ∀ (v48 : IVec S16 32) (k0_hw9 : k0_chk9 v48), ∀ a x, ((![v48] : Fin 1 → IVec S16 32) a x).toNat < S8192.size a := fun v48 k0_hw9 => k0_hw9

def k0_chk10 (v52 : IVec S16 32) : Prop :=
  (∀ a x, ((![v52] : Fin 1 → IVec S16 32) a x).toNat < S8192.size a)
theorem k0_idx10_inb : ∀ (v52 : IVec S16 32) (k0_hw10 : k0_chk10 v52), ∀ a x, ((![v52] : Fin 1 → IVec S16 32) a x).toNat < S8192.size a := fun v52 k0_hw10 => k0_hw10

def k0_chk11 (v56 : IVec S16 32) : Prop :=
  (∀ a x, ((![v56] : Fin 1 → IVec S16 32) a x).toNat < S8192.size a)
theorem k0_idx11_inb : ∀ (v56 : IVec S16 32) (k0_hw11 : k0_chk11 v56), ∀ a x, ((![v56] : Fin 1 → IVec S16 32) a x).toNat < S8192.size a := fun v56 k0_hw11 => k0_hw11

def k0_chk12 (v60 : IVec S16 32) : Prop :=
  (∀ a x, ((![v60] : Fin 1 → IVec S16 32) a x).toNat < S8192.size a)
theorem k0_idx12_inb : ∀ (v60 : IVec S16 32) (k0_hw12 : k0_chk12 v60), ∀ a x, ((![v60] : Fin 1 → IVec S16 32) a x).toNat < S8192.size a := fun v60 k0_hw12 => k0_hw12

def k0_chk13 (v64 : IVec S16 32) : Prop :=
  (∀ a x, ((![v64] : Fin 1 → IVec S16 32) a x).toNat < S8192.size a)
theorem k0_idx13_inb : ∀ (v64 : IVec S16 32) (k0_hw13 : k0_chk13 v64), ∀ a x, ((![v64] : Fin 1 → IVec S16 32) a x).toNat < S8192.size a := fun v64 k0_hw13 => k0_hw13

def k0_chk14 (v68 : IVec S16 32) : Prop :=
  (∀ a x, ((![v68] : Fin 1 → IVec S16 32) a x).toNat < S8192.size a)
theorem k0_idx14_inb : ∀ (v68 : IVec S16 32) (k0_hw14 : k0_chk14 v68), ∀ a x, ((![v68] : Fin 1 → IVec S16 32) a x).toNat < S8192.size a := fun v68 k0_hw14 => k0_hw14

def k0_chk15 (v72 : IVec S16 32) : Prop :=
  (∀ a x, ((![v72] : Fin 1 → IVec S16 32) a x).toNat < S8192.size a)
theorem k0_idx15_inb : ∀ (v72 : IVec S16 32) (k0_hw15 : k0_chk15 v72), ∀ a x, ((![v72] : Fin 1 → IVec S16 32) a x).toNat < S8192.size a := fun v72 k0_hw15 => k0_hw15

def k0_chk16 (v76 : IVec S16 32) : Prop :=
  (∀ a x, ((![v76] : Fin 1 → IVec S16 32) a x).toNat < S8192.size a)
theorem k0_idx16_inb : ∀ (v76 : IVec S16 32) (k0_hw16 : k0_chk16 v76), ∀ a x, ((![v76] : Fin 1 → IVec S16 32) a x).toNat < S8192.size a := fun v76 k0_hw16 => k0_hw16

def k0_chk17 (v80 : IVec S16 32) : Prop :=
  (∀ a x, ((![v80] : Fin 1 → IVec S16 32) a x).toNat < S8192.size a)
theorem k0_idx17_inb : ∀ (v80 : IVec S16 32) (k0_hw17 : k0_chk17 v80), ∀ a x, ((![v80] : Fin 1 → IVec S16 32) a x).toNat < S8192.size a := fun v80 k0_hw17 => k0_hw17

def k0_chk18 (v84 : IVec S16 32) : Prop :=
  (∀ a x, ((![v84] : Fin 1 → IVec S16 32) a x).toNat < S8192.size a)
theorem k0_idx18_inb : ∀ (v84 : IVec S16 32) (k0_hw18 : k0_chk18 v84), ∀ a x, ((![v84] : Fin 1 → IVec S16 32) a x).toNat < S8192.size a := fun v84 k0_hw18 => k0_hw18

def k0_chk19 (v88 : IVec S16 32) : Prop :=
  (∀ a x, ((![v88] : Fin 1 → IVec S16 32) a x).toNat < S8192.size a)
theorem k0_idx19_inb : ∀ (v88 : IVec S16 32) (k0_hw19 : k0_chk19 v88), ∀ a x, ((![v88] : Fin 1 → IVec S16 32) a x).toNat < S8192.size a := fun v88 k0_hw19 => k0_hw19

def k0_chk20 (v92 : IVec S16 32) : Prop :=
  (∀ a x, ((![v92] : Fin 1 → IVec S16 32) a x).toNat < S8192.size a)
theorem k0_idx20_inb : ∀ (v92 : IVec S16 32) (k0_hw20 : k0_chk20 v92), ∀ a x, ((![v92] : Fin 1 → IVec S16 32) a x).toNat < S8192.size a := fun v92 k0_hw20 => k0_hw20

def k0_chk21 (v96 : IVec S16 32) : Prop :=
  (∀ a x, ((![v96] : Fin 1 → IVec S16 32) a x).toNat < S8192.size a)
theorem k0_idx21_inb : ∀ (v96 : IVec S16 32) (k0_hw21 : k0_chk21 v96), ∀ a x, ((![v96] : Fin 1 → IVec S16 32) a x).toNat < S8192.size a := fun v96 k0_hw21 => k0_hw21

def k0_chk22 (v100 : IVec S16 32) : Prop :=
  (∀ a x, ((![v100] : Fin 1 → IVec S16 32) a x).toNat < S8192.size a)
theorem k0_idx22_inb : ∀ (v100 : IVec S16 32) (k0_hw22 : k0_chk22 v100), ∀ a x, ((![v100] : Fin 1 → IVec S16 32) a x).toNat < S8192.size a := fun v100 k0_hw22 => k0_hw22

def k0_chk23 (v104 : IVec S16 32) : Prop :=
  (∀ a x, ((![v104] : Fin 1 → IVec S16 32) a x).toNat < S8192.size a)
theorem k0_idx23_inb : ∀ (v104 : IVec S16 32) (k0_hw23 : k0_chk23 v104), ∀ a x, ((![v104] : Fin 1 → IVec S16 32) a x).toNat < S8192.size a := fun v104 k0_hw23 => k0_hw23

def k0_chk24 (v108 : IVec S16 32) : Prop :=
  (∀ a x, ((![v108] : Fin 1 → IVec S16 32) a x).toNat < S8192.size a)
theorem k0_idx24_inb : ∀ (v108 : IVec S16 32) (k0_hw24 : k0_chk24 v108), ∀ a x, ((![v108] : Fin 1 → IVec S16 32) a x).toNat < S8192.size a := fun v108 k0_hw24 => k0_hw24

def k0_chk25 (v112 : IVec S16 32) : Prop :=
  (∀ a x, ((![v112] : Fin 1 → IVec S16 32) a x).toNat < S8192.size a)
theorem k0_idx25_inb : ∀ (v112 : IVec S16 32) (k0_hw25 : k0_chk25 v112), ∀ a x, ((![v112] : Fin 1 → IVec S16 32) a x).toNat < S8192.size a := fun v112 k0_hw25 => k0_hw25

def k0_chk26 (v116 : IVec S16 32) : Prop :=
  (∀ a x, ((![v116] : Fin 1 → IVec S16 32) a x).toNat < S8192.size a)
theorem k0_idx26_inb : ∀ (v116 : IVec S16 32) (k0_hw26 : k0_chk26 v116), ∀ a x, ((![v116] : Fin 1 → IVec S16 32) a x).toNat < S8192.size a := fun v116 k0_hw26 => k0_hw26

def k0_chk27 (v120 : IVec S16 32) : Prop :=
  (∀ a x, ((![v120] : Fin 1 → IVec S16 32) a x).toNat < S8192.size a)
theorem k0_idx27_inb : ∀ (v120 : IVec S16 32) (k0_hw27 : k0_chk27 v120), ∀ a x, ((![v120] : Fin 1 → IVec S16 32) a x).toNat < S8192.size a := fun v120 k0_hw27 => k0_hw27

def k0_chk28 (v124 : IVec S16 32) : Prop :=
  (∀ a x, ((![v124] : Fin 1 → IVec S16 32) a x).toNat < S8192.size a)
theorem k0_idx28_inb : ∀ (v124 : IVec S16 32) (k0_hw28 : k0_chk28 v124), ∀ a x, ((![v124] : Fin 1 → IVec S16 32) a x).toNat < S8192.size a := fun v124 k0_hw28 => k0_hw28

def k0_chk29 (v128 : IVec S16 32) : Prop :=
  (∀ a x, ((![v128] : Fin 1 → IVec S16 32) a x).toNat < S8192.size a)
theorem k0_idx29_inb : ∀ (v128 : IVec S16 32) (k0_hw29 : k0_chk29 v128), ∀ a x, ((![v128] : Fin 1 → IVec S16 32) a x).toNat < S8192.size a := fun v128 k0_hw29 => k0_hw29

def k0_chk30 (v132 : IVec S16 32) : Prop :=
  (∀ a x, ((![v132] : Fin 1 → IVec S16 32) a x).toNat < S8192.size a)
theorem k0_idx30_inb : ∀ (v132 : IVec S16 32) (k0_hw30 : k0_chk30 v132), ∀ a x, ((![v132] : Fin 1 → IVec S16 32) a x).toNat < S8192.size a := fun v132 k0_hw30 => k0_hw30

def k0_chk31 (v136 : IVec S16 32) : Prop :=
  (∀ a x, ((![v136] : Fin 1 → IVec S16 32) a x).toNat < S8192.size a)
theorem k0_idx31_inb : ∀ (v136 : IVec S16 32) (k0_hw31 : k0_chk31 v136), ∀ a x, ((![v136] : Fin 1 → IVec S16 32) a x).toNat < S8192.size a := fun v136 k0_hw31 => k0_hw31

def k0_chk32 (v140 : IVec S16 32) : Prop :=
  (∀ a x, ((![v140] : Fin 1 → IVec S16 32) a x).toNat < S8192.size a)
theorem k0_idx32_inb : ∀ (v140 : IVec S16 32) (k0_hw32 : k0_chk32 v140), ∀ a x, ((![v140] : Fin 1 → IVec S16 32) a x).toNat < S8192.size a := fun v140 k0_hw32 => k0_hw32
def k0_off5 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12 : BitVec 32 := 0#32
  let c1_i32_13 : BitVec 32 := 1#32
  let arg15 : BitVec 32 := Scf.iv c0_i32_12 c1_i32_13 k0_t2
  let c8_i32 : BitVec 32 := 8#32
  let v11 : BitVec 32 := Scalar.muli arg15 c8_i32
  let v12 : BitVec 32 := Scalar.addi v2 v11
  let c1024_i32_95 : BitVec 32 := 1024#32
  let v141 : BitVec 32 := Scalar.muli v12 c1024_i32_95
  ![v141.toNat]

def k0_chk33 (v145 : IVec S16 32) : Prop :=
  (∀ a x, ((![v145] : Fin 1 → IVec S16 32) a x).toNat < S8192.size a)
theorem k0_idx33_inb : ∀ (v145 : IVec S16 32) (k0_hw33 : k0_chk33 v145), ∀ a x, ((![v145] : Fin 1 → IVec S16 32) a x).toNat < S8192.size a := fun v145 k0_hw33 => k0_hw33

def k0_chk34 (v149 : IVec S16 32) : Prop :=
  (∀ a x, ((![v149] : Fin 1 → IVec S16 32) a x).toNat < S8192.size a)
theorem k0_idx34_inb : ∀ (v149 : IVec S16 32) (k0_hw34 : k0_chk34 v149), ∀ a x, ((![v149] : Fin 1 → IVec S16 32) a x).toNat < S8192.size a := fun v149 k0_hw34 => k0_hw34

def k0_chk35 (v153 : IVec S16 32) : Prop :=
  (∀ a x, ((![v153] : Fin 1 → IVec S16 32) a x).toNat < S8192.size a)
theorem k0_idx35_inb : ∀ (v153 : IVec S16 32) (k0_hw35 : k0_chk35 v153), ∀ a x, ((![v153] : Fin 1 → IVec S16 32) a x).toNat < S8192.size a := fun v153 k0_hw35 => k0_hw35

def k0_chk36 (v157 : IVec S16 32) : Prop :=
  (∀ a x, ((![v157] : Fin 1 → IVec S16 32) a x).toNat < S8192.size a)
theorem k0_idx36_inb : ∀ (v157 : IVec S16 32) (k0_hw36 : k0_chk36 v157), ∀ a x, ((![v157] : Fin 1 → IVec S16 32) a x).toNat < S8192.size a := fun v157 k0_hw36 => k0_hw36

def k0_chk37 (v161 : IVec S16 32) : Prop :=
  (∀ a x, ((![v161] : Fin 1 → IVec S16 32) a x).toNat < S8192.size a)
theorem k0_idx37_inb : ∀ (v161 : IVec S16 32) (k0_hw37 : k0_chk37 v161), ∀ a x, ((![v161] : Fin 1 → IVec S16 32) a x).toNat < S8192.size a := fun v161 k0_hw37 => k0_hw37

def k0_chk38 (v165 : IVec S16 32) : Prop :=
  (∀ a x, ((![v165] : Fin 1 → IVec S16 32) a x).toNat < S8192.size a)
theorem k0_idx38_inb : ∀ (v165 : IVec S16 32) (k0_hw38 : k0_chk38 v165), ∀ a x, ((![v165] : Fin 1 → IVec S16 32) a x).toNat < S8192.size a := fun v165 k0_hw38 => k0_hw38

def k0_chk39 (v169 : IVec S16 32) : Prop :=
  (∀ a x, ((![v169] : Fin 1 → IVec S16 32) a x).toNat < S8192.size a)
theorem k0_idx39_inb : ∀ (v169 : IVec S16 32) (k0_hw39 : k0_chk39 v169), ∀ a x, ((![v169] : Fin 1 → IVec S16 32) a x).toNat < S8192.size a := fun v169 k0_hw39 => k0_hw39

def k0_chk40 (v173 : IVec S16 32) : Prop :=
  (∀ a x, ((![v173] : Fin 1 → IVec S16 32) a x).toNat < S8192.size a)
theorem k0_idx40_inb : ∀ (v173 : IVec S16 32) (k0_hw40 : k0_chk40 v173), ∀ a x, ((![v173] : Fin 1 → IVec S16 32) a x).toNat < S8192.size a := fun v173 k0_hw40 => k0_hw40

def k0_chk41 (v177 : IVec S16 32) : Prop :=
  (∀ a x, ((![v177] : Fin 1 → IVec S16 32) a x).toNat < S8192.size a)
theorem k0_idx41_inb : ∀ (v177 : IVec S16 32) (k0_hw41 : k0_chk41 v177), ∀ a x, ((![v177] : Fin 1 → IVec S16 32) a x).toNat < S8192.size a := fun v177 k0_hw41 => k0_hw41

def k0_chk42 (v181 : IVec S16 32) : Prop :=
  (∀ a x, ((![v181] : Fin 1 → IVec S16 32) a x).toNat < S8192.size a)
theorem k0_idx42_inb : ∀ (v181 : IVec S16 32) (k0_hw42 : k0_chk42 v181), ∀ a x, ((![v181] : Fin 1 → IVec S16 32) a x).toNat < S8192.size a := fun v181 k0_hw42 => k0_hw42

def k0_chk43 (v185 : IVec S16 32) : Prop :=
  (∀ a x, ((![v185] : Fin 1 → IVec S16 32) a x).toNat < S8192.size a)
theorem k0_idx43_inb : ∀ (v185 : IVec S16 32) (k0_hw43 : k0_chk43 v185), ∀ a x, ((![v185] : Fin 1 → IVec S16 32) a x).toNat < S8192.size a := fun v185 k0_hw43 => k0_hw43

def k0_chk44 (v189 : IVec S16 32) : Prop :=
  (∀ a x, ((![v189] : Fin 1 → IVec S16 32) a x).toNat < S8192.size a)
theorem k0_idx44_inb : ∀ (v189 : IVec S16 32) (k0_hw44 : k0_chk44 v189), ∀ a x, ((![v189] : Fin 1 → IVec S16 32) a x).toNat < S8192.size a := fun v189 k0_hw44 => k0_hw44

def k0_chk45 (v193 : IVec S16 32) : Prop :=
  (∀ a x, ((![v193] : Fin 1 → IVec S16 32) a x).toNat < S8192.size a)
theorem k0_idx45_inb : ∀ (v193 : IVec S16 32) (k0_hw45 : k0_chk45 v193), ∀ a x, ((![v193] : Fin 1 → IVec S16 32) a x).toNat < S8192.size a := fun v193 k0_hw45 => k0_hw45

def k0_chk46 (v197 : IVec S16 32) : Prop :=
  (∀ a x, ((![v197] : Fin 1 → IVec S16 32) a x).toNat < S8192.size a)
theorem k0_idx46_inb : ∀ (v197 : IVec S16 32) (k0_hw46 : k0_chk46 v197), ∀ a x, ((![v197] : Fin 1 → IVec S16 32) a x).toNat < S8192.size a := fun v197 k0_hw46 => k0_hw46

def k0_chk47 (v201 : IVec S16 32) : Prop :=
  (∀ a x, ((![v201] : Fin 1 → IVec S16 32) a x).toNat < S8192.size a)
theorem k0_idx47_inb : ∀ (v201 : IVec S16 32) (k0_hw47 : k0_chk47 v201), ∀ a x, ((![v201] : Fin 1 → IVec S16 32) a x).toNat < S8192.size a := fun v201 k0_hw47 => k0_hw47

def k0_chk48 (v205 : IVec S16 32) : Prop :=
  (∀ a x, ((![v205] : Fin 1 → IVec S16 32) a x).toNat < S8192.size a)
theorem k0_idx48_inb : ∀ (v205 : IVec S16 32) (k0_hw48 : k0_chk48 v205), ∀ a x, ((![v205] : Fin 1 → IVec S16 32) a x).toNat < S8192.size a := fun v205 k0_hw48 => k0_hw48

def k0_chk49 (v209 : IVec S16 32) : Prop :=
  (∀ a x, ((![v209] : Fin 1 → IVec S16 32) a x).toNat < S8192.size a)
theorem k0_idx49_inb : ∀ (v209 : IVec S16 32) (k0_hw49 : k0_chk49 v209), ∀ a x, ((![v209] : Fin 1 → IVec S16 32) a x).toNat < S8192.size a := fun v209 k0_hw49 => k0_hw49

def k0_chk50 (v213 : IVec S16 32) : Prop :=
  (∀ a x, ((![v213] : Fin 1 → IVec S16 32) a x).toNat < S8192.size a)
theorem k0_idx50_inb : ∀ (v213 : IVec S16 32) (k0_hw50 : k0_chk50 v213), ∀ a x, ((![v213] : Fin 1 → IVec S16 32) a x).toNat < S8192.size a := fun v213 k0_hw50 => k0_hw50

def k0_chk51 (v217 : IVec S16 32) : Prop :=
  (∀ a x, ((![v217] : Fin 1 → IVec S16 32) a x).toNat < S8192.size a)
theorem k0_idx51_inb : ∀ (v217 : IVec S16 32) (k0_hw51 : k0_chk51 v217), ∀ a x, ((![v217] : Fin 1 → IVec S16 32) a x).toNat < S8192.size a := fun v217 k0_hw51 => k0_hw51

def k0_chk52 (v221 : IVec S16 32) : Prop :=
  (∀ a x, ((![v221] : Fin 1 → IVec S16 32) a x).toNat < S8192.size a)
theorem k0_idx52_inb : ∀ (v221 : IVec S16 32) (k0_hw52 : k0_chk52 v221), ∀ a x, ((![v221] : Fin 1 → IVec S16 32) a x).toNat < S8192.size a := fun v221 k0_hw52 => k0_hw52

def k0_chk53 (v225 : IVec S16 32) : Prop :=
  (∀ a x, ((![v225] : Fin 1 → IVec S16 32) a x).toNat < S8192.size a)
theorem k0_idx53_inb : ∀ (v225 : IVec S16 32) (k0_hw53 : k0_chk53 v225), ∀ a x, ((![v225] : Fin 1 → IVec S16 32) a x).toNat < S8192.size a := fun v225 k0_hw53 => k0_hw53

def k0_chk54 (v229 : IVec S16 32) : Prop :=
  (∀ a x, ((![v229] : Fin 1 → IVec S16 32) a x).toNat < S8192.size a)
theorem k0_idx54_inb : ∀ (v229 : IVec S16 32) (k0_hw54 : k0_chk54 v229), ∀ a x, ((![v229] : Fin 1 → IVec S16 32) a x).toNat < S8192.size a := fun v229 k0_hw54 => k0_hw54

def k0_chk55 (v233 : IVec S16 32) : Prop :=
  (∀ a x, ((![v233] : Fin 1 → IVec S16 32) a x).toNat < S8192.size a)
theorem k0_idx55_inb : ∀ (v233 : IVec S16 32) (k0_hw55 : k0_chk55 v233), ∀ a x, ((![v233] : Fin 1 → IVec S16 32) a x).toNat < S8192.size a := fun v233 k0_hw55 => k0_hw55

def k0_chk56 (v237 : IVec S16 32) : Prop :=
  (∀ a x, ((![v237] : Fin 1 → IVec S16 32) a x).toNat < S8192.size a)
theorem k0_idx56_inb : ∀ (v237 : IVec S16 32) (k0_hw56 : k0_chk56 v237), ∀ a x, ((![v237] : Fin 1 → IVec S16 32) a x).toNat < S8192.size a := fun v237 k0_hw56 => k0_hw56

def k0_chk57 (v241 : IVec S16 32) : Prop :=
  (∀ a x, ((![v241] : Fin 1 → IVec S16 32) a x).toNat < S8192.size a)
theorem k0_idx57_inb : ∀ (v241 : IVec S16 32) (k0_hw57 : k0_chk57 v241), ∀ a x, ((![v241] : Fin 1 → IVec S16 32) a x).toNat < S8192.size a := fun v241 k0_hw57 => k0_hw57

def k0_chk58 (v245 : IVec S16 32) : Prop :=
  (∀ a x, ((![v245] : Fin 1 → IVec S16 32) a x).toNat < S8192.size a)
theorem k0_idx58_inb : ∀ (v245 : IVec S16 32) (k0_hw58 : k0_chk58 v245), ∀ a x, ((![v245] : Fin 1 → IVec S16 32) a x).toNat < S8192.size a := fun v245 k0_hw58 => k0_hw58

def k0_chk59 (v249 : IVec S16 32) : Prop :=
  (∀ a x, ((![v249] : Fin 1 → IVec S16 32) a x).toNat < S8192.size a)
theorem k0_idx59_inb : ∀ (v249 : IVec S16 32) (k0_hw59 : k0_chk59 v249), ∀ a x, ((![v249] : Fin 1 → IVec S16 32) a x).toNat < S8192.size a := fun v249 k0_hw59 => k0_hw59

def k0_chk60 (v253 : IVec S16 32) : Prop :=
  (∀ a x, ((![v253] : Fin 1 → IVec S16 32) a x).toNat < S8192.size a)
theorem k0_idx60_inb : ∀ (v253 : IVec S16 32) (k0_hw60 : k0_chk60 v253), ∀ a x, ((![v253] : Fin 1 → IVec S16 32) a x).toNat < S8192.size a := fun v253 k0_hw60 => k0_hw60

def k0_chk61 (v257 : IVec S16 32) : Prop :=
  (∀ a x, ((![v257] : Fin 1 → IVec S16 32) a x).toNat < S8192.size a)
theorem k0_idx61_inb : ∀ (v257 : IVec S16 32) (k0_hw61 : k0_chk61 v257), ∀ a x, ((![v257] : Fin 1 → IVec S16 32) a x).toNat < S8192.size a := fun v257 k0_hw61 => k0_hw61

def k0_chk62 (v261 : IVec S16 32) : Prop :=
  (∀ a x, ((![v261] : Fin 1 → IVec S16 32) a x).toNat < S8192.size a)
theorem k0_idx62_inb : ∀ (v261 : IVec S16 32) (k0_hw62 : k0_chk62 v261), ∀ a x, ((![v261] : Fin 1 → IVec S16 32) a x).toNat < S8192.size a := fun v261 k0_hw62 => k0_hw62

def k0_chk63 (v265 : IVec S16 32) : Prop :=
  (∀ a x, ((![v265] : Fin 1 → IVec S16 32) a x).toNat < S8192.size a)
theorem k0_idx63_inb : ∀ (v265 : IVec S16 32) (k0_hw63 : k0_chk63 v265), ∀ a x, ((![v265] : Fin 1 → IVec S16 32) a x).toNat < S8192.size a := fun v265 k0_hw63 => k0_hw63

def k0_chk64 (v269 : IVec S16 32) : Prop :=
  (∀ a x, ((![v269] : Fin 1 → IVec S16 32) a x).toNat < S8192.size a)
theorem k0_idx64_inb : ∀ (v269 : IVec S16 32) (k0_hw64 : k0_chk64 v269), ∀ a x, ((![v269] : Fin 1 → IVec S16 32) a x).toNat < S8192.size a := fun v269 k0_hw64 => k0_hw64
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S2x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1024x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S2x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S512x1024 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S512x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S4096 : Shape := ⟨1, ![4096]⟩
abbrev S1000x128 : Shape := ⟨2, ![1000, 128]⟩
abbrev S20x128 : Shape := ⟨2, ![20, 128]⟩
abbrev S2x128 : Shape := ⟨2, ![2, 128]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x1000 : Shape := ⟨2, ![512, 1000]⟩
abbrev S1000 : Shape := ⟨1, ![1000]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x128 : Shape := ⟨2, ![4096, 128]⟩
abbrev S4096x1 : Shape := ⟨2, ![4096, 1]⟩
abbrev S1x1 : Shape := ⟨2, ![1, 1]⟩
abbrev S4096x512 : Shape := ⟨2, ![4096, 512]⟩
abbrev S4096x1024 : Shape := ⟨2, ![4096, 1024]⟩
abbrev S1x1024 : Shape := ⟨2, ![1, 1024]⟩
abbrev S1x512 : Shape := ⟨2, ![1, 512]⟩
abbrev S4096x1000 : Shape := ⟨2, ![4096, 1000]⟩
abbrev S1x1000 : Shape := ⟨2, ![1, 1000]⟩

abbrev nBuf : Space → Nat
  | .hbm => 264
  | .vmem => 0
  | .smem => 0
  | _ => 0

abbrev hbmTy0_0 (i : Nat) : BufTy := match i % 128 with
  | 0 => ⟨S4096x50, .i32⟩
  | 1 => ⟨S4096, .i32⟩
  | 2 => ⟨S4096, .i32⟩
  | 3 => ⟨S1000x128, .f32⟩
  | 4 => ⟨S20x128, .f32⟩
  | 5 => ⟨S2x128, .f32⟩
  | 6 => ⟨S512x1024, .f32⟩
  | 7 => ⟨S1024, .f32⟩
  | 8 => ⟨S1024, .f32⟩
  | 9 => ⟨S1024, .f32⟩
  | 10 => ⟨S1024x1024, .f32⟩
  | 11 => ⟨S1024, .f32⟩
  | 12 => ⟨S1024, .f32⟩
  | 13 => ⟨S1024, .f32⟩
  | 14 => ⟨S1024x512, .f32⟩
  | 15 => ⟨S512, .f32⟩
  | 16 => ⟨S512, .f32⟩
  | 17 => ⟨S512, .f32⟩
  | 18 => ⟨S512x1000, .f32⟩
  | 19 => ⟨S1000, .f32⟩
  | 20 => ⟨S_, .i32⟩
  | 21 => ⟨S4096x50, .i32⟩
  | 22 => ⟨S4096x50, .i1⟩
  | 23 => ⟨S_, .i32⟩
  | 24 => ⟨S4096x50, .i32⟩
  | 25 => ⟨S4096x50, .i32⟩
  | 26 => ⟨S4096x50, .i32⟩
  | 27 => ⟨S4096x50x1, .i32⟩
  | 28 => ⟨S1, .i32⟩
  | 29 => ⟨S_, .i32⟩
  | 30 => ⟨S4096x50x1, .i32⟩
  | 31 => ⟨S4096x50x1, .i1⟩
  | 32 => ⟨S1x1x1, .i32⟩
  | 33 => ⟨S4096x50x1, .i32⟩
  | 34 => ⟨S4096x50x1, .i1⟩
  | 35 => ⟨S4096x50x1, .i1⟩
  | 36 => ⟨S_, .i1⟩
  | 37 => ⟨S4096x50, .i1⟩
  | 38 => ⟨S4096x50x128, .f32⟩
  | 39 => ⟨S4096x50x128, .i1⟩
  | 40 => ⟨S_, .f32⟩
  | 41 => ⟨S4096x50x128, .f32⟩
  | 42 => ⟨S4096x50x128, .f32⟩
  | 43 => ⟨S_, .i32⟩
  | 44 => ⟨S4096x50, .i32⟩
  | 45 => ⟨S4096x50, .i1⟩
  | 46 => ⟨S4096x50, .f32⟩
  | 47 => ⟨S4096x50x1, .f32⟩
  | 48 => ⟨S4096x50x128, .f32⟩
  | 49 => ⟨S4096x50x128, .f32⟩
  | 50 => ⟨S_, .f32⟩
  | 51 => ⟨S4096x128, .f32⟩
  | 52 => ⟨S_, .f32⟩
  | 53 => ⟨S4096x1, .f32⟩
  | 54 => ⟨S_, .f32⟩
  | 55 => ⟨S_, .f32⟩
  | 56 => ⟨S4096x1, .f32⟩
  | 57 => ⟨S4096x1, .f32⟩
  | 58 => ⟨S4096x128, .f32⟩
  | 59 => ⟨S4096x128, .f32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S4096, .i32⟩
  | 67 => ⟨S4096x1, .i32⟩
  | 68 => ⟨S1, .i32⟩
  | 69 => ⟨S_, .i32⟩
  | 70 => ⟨S4096x1, .i32⟩
  | 71 => ⟨S4096x1, .i1⟩
  | 72 => ⟨S1x1, .i32⟩
  | 73 => ⟨S4096x1, .i32⟩
  | 74 => ⟨S4096x1, .i1⟩
  | 75 => ⟨S4096x1, .i1⟩
  | 76 => ⟨S_, .i1⟩
  | 77 => ⟨S4096, .i1⟩
  | 78 => ⟨S4096x128, .f32⟩
  | 79 => ⟨S4096x128, .i1⟩
  | 80 => ⟨S_, .f32⟩
  | 81 => ⟨S4096x128, .f32⟩
  | 82 => ⟨S4096x128, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S4096x1, .i32⟩
  | 91 => ⟨S1, .i32⟩
  | 92 => ⟨S_, .i32⟩
  | 93 => ⟨S4096x1, .i32⟩
  | 94 => ⟨S4096x1, .i1⟩
  | 95 => ⟨S1x1, .i32⟩
  | 96 => ⟨S4096x1, .i32⟩
  | 97 => ⟨S4096x1, .i1⟩
  | 98 => ⟨S4096x1, .i1⟩
  | 99 => ⟨S_, .i1⟩
  | 100 => ⟨S4096, .i1⟩
  | 101 => ⟨S4096x128, .f32⟩
  | 102 => ⟨S4096x128, .i1⟩
  | 103 => ⟨S_, .f32⟩
  | 104 => ⟨S4096x128, .f32⟩
  | 105 => ⟨S4096x128, .f32⟩
  | 106 => ⟨S4096x512, .f32⟩
  | 107 => ⟨S4096x1024, .f32⟩
  | 108 => ⟨S1x1024, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S_, .f32⟩
  | 115 => ⟨S1024, .f32⟩
  | 116 => ⟨S_, .f32⟩
  | 117 => ⟨S1024, .f32⟩
  | 118 => ⟨S1024, .f32⟩
  | 119 => ⟨S_, .i32⟩
  | 120 => ⟨S_, .f32⟩
  | 121 => ⟨S1024, .f32⟩
  | 122 => ⟨S1x1024, .f32⟩
  | 123 => ⟨S_, .f32⟩
  | 124 => ⟨S1x1024, .f32⟩
  | 125 => ⟨S1x1024, .f32⟩
  | 126 => ⟨S4096x1024, .f32⟩
  | 127 => ⟨S4096x1024, .f32⟩
  | _ => ⟨S4096x50, .i32⟩

abbrev hbmTy0_1 (i : Nat) : BufTy := match i % 128 with
  | 0 => ⟨S4096x1024, .f32⟩
  | 1 => ⟨S_, .f32⟩
  | 2 => ⟨S_, .f32⟩
  | 3 => ⟨S_, .f32⟩
  | 4 => ⟨S_, .f32⟩
  | 5 => ⟨S1024, .f32⟩
  | 6 => ⟨S1024, .f32⟩
  | 7 => ⟨S1024, .f32⟩
  | 8 => ⟨S_, .f32⟩
  | 9 => ⟨S_, .i1⟩
  | 10 => ⟨S_, .f32⟩
  | 11 => ⟨S_, .f32⟩
  | 12 => ⟨S1024, .f32⟩
  | 13 => ⟨S1024, .f32⟩
  | 14 => ⟨S1x1024, .f32⟩
  | 15 => ⟨S4096x1024, .f32⟩
  | 16 => ⟨S4096x1024, .f32⟩
  | 17 => ⟨S1x1024, .f32⟩
  | 18 => ⟨S4096x1024, .f32⟩
  | 19 => ⟨S4096x1024, .f32⟩
  | 20 => ⟨S_, .f32⟩
  | 21 => ⟨S1024, .f32⟩
  | 22 => ⟨S1024, .f32⟩
  | 23 => ⟨S1024, .f32⟩
  | 24 => ⟨S1x1024, .f32⟩
  | 25 => ⟨S4096x1024, .f32⟩
  | 26 => ⟨S4096x1024, .f32⟩
  | 27 => ⟨S1x1024, .f32⟩
  | 28 => ⟨S4096x1024, .f32⟩
  | 29 => ⟨S4096x1024, .f32⟩
  | 30 => ⟨S4096x1024, .f32⟩
  | 31 => ⟨S1x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S_, .f32⟩
  | 38 => ⟨S1024, .f32⟩
  | 39 => ⟨S_, .f32⟩
  | 40 => ⟨S1024, .f32⟩
  | 41 => ⟨S1024, .f32⟩
  | 42 => ⟨S_, .i32⟩
  | 43 => ⟨S_, .f32⟩
  | 44 => ⟨S1024, .f32⟩
  | 45 => ⟨S1x1024, .f32⟩
  | 46 => ⟨S_, .f32⟩
  | 47 => ⟨S1x1024, .f32⟩
  | 48 => ⟨S1x1024, .f32⟩
  | 49 => ⟨S4096x1024, .f32⟩
  | 50 => ⟨S4096x1024, .f32⟩
  | 51 => ⟨S4096x1024, .f32⟩
  | 52 => ⟨S_, .f32⟩
  | 53 => ⟨S_, .f32⟩
  | 54 => ⟨S_, .f32⟩
  | 55 => ⟨S_, .f32⟩
  | 56 => ⟨S1024, .f32⟩
  | 57 => ⟨S1024, .f32⟩
  | 58 => ⟨S1024, .f32⟩
  | 59 => ⟨S_, .f32⟩
  | 60 => ⟨S_, .i1⟩
  | 61 => ⟨S_, .f32⟩
  | 62 => ⟨S_, .f32⟩
  | 63 => ⟨S1024, .f32⟩
  | 64 => ⟨S1024, .f32⟩
  | 65 => ⟨S1x1024, .f32⟩
  | 66 => ⟨S4096x1024, .f32⟩
  | 67 => ⟨S4096x1024, .f32⟩
  | 68 => ⟨S1x1024, .f32⟩
  | 69 => ⟨S4096x1024, .f32⟩
  | 70 => ⟨S4096x1024, .f32⟩
  | 71 => ⟨S_, .f32⟩
  | 72 => ⟨S1024, .f32⟩
  | 73 => ⟨S1024, .f32⟩
  | 74 => ⟨S1024, .f32⟩
  | 75 => ⟨S1x1024, .f32⟩
  | 76 => ⟨S4096x1024, .f32⟩
  | 77 => ⟨S4096x1024, .f32⟩
  | 78 => ⟨S1x1024, .f32⟩
  | 79 => ⟨S4096x1024, .f32⟩
  | 80 => ⟨S4096x1024, .f32⟩
  | 81 => ⟨S4096x512, .f32⟩
  | 82 => ⟨S1x512, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S_, .f32⟩
  | 89 => ⟨S512, .f32⟩
  | 90 => ⟨S_, .f32⟩
  | 91 => ⟨S512, .f32⟩
  | 92 => ⟨S512, .f32⟩
  | 93 => ⟨S_, .i32⟩
  | 94 => ⟨S_, .f32⟩
  | 95 => ⟨S512, .f32⟩
  | 96 => ⟨S1x512, .f32⟩
  | 97 => ⟨S_, .f32⟩
  | 98 => ⟨S1x512, .f32⟩
  | 99 => ⟨S1x512, .f32⟩
  | 100 => ⟨S4096x512, .f32⟩
  | 101 => ⟨S4096x512, .f32⟩
  | 102 => ⟨S4096x512, .f32⟩
  | 103 => ⟨S_, .f32⟩
  | 104 => ⟨S_, .f32⟩
  | 105 => ⟨S_, .f32⟩
  | 106 => ⟨S_, .f32⟩
  | 107 => ⟨S512, .f32⟩
  | 108 => ⟨S512, .f32⟩
  | 109 => ⟨S512, .f32⟩
  | 110 => ⟨S_, .f32⟩
  | 111 => ⟨S_, .i1⟩
  | 112 => ⟨S_, .f32⟩
  | 113 => ⟨S_, .f32⟩
  | 114 => ⟨S512, .f32⟩
  | 115 => ⟨S512, .f32⟩
  | 116 => ⟨S1x512, .f32⟩
  | 117 => ⟨S4096x512, .f32⟩
  | 118 => ⟨S4096x512, .f32⟩
  | 119 => ⟨S1x512, .f32⟩
  | 120 => ⟨S4096x512, .f32⟩
  | 121 => ⟨S4096x512, .f32⟩
  | 122 => ⟨S_, .f32⟩
  | 123 => ⟨S512, .f32⟩
  | 124 => ⟨S512, .f32⟩
  | 125 => ⟨S512, .f32⟩
  | 126 => ⟨S1x512, .f32⟩
  | 127 => ⟨S4096x512, .f32⟩
  | _ => ⟨S4096x50, .i32⟩

abbrev hbmTy0_2 (i : Nat) : BufTy := match i % 128 with
  | 0 => ⟨S4096x512, .f32⟩
  | 1 => ⟨S1x512, .f32⟩
  | 2 => ⟨S4096x512, .f32⟩
  | 3 => ⟨S4096x512, .f32⟩
  | 4 => ⟨S4096x1000, .f32⟩
  | 5 => ⟨S1x1000, .f32⟩
  | 6 => ⟨S4096x1000, .f32⟩
  | 7 => ⟨S4096x1000, .f32⟩
  | _ => ⟨S4096x50, .i32⟩

abbrev hbmTy (i : Nat) : BufTy := match i / 128 with
  | 0 => hbmTy0_0 i
  | 1 => hbmTy0_1 i
  | 2 => hbmTy0_2 i
  | _ => ⟨S4096x50, .i32⟩

abbrev bufTy : (tb : Table) → Fin (tcTables nBuf tb) → BufTy
  | .hbm, ⟨i, _⟩ => hbmTy i
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_c : Ref sig .tc := ⟨.hbm, 43, rfl⟩
abbrev main_v1 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_cst : Ref sig .tc := ⟨.hbm, 50, rfl⟩
abbrev main_v7 : Ref sig .tc := ⟨.hbm, 51, rfl⟩
abbrev main_cst_0 : Ref sig .tc := ⟨.hbm, 52, rfl⟩
abbrev main_v8 : Ref sig .tc := ⟨.hbm, 53, rfl⟩
abbrev main_cst_1 : Ref sig .tc := ⟨.hbm, 54, rfl⟩
abbrev main_call1_v0 : Ref sig .tc := ⟨.hbm, 55, rfl⟩
abbrev main_call1_v1 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v12 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_call3_cst : Ref sig .tc := ⟨.hbm, 103, rfl⟩
abbrev main_call3_v15 : Ref sig .tc := ⟨.hbm, 104, rfl⟩
abbrev main_v13 : Ref sig .tc := ⟨.hbm, 105, rfl⟩
abbrev main_v14 : Ref sig .tc := ⟨.hbm, 106, rfl⟩
abbrev main_v15 : Ref sig .tc := ⟨.hbm, 107, rfl⟩
abbrev main_v16 : Ref sig .tc := ⟨.hbm, 108, rfl⟩
abbrev main_v17 : Ref sig .tc := ⟨.hbm, 109, rfl⟩
abbrev main_v18 : Ref sig .tc := ⟨.hbm, 110, rfl⟩
abbrev main_call4_cst : Ref sig .tc := ⟨.hbm, 111, rfl⟩
abbrev main_call4_v0 : Ref sig .tc := ⟨.hbm, 112, rfl⟩
abbrev main_v19 : Ref sig .tc := ⟨.hbm, 113, rfl⟩
abbrev main_cst_2 : Ref sig .tc := ⟨.hbm, 114, rfl⟩
abbrev main_v20 : Ref sig .tc := ⟨.hbm, 115, rfl⟩
abbrev main_cst_3 : Ref sig .tc := ⟨.hbm, 116, rfl⟩
abbrev main_v21 : Ref sig .tc := ⟨.hbm, 117, rfl⟩
abbrev main_v22 : Ref sig .tc := ⟨.hbm, 118, rfl⟩
abbrev main_c_4 : Ref sig .tc := ⟨.hbm, 119, rfl⟩
abbrev main_call5_cst : Ref sig .tc := ⟨.hbm, 120, rfl⟩
abbrev main_call5_v0 : Ref sig .tc := ⟨.hbm, 121, rfl⟩
abbrev main_call5_v1 : Ref sig .tc := ⟨.hbm, 122, rfl⟩
abbrev main_call5_cst_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_v6 : Ref sig .tc := ⟨.hbm, 128, rfl⟩
abbrev main_call5_v7 : Ref sig .tc := ⟨.hbm, 129, rfl⟩
abbrev main_call5_cst_1 : Ref sig .tc := ⟨.hbm, 130, rfl⟩
abbrev main_call5_v8 : Ref sig .tc := ⟨.hbm, 131, rfl⟩
abbrev main_call5_cst_2 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_cst_3 : Ref sig .tc := ⟨.hbm, 136, rfl⟩
abbrev main_call5_v12 : Ref sig .tc := ⟨.hbm, 137, rfl⟩
abbrev main_call5_cst_4 : Ref sig .tc := ⟨.hbm, 138, rfl⟩
abbrev main_call5_call0_v0 : Ref sig .tc := ⟨.hbm, 139, rfl⟩
abbrev main_call5_call0_v1 : Ref sig .tc := ⟨.hbm, 140, rfl⟩
abbrev main_v23 : Ref sig .tc := ⟨.hbm, 141, rfl⟩
abbrev main_v24 : Ref sig .tc := ⟨.hbm, 142, rfl⟩
abbrev main_v25 : Ref sig .tc := ⟨.hbm, 143, rfl⟩
abbrev main_v26 : Ref sig .tc := ⟨.hbm, 144, rfl⟩
abbrev main_v27 : Ref sig .tc := ⟨.hbm, 145, rfl⟩
abbrev main_v28 : Ref sig .tc := ⟨.hbm, 146, rfl⟩
abbrev main_v29 : Ref sig .tc := ⟨.hbm, 147, rfl⟩
abbrev main_cst_5 : Ref sig .tc := ⟨.hbm, 148, rfl⟩
abbrev main_v30 : Ref sig .tc := ⟨.hbm, 149, rfl⟩
abbrev main_v31 : Ref sig .tc := ⟨.hbm, 150, rfl⟩
abbrev main_v32 : Ref sig .tc := ⟨.hbm, 151, rfl⟩
abbrev main_v33 : Ref sig .tc := ⟨.hbm, 152, rfl⟩
abbrev main_v34 : Ref sig .tc := ⟨.hbm, 153, rfl⟩
abbrev main_v35 : Ref sig .tc := ⟨.hbm, 154, rfl⟩
abbrev main_v36 : Ref sig .tc := ⟨.hbm, 155, rfl⟩
abbrev main_v37 : Ref sig .tc := ⟨.hbm, 156, rfl⟩
abbrev main_v38 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_v42 : Ref sig .tc := ⟨.hbm, 161, rfl⟩
abbrev main_call6_cst : Ref sig .tc := ⟨.hbm, 162, rfl⟩
abbrev main_call6_v0 : Ref sig .tc := ⟨.hbm, 163, rfl⟩
abbrev main_v43 : Ref sig .tc := ⟨.hbm, 164, rfl⟩
abbrev main_cst_6 : Ref sig .tc := ⟨.hbm, 165, rfl⟩
abbrev main_v44 : Ref sig .tc := ⟨.hbm, 166, rfl⟩
abbrev main_cst_7 : Ref sig .tc := ⟨.hbm, 167, rfl⟩
abbrev main_v45 : Ref sig .tc := ⟨.hbm, 168, rfl⟩
abbrev main_v46 : Ref sig .tc := ⟨.hbm, 169, rfl⟩
abbrev main_c_8 : Ref sig .tc := ⟨.hbm, 170, rfl⟩
abbrev main_call7_cst : Ref sig .tc := ⟨.hbm, 171, rfl⟩
abbrev main_call7_v0 : Ref sig .tc := ⟨.hbm, 172, rfl⟩
abbrev main_call7_v1 : Ref sig .tc := ⟨.hbm, 173, rfl⟩
abbrev main_call7_cst_0 : Ref sig .tc := ⟨.hbm, 174, rfl⟩
abbrev main_call7_v2 : Ref sig .tc := ⟨.hbm, 175, rfl⟩
abbrev main_call7_v3 : Ref sig .tc := ⟨.hbm, 176, rfl⟩
abbrev main_call7_v4 : Ref sig .tc := ⟨.hbm, 177, rfl⟩
abbrev main_call7_v5 : Ref sig .tc := ⟨.hbm, 178, rfl⟩
abbrev main_call7_v6 : Ref sig .tc := ⟨.hbm, 179, rfl⟩
abbrev main_call7_v7 : Ref sig .tc := ⟨.hbm, 180, rfl⟩
abbrev main_call7_cst_1 : Ref sig .tc := ⟨.hbm, 181, rfl⟩
abbrev main_call7_v8 : Ref sig .tc := ⟨.hbm, 182, rfl⟩
abbrev main_call7_cst_2 : Ref sig .tc := ⟨.hbm, 183, rfl⟩
abbrev main_call7_v9 : Ref sig .tc := ⟨.hbm, 184, rfl⟩
abbrev main_call7_v10 : Ref sig .tc := ⟨.hbm, 185, rfl⟩
abbrev main_call7_v11 : Ref sig .tc := ⟨.hbm, 186, rfl⟩
abbrev main_call7_cst_3 : Ref sig .tc := ⟨.hbm, 187, rfl⟩
abbrev main_call7_v12 : Ref sig .tc := ⟨.hbm, 188, rfl⟩
abbrev main_call7_cst_4 : Ref sig .tc := ⟨.hbm, 189, rfl⟩
abbrev main_call7_call0_v0 : Ref sig .tc := ⟨.hbm, 190, rfl⟩
abbrev main_call7_call0_v1 : Ref sig .tc := ⟨.hbm, 191, rfl⟩
abbrev main_v47 : Ref sig .tc := ⟨.hbm, 192, rfl⟩
abbrev main_v48 : Ref sig .tc := ⟨.hbm, 193, rfl⟩
abbrev main_v49 : Ref sig .tc := ⟨.hbm, 194, rfl⟩
abbrev main_v50 : Ref sig .tc := ⟨.hbm, 195, rfl⟩
abbrev main_v51 : Ref sig .tc := ⟨.hbm, 196, rfl⟩
abbrev main_v52 : Ref sig .tc := ⟨.hbm, 197, rfl⟩
abbrev main_v53 : Ref sig .tc := ⟨.hbm, 198, rfl⟩
abbrev main_cst_9 : Ref sig .tc := ⟨.hbm, 199, rfl⟩
abbrev main_v54 : Ref sig .tc := ⟨.hbm, 200, rfl⟩
abbrev main_v55 : Ref sig .tc := ⟨.hbm, 201, rfl⟩
abbrev main_v56 : Ref sig .tc := ⟨.hbm, 202, rfl⟩
abbrev main_v57 : Ref sig .tc := ⟨.hbm, 203, rfl⟩
abbrev main_v58 : Ref sig .tc := ⟨.hbm, 204, rfl⟩
abbrev main_v59 : Ref sig .tc := ⟨.hbm, 205, rfl⟩
abbrev main_v60 : Ref sig .tc := ⟨.hbm, 206, rfl⟩
abbrev main_v61 : Ref sig .tc := ⟨.hbm, 207, rfl⟩
abbrev main_v62 : Ref sig .tc := ⟨.hbm, 208, rfl⟩
abbrev main_v63 : Ref sig .tc := ⟨.hbm, 209, rfl⟩
abbrev main_v64 : Ref sig .tc := ⟨.hbm, 210, rfl⟩
abbrev main_v65 : Ref sig .tc := ⟨.hbm, 211, rfl⟩
abbrev main_v66 : Ref sig .tc := ⟨.hbm, 212, rfl⟩
abbrev main_call8_cst : Ref sig .tc := ⟨.hbm, 213, rfl⟩
abbrev main_call8_v0 : Ref sig .tc := ⟨.hbm, 214, rfl⟩
abbrev main_v67 : Ref sig .tc := ⟨.hbm, 215, rfl⟩
abbrev main_cst_10 : Ref sig .tc := ⟨.hbm, 216, rfl⟩
abbrev main_v68 : Ref sig .tc := ⟨.hbm, 217, rfl⟩
abbrev main_cst_11 : Ref sig .tc := ⟨.hbm, 218, rfl⟩
abbrev main_v69 : Ref sig .tc := ⟨.hbm, 219, rfl⟩
abbrev main_v70 : Ref sig .tc := ⟨.hbm, 220, rfl⟩
abbrev main_c_12 : Ref sig .tc := ⟨.hbm, 221, rfl⟩
abbrev main_call9_cst : Ref sig .tc := ⟨.hbm, 222, rfl⟩
abbrev main_call9_v0 : Ref sig .tc := ⟨.hbm, 223, rfl⟩
abbrev main_call9_v1 : Ref sig .tc := ⟨.hbm, 224, rfl⟩
abbrev main_call9_cst_0 : Ref sig .tc := ⟨.hbm, 225, rfl⟩
abbrev main_call9_v2 : Ref sig .tc := ⟨.hbm, 226, rfl⟩
abbrev main_call9_v3 : Ref sig .tc := ⟨.hbm, 227, rfl⟩
abbrev main_call9_v4 : Ref sig .tc := ⟨.hbm, 228, rfl⟩
abbrev main_call9_v5 : Ref sig .tc := ⟨.hbm, 229, rfl⟩
abbrev main_call9_v6 : Ref sig .tc := ⟨.hbm, 230, rfl⟩
abbrev main_call9_v7 : Ref sig .tc := ⟨.hbm, 231, rfl⟩
abbrev main_call9_cst_1 : Ref sig .tc := ⟨.hbm, 232, rfl⟩
abbrev main_call9_v8 : Ref sig .tc := ⟨.hbm, 233, rfl⟩
abbrev main_call9_cst_2 : Ref sig .tc := ⟨.hbm, 234, rfl⟩
abbrev main_call9_v9 : Ref sig .tc := ⟨.hbm, 235, rfl⟩
abbrev main_call9_v10 : Ref sig .tc := ⟨.hbm, 236, rfl⟩
abbrev main_call9_v11 : Ref sig .tc := ⟨.hbm, 237, rfl⟩
abbrev main_call9_cst_3 : Ref sig .tc := ⟨.hbm, 238, rfl⟩
abbrev main_call9_v12 : Ref sig .tc := ⟨.hbm, 239, rfl⟩
abbrev main_call9_cst_4 : Ref sig .tc := ⟨.hbm, 240, rfl⟩
abbrev main_call9_call0_v0 : Ref sig .tc := ⟨.hbm, 241, rfl⟩
abbrev main_call9_call0_v1 : Ref sig .tc := ⟨.hbm, 242, rfl⟩
abbrev main_v71 : Ref sig .tc := ⟨.hbm, 243, rfl⟩
abbrev main_v72 : Ref sig .tc := ⟨.hbm, 244, rfl⟩
abbrev main_v73 : Ref sig .tc := ⟨.hbm, 245, rfl⟩
abbrev main_v74 : Ref sig .tc := ⟨.hbm, 246, rfl⟩
abbrev main_v75 : Ref sig .tc := ⟨.hbm, 247, rfl⟩
abbrev main_v76 : Ref sig .tc := ⟨.hbm, 248, rfl⟩
abbrev main_v77 : Ref sig .tc := ⟨.hbm, 249, rfl⟩
abbrev main_cst_13 : Ref sig .tc := ⟨.hbm, 250, rfl⟩
abbrev main_v78 : Ref sig .tc := ⟨.hbm, 251, rfl⟩
abbrev main_v79 : Ref sig .tc := ⟨.hbm, 252, rfl⟩
abbrev main_v80 : Ref sig .tc := ⟨.hbm, 253, rfl⟩
abbrev main_v81 : Ref sig .tc := ⟨.hbm, 254, rfl⟩
abbrev main_v82 : Ref sig .tc := ⟨.hbm, 255, rfl⟩
abbrev main_v83 : Ref sig .tc := ⟨.hbm, 256, rfl⟩
abbrev main_v84 : Ref sig .tc := ⟨.hbm, 257, rfl⟩
abbrev main_v85 : Ref sig .tc := ⟨.hbm, 258, rfl⟩
abbrev main_v86 : Ref sig .tc := ⟨.hbm, 259, rfl⟩
abbrev main_v87 : Ref sig .tc := ⟨.hbm, 260, rfl⟩
abbrev main_v88 : Ref sig .tc := ⟨.hbm, 261, rfl⟩
abbrev main_v89 : Ref sig .tc := ⟨.hbm, 262, rfl⟩
abbrev main_v90 : Ref sig .tc := ⟨.hbm, 263, rfl⟩

abbrev nD : Nat := 1
abbrev τ : Topo := Topo.v7x

variable {F : FTy → Type} [FloatOps F]
-- ==== Proof.KernelIdeal.Counts.lean ====
/- The token counts, as pure functions: what one scatter of sixteen lanes does to the flat table of 8 × 1024 counts,
   what the 32 scatters of one chunk of eight rows leave there, and what the 32 scatters of zeros after them leave. -/
module

public import Idealize.ShloMosaic.Lib.SparseCore.Ops
public import proofs.«01_k».proof.Proof.Gen.KernelIdeal
public import proofs.«01_k».proof.Proof.Gen.KernelIdeal.Skeleton

@[expose] public section

set_option maxRecDepth 16384

noncomputable section

namespace Cert.KernelIdeal.Counts

open Cert.KernelIdeal Cert.KernelIdeal.Gen
open Idealize.ShloMosaic

variable {F : FTy → Type} [FloatOps F]

/-- The token at row `n / 4`, lane `x` of the `n % 4`-th sixteen columns of a chunk. -/
def place (n : Nat) (x : S16.Idx) : S8x64.Idx := fun a => match a with
  | 0 => ⟨n / 4 % 8, Nat.mod_lt _ (by decide)⟩
  | 1 => ⟨16 * (n % 4) + (x 0).val, by
      show 16 * (n % 4) + (x 0).val < 64
      have h0 : (x 0).val < 16 := (x 0).isLt
      omega⟩

/-- The table positions that step `n` of a chunk touches: its sixteen tokens, moved to row `n / 4` of the table. -/
def lanes (q : S8x64.Idx → BitVec 32) (n : Nat) : IVec S16 32 := fun x => q (place n x) + BitVec.ofNat 32 (1024 * (n / 4))

/-- Whether lane `k` of `v` names the table position `j`. -/
def names (v : IVec S16 32) (j : S8192.Idx) (k : Fin 16) : Prop := (v (Shape.ofLane k)).toNat = (j 0).val

instance (v : IVec S16 32) (j : S8192.Idx) (k : Fin 16) : Decidable (names v j k) := by unfold names; infer_instance

/-- One count at position `j` after the sixteen lanes of `v` have each added `one` to the position they name. -/
def bumpAt (one : F .f32) (v : IVec S16 32) (j : S8192.Idx) (c : F .f32) : F .f32 :=
  (List.finRange 16).foldl (fun g k => if names v j k then FloatOps.idxAddf g one else g) c

/-- The constants zero and one. -/
def zero : F .f32 := Scalar.ofBits .f32 0x00000000#32
def one : F .f32 := Scalar.ofBits .f32 0x3F800000#32

/-- The table after `n` steps of a chunk, from a table of zeros. -/
def hist (q : S8x64.Idx → BitVec 32) : Nat → Vec F S8192 .f32
  | 0 => fun _ => zero
  | n + 1 => fun j => bumpAt one (lanes q n) j (hist q n j)

/-- The table after the first `n` scatters of zeros, from a table `f`. -/
def wipe (q : S8x64.Idx → BitVec 32) (f : Vec F S8192 .f32) : Nat → Vec F S8192 .f32
  | 0 => f
  | n + 1 => fun j => if ∃ k, names (lanes q n) j k then zero else wipe q f n j

/-! ## The scatter as those functions -/

omit [FloatOps F] in
theorem idx_eq_iff (v : IVec S16 32) (h : ∀ a x, ((![v] : Fin 1 → IVec S16 32) a x).toNat < S8192.size a) (j : S8192.Idx) (k : Fin 16) :
    (∀ a, (j a).val = (idxAt (s := S8192) (t := S16) ![v] h (Shape.ofLane k) a).val) ↔ names v j k := by
  unfold names
  constructor
  · intro e; exact (e 0).symm
  · intro e a
    match a with
    | 0 => exact e.symm

omit [FloatOps F] in
/-- A fold of functions whose every step reads the function at the same point is the fold of the values. -/
theorem foldl_point {α β γ : Type} (g : α → γ → (β → α)) (step : (β → α) → γ → (β → α)) (j : β)
    (hs : ∀ f k, step f k j = g (f j) k j) (l : List γ) (f : β → α) :
    l.foldl step f j = l.foldl (fun c k => g c k j) (f j) := by
  induction l generalizing f with
  | nil => rfl
  | cons k l ih => rw [List.foldl_cons, List.foldl_cons, ih, hs]

/-- A scatter that adds ones. -/
theorem storeIdx_add (f : Vec F S8192 .f32) (v : IVec S16 32) (h) (j : S8192.Idx) :
    storeIdx (F := F) (s := S8192) (e := .f32) f ![v] (k0_pay71 (F := F)) (fun _ => 1#1) true h j = bumpAt one v j (f j) := by
  unfold storeIdx bumpAt
  refine foldl_point (α := F .f32) (β := S8192.Idx) (γ := Fin 16)
    (fun c k j => if names v j k then FloatOps.idxAddf c one else c) _ j ?_ (List.finRange 16) f
  intro g k
  by_cases hn : names v j k
  · have he := (idx_eq_iff v h j k).2 hn
    have hj : idxAt (s := S8192) (t := S16) ![v] h (Shape.ofLane k) = j := funext fun a => Fin.ext (he a).symm
    refine (congrFun (if_pos rfl) j).trans ((if_pos he).trans (Eq.trans ?_ (if_pos hn).symm))
    show FloatOps.idxAddf (g (idxAt (s := S8192) (t := S16) ![v] h (Shape.ofLane k))) one = _
    rw [hj]
  · exact (congrFun (if_pos rfl) j).trans ((if_neg (fun e => hn ((idx_eq_iff v h j k).1 e))).trans (if_neg hn).symm)

omit [FloatOps F] in
theorem foldl_const {α γ : Type} (p : γ → Prop) [DecidablePred p] (z : α) (l : List γ) (c : α) :
    l.foldl (fun c k => if p k then z else c) c = if ∃ k ∈ l, p k then z else c := by
  induction l generalizing c with
  | nil => simp
  | cons k l ih =>
    rw [List.foldl_cons, ih]
    by_cases hk : p k <;> by_cases hl : ∃ x ∈ l, p x <;> simp [hk, hl]

/-- A scatter of zeros. -/
theorem storeIdx_zero (f : Vec F S8192 .f32) (v : IVec S16 32) (h) (j : S8192.Idx) :
    storeIdx (F := F) (s := S8192) (e := .f32) f ![v] (k0_pay70 (F := F)) (fun _ => 1#1) false h j
      = if ∃ k, names v j k then zero else f j := by
  unfold storeIdx
  refine (foldl_point (α := F .f32) (β := S8192.Idx) (γ := Fin 16)
    (fun c k j => if names v j k then zero else c) _ j ?_ (List.finRange 16) f).trans ?_
  · intro g k
    by_cases hn : names v j k
    · have he := (idx_eq_iff v h j k).2 hn
      exact (congrFun (if_pos rfl) j).trans ((if_pos he).trans (if_pos hn).symm)
    · exact (congrFun (if_pos rfl) j).trans ((if_neg (fun e => hn ((idx_eq_iff v h j k).1 e))).trans (if_neg hn).symm)
  · rw [foldl_const]; simp

/-- Step `n` of the adds. -/
theorem hist_step (q : S8x64.Idx → BitVec 32) (n : Nat) (v : IVec S16 32) (hv : v = lanes q n) (h) :
    storeIdx (F := F) (s := S8192) (e := .f32) (hist q n) ![v] (k0_pay71 (F := F)) (fun _ => 1#1) true h = hist q (n + 1) := by
  subst hv; funext j; exact storeIdx_add _ _ _ j

/-- Step `n` of the zeros. -/
theorem wipe_step (q : S8x64.Idx → BitVec 32) (f : Vec F S8192 .f32) (n : Nat) (v : IVec S16 32) (hv : v = lanes q n) (h) :
    storeIdx (F := F) (s := S8192) (e := .f32) (wipe q f n) ![v] (k0_pay70 (F := F)) (fun _ => 1#1) false h = wipe q f (n + 1) := by
  subst hv; funext j; exact storeIdx_zero _ _ _ j

/-! ## The zeros undo the adds -/

theorem bumpAt_none (c : F .f32) (v : IVec S16 32) (j : S8192.Idx) (h : ¬ ∃ k, names v j k) : bumpAt one v j c = c := by
  have : ∀ l : List (Fin 16), l.foldl (fun g k => if names v j k then FloatOps.idxAddf g one else g) c = c := by
    intro l
    induction l with
    | nil => rfl
    | cons k l ih => rw [List.foldl_cons, if_neg (fun e => h ⟨k, e⟩), ih]
  exact this _

/-- After the same number of scatters of zeros every position is zero again. -/
theorem wipe_hist (q : S8x64.Idx → BitVec 32) (N n : Nat) (hn : n ≤ N) :
    ∀ j, (∀ i, n ≤ i → i < N → ¬ ∃ k, names (lanes q i) j k) → wipe (F := F) q (hist q N) n j = zero := by
  induction n with
  | zero =>
    intro j hj
    show hist q N j = zero
    have : ∀ M, M ≤ N → hist (F := F) q M j = zero := by
      intro M
      induction M with
      | zero => intro _; rfl
      | succ M ih =>
        intro hM
        show bumpAt one _ j (hist q M j) = zero
        rw [bumpAt_none _ _ _ (hj M (Nat.zero_le _) hM), ih (Nat.le_of_succ_le hM)]
    exact this N le_rfl
  | succ n ih =>
    intro j hj
    show (if ∃ k, names (lanes q n) j k then zero else wipe q (hist q N) n j) = zero
    by_cases h : ∃ k, names (lanes q n) j k
    · rw [if_pos h]
    · rw [if_neg h]
      refine ih (Nat.le_of_succ_le hn) j fun i h1 h2 => ?_
      rcases Nat.eq_or_lt_of_le h1 with e | e
      · exact e ▸ h
      · exact hj i e h2

theorem wipe_all (q : S8x64.Idx → BitVec 32) : wipe (F := F) q (hist q 32) 32 = hist q 0 := by
  funext j; exact wipe_hist q 32 32 le_rfl j fun i h1 h2 => absurd h2 (by omega)

/-! ## The index vectors are in range -/

omit [FloatOps F] in
theorem lanes_lt (q : S8x64.Idx → BitVec 32) (hq : ∀ p, (q p).toNat < 1024) (n : Nat) (hn : n < 32) (x : S16.Idx) :
    (lanes q n x).toNat < 8192 := by
  unfold lanes
  have h := hq (place n x)
  rw [BitVec.toNat_add, BitVec.toNat_ofNat]
  omega

omit [FloatOps F] in
theorem lanes_inb (q : S8x64.Idx → BitVec 32) (hq : ∀ p, (q p).toNat < 1024) (n : Nat) (hn : n < 32) :
    ∀ a x, ((![lanes q n] : Fin 1 → IVec S16 32) a x).toNat < S8192.size a := by
  intro a x
  match a with
  | 0 => exact lanes_lt q hq n hn x

/-! ## The index vectors as the kernel computes them -/

/-- What a load of sixteen tokens at row `r`, column `c` reads, recast as a vector of sixteen, is `lanes` without its
    offset; adding the row's offset gives `lanes`. -/
theorem lanes_of (q : S8x64.Idx → BitVec 32) (n r c : Nat) (hn : n < 32) (hr : r = n / 4) (hc : c = 16 * (n % 4))
    (u : Vec F S1x16 .i32) (hu : ∀ y : S1x16.Idx, ∀ p : S8x64.Idx, (p 0).val = r → (p 1).val = c + (y 1).val → u y = q p)
    (w : BitVec 32) (hw : w = BitVec.ofNat 32 (1024 * r)) :
    addi (shapeCast S16 u shapeCasts_S1x16_S16) (broadcast S16 w) = lanes q n := by
  funext x
  show u (Shape.reshapeEquiv shapeCasts_S1x16_S16 x) + w = q (place n x) + BitVec.ofNat 32 (1024 * (n / 4))
  rw [hw, hr]
  congr 1
  refine hu _ _ ?_ ?_
  · show n / 4 % 8 = r
    omega
  · show 16 * (n % 4) + (x 0).val = c + _
    rw [hc]
    congr 1
    have h : Shape.reshapeEquiv (s := S1x16) (s' := S16) shapeCasts_S1x16_S16 x
        = (fun a => match a with | 0 => (0 : Fin 1) | 1 => x 0 : S1x16.Idx) :=
      Shape.reshapeEquiv_eq_of_rowMajor _ (by
        rw [Shape.rowMajor_val_one, Shape.rowMajor_val_two]
        show (0 : Fin 1).val * _ + (x 0).val = (x 0).val
        simp)
    rw [h]

end Cert.KernelIdeal.Counts
-- ==== Proof.KernelIdeal.Common.lean ====
/- The set-up that the proof of the SparseCore call shares: the launch's configuration, the buffers as a tile addresses
   them, the bands of rows that each of the 32 tiles works on, and what the call computes from its inputs. -/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.KernelIdeal.Counts

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's configuration -/

abbrev ΛP : Labels := Pipeline.Sig Λ₀ (Fin 4) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × UP × Counters

local notation "𝕄" => MT nD τ sig (HIx 1) (Elt F) ℕ UU ℕ

abbrev EH : Emb UH (MT nD τ sig (HIx 1) (Elt F) ℕ UU ℕ) := embL

/-! ## The buffers, as the host's thread and a tile name them -/

abbrev seqR : Ref sig .scVector := main_v0_scv
abbrev posR : Ref sig .scVector := main_arg1_scv
abbrev sideR : Ref sig .scVector := main_arg2_scv
abbrev posWR : Ref sig .scVector := main_arg4_scv
abbrev sideWR : Ref sig .scVector := main_arg5_scv
abbrev hR : Ref sig .scVector := main_v1_0_scv
abbrev pR : Ref sig .scVector := main_v1_1_scv
abbrev dR : Ref sig .scVector := main_v1_2_scv

abbrev seqV : Memref sig .scVector .hbm S4096x64 .i32 := Memref.whole seqR
abbrev posV : Memref sig .scVector .hbm S4096 .i32 := Memref.whole posR
abbrev sideV : Memref sig .scVector .hbm S4096 .i32 := Memref.whole sideR
abbrev posWV : Memref sig .scVector .hbm S20x128 .f32 := Memref.whole posWR
abbrev sideWV : Memref sig .scVector .hbm S2x128 .f32 := Memref.whole sideWR
abbrev hV : Memref sig .scVector .hbm S4194304 .f32 := Memref.whole hR
abbrev pV : Memref sig .scVector .hbm S4096x128 .f32 := Memref.whole pR
abbrev dV : Memref sig .scVector .hbm S4096x128 .f32 := Memref.whole dR
abbrev bufQ : Memref sig .scVector .vmem S8x64 .i32 := Memref.whole cc0_scratch0
abbrev bufH : Memref sig .scVector .vmem S8192 .f32 := Memref.whole cc0_scratch1
abbrev bufI : Memref sig .scVector .vmem S128 .i32 := Memref.whole cc0_scratch2
abbrev bufR : Memref sig .scVector .vmem S128x128 .f32 := Memref.whole cc0_scratch3

abbrev seqLoc (d : Dev nD) : Loc nD τ sig := (SparseCore.T d).loc main_v0
abbrev posLoc (d : Dev nD) : Loc nD τ sig := (SparseCore.T d).loc main_arg1
abbrev sideLoc (d : Dev nD) : Loc nD τ sig := (SparseCore.T d).loc main_arg2
abbrev posWLoc (d : Dev nD) : Loc nD τ sig := (SparseCore.T d).loc main_arg4
abbrev sideWLoc (d : Dev nD) : Loc nD τ sig := (SparseCore.T d).loc main_arg5
abbrev hLoc (d : Dev nD) : Loc nD τ sig := (SparseCore.T d).loc main_v1_0
abbrev pLoc (d : Dev nD) : Loc nD τ sig := (SparseCore.T d).loc main_v1_1
abbrev dLoc (d : Dev nD) : Loc nD τ sig := (SparseCore.T d).loc main_v1_2

/-! ## What the call reads, and what it computes from it -/

/-- The contents of the call's five inputs, and what its three results held before it. -/
structure Feed (F : FTy → Type) where
  seq : S4096x64.Idx → BitVec 32
  pos : S4096.Idx → BitVec 32
  side : S4096.Idx → BitVec 32
  posW : S20x128.Idx → F .f32
  sideW : S2x128.Idx → F .f32
  h₀ : S4194304.Idx → F .f32
  p₀ : S4096x128.Idx → F .f32
  d₀ : S4096x128.Idx → F .f32

/-- The indices stay inside the tables they address. -/
structure Feed.Ok (I : Feed F) : Prop where
  seq : ∀ j, (I.seq j).toNat < 1024
  pos : ∀ j, (I.pos j).toNat < 20
  side : ∀ j, (I.side j).toNat < 2

/-- Eight rows of tokens: chunk `k` of the 512. -/
def chunk (f : S4096x64.Idx → BitVec 32) (k : Nat) : S8x64.Idx → BitVec 32 := fun p =>
  f fun a => match a with
    | 0 => ⟨(8 * k + (p 0).val) % 4096, Nat.mod_lt _ (by decide)⟩
    | 1 => p 1

/-- The position in one chunk's table of a position of the flat result. -/
def inChunk (j : S4194304.Idx) : S8192.Idx := fun a => match a with
  | 0 => ⟨(j 0).val % 8192, Nat.mod_lt _ (by decide)⟩

/-- The token counts of all 4096 rows, flat: each chunk's table in turn. -/
def countsOf [FloatOps F] (f : S4096x64.Idx → BitVec 32) : S4194304.Idx → F .f32 := fun j =>
  hist (chunk f ((j 0).val / 8192)) 32 (inChunk j)

/-- The row index of a gathered element. -/
def rowOf (j : S4096x128.Idx) : S4096.Idx := fun a => match a with | 0 => j 0

/-- Rows of the 20-row table. -/
def rows20 (w : S20x128.Idx → F .f32) (ix : S4096.Idx → BitVec 32) : S4096x128.Idx → F .f32 := fun j =>
  w fun a => match a with
    | 0 => ⟨(ix (rowOf j)).toNat % 20, Nat.mod_lt _ (by decide)⟩
    | 1 => j 1

/-- Rows of the 2-row table. -/
def rows2 (w : S2x128.Idx → F .f32) (ix : S4096.Idx → BitVec 32) : S4096x128.Idx → F .f32 := fun j =>
  w fun a => match a with
    | 0 => ⟨(ix (rowOf j)).toNat % 2, Nat.mod_lt _ (by decide)⟩
    | 1 => j 1

/-! ## The bands: tile `b`'s share of an array is `n` consecutive entries along its first axis -/

def band {s : Shape} (a : Fin s.rank) (n b : Nat) : Finset s.Idx := Finset.univ.filter fun j => (j a).val / n = b

theorem mem_band {s : Shape} {a : Fin s.rank} {n b : Nat} {j : s.Idx} : j ∈ band a n b ↔ (j a).val / n = b := by
  simp [band]

theorem band_disjoint {s : Shape} (a : Fin s.rank) (n : Nat) {b b' : Nat} (h : b ≠ b') : Disjoint (band (s := s) a n b) (band a n b') :=
  Finset.disjoint_left.mpr fun j hj hj' => h ((mem_band.mp hj).symm.trans (mem_band.mp hj'))

theorem band_cover {s : Shape} (a : Fin s.rank) (n m : Nat) (h : s.size a = n * m) :
    (Finset.univ : Finset (Fin m)).biUnion (fun b => band (s := s) a n b.val) = Finset.univ := by
  ext j
  simp only [Finset.mem_biUnion, Finset.mem_univ, true_and, iff_true]
  exact ⟨⟨(j a).val / n, Nat.div_lt_of_lt_mul (h ▸ (j a).isLt)⟩, mem_band.mpr rfl⟩

abbrev seqB (b : Nat) : Finset S4096x64.Idx := band (s := S4096x64) 0 128 b
abbrev ixB (b : Nat) : Finset S4096.Idx := band (s := S4096) 0 128 b
abbrev rowB (b : Nat) : Finset S4096x128.Idx := band (s := S4096x128) 0 128 b
abbrev hB (b : Nat) : Finset S4194304.Idx := band (s := S4194304) 0 131072 b

/-- A tile's share of a table that every tile reads. -/
abbrev tq (b : Fin 32) : PosShare TreeShare := pieceOf fullShare 32 (by decide) b

/-! ## What the handshakes carry -/

section Carry

variable [FloatOps F]

/-- Tile `b`'s part of the inputs. -/
abbrev ins (I : Feed F) (d : Dev nD) (b : Fin 32) : sProp 𝕄 := iprop(
  (seqLoc d ↦[seqB b.val]{fullShare} I.seq) ∗ (posLoc d ↦[ixB b.val]{fullShare} I.pos) ∗ (sideLoc d ↦[ixB b.val]{fullShare} I.side)
    ∗ (posWLoc d ↦{tq b} I.posW) ∗ (sideWLoc d ↦{tq b} I.sideW))

/-- Tile `b`'s part of the results, at given contents. -/
abbrev outs (h : S4194304.Idx → F .f32) (p r : S4096x128.Idx → F .f32) (d : Dev nD) (b : Fin 32) : sProp 𝕄 := iprop(
  (hLoc d ↦[hB b.val]{fullShare} h) ∗ (pLoc d ↦[rowB b.val]{fullShare} p) ∗ (dLoc d ↦[rowB b.val]{fullShare} r))

abbrev before (I : Feed F) (d : Dev nD) (b : Fin 32) : sProp 𝕄 := iprop(ins I d b ∗ outs I.h₀ I.p₀ I.d₀ d b)
abbrev after (I : Feed F) (d : Dev nD) (b : Fin 32) : sProp 𝕄 :=
  iprop(ins I d b ∗ outs (countsOf I.seq) (rows20 I.posW I.pos) (rows2 I.sideW I.side) d b)

/-- The number of tile `i` of SparseCore `c`: it works on the `2 i + c`-th of the 32 bands. -/
abbrev tileNo (c : Fin 2) (i : Fin 16) : Fin 32 := ⟨2 * i.val + c.val, by omega⟩

abbrev coreBefore (I : Feed F) (d : Dev nD) (c : Fin 2) : sProp 𝕄 := bigSep Finset.univ fun i : Fin 16 => before I d (tileNo c i)
abbrev coreAfter (I : Feed F) (d : Dev nD) (c : Fin 2) : sProp 𝕄 := bigSep Finset.univ fun i : Fin 16 => after I d (tileNo c i)

variable (I : Dev nD → Feed F)

def P : (K (F := F)).Pay (nD := nD) (Val := Elt F) (Name := ℕ) (U := UU) where
  st := fun q d c => match q with | 0 => coreBefore (I d) d (Fin.cast nCore_zero c)
  dn := fun q d c => match q with | 0 => coreAfter (I d) d (Fin.cast nCore_zero c)
  go := fun q d c i => match q with | 0 => before (I d) d (tileNo (Fin.cast nCore_zero c) (Fin.cast nSub_zero i))
  td := fun q d c i => match q with | 0 => after (I d) d (tileNo (Fin.cast nCore_zero c) (Fin.cast nSub_zero i))
  x := fun _ _ => iprop(emp)

instance P_storable : (P (F := F) I).IsStorable where
  st q d c := match q with
    | 0 => (inferInstance : BI.Storable (upEmb : UEmb _ 𝕄) (coreBefore (I d) d (Fin.cast nCore_zero c)))
  dn q d c := match q with
    | 0 => (inferInstance : BI.Storable (upEmb : UEmb _ 𝕄) (coreAfter (I d) d (Fin.cast nCore_zero c)))
  go q d c i := match q with
    | 0 => (inferInstance : BI.Storable (upEmb : UEmb _ 𝕄) (before (I d) d (tileNo (Fin.cast nCore_zero c) (Fin.cast nSub_zero i))))
  td q d c i := match q with
    | 0 => (inferInstance : BI.Storable (upEmb : UEmb _ 𝕄) (after (I d) d (tileNo (Fin.cast nCore_zero c) (Fin.cast nSub_zero i))))

end Carry

/-! ## A tile's thread -/

abbrev cV (L : grid0.Coords) : Fin τ.nSC := (L 0).castLE hcore0
abbrev jV (L : grid0.Coords) : Fin τ.nSub := (L 1).castLE hsub0
/-- The tile's thread. -/
abbrev tile (d : Dev nD) (L : grid0.Coords) : Thread nD τ := V d (cV L) (jV L)
theorem bound_zero : grid0.bound 0 = 2 := rfl
theorem bound_one : grid0.bound 1 = 16 := rfl
/-- The tile's number. -/
abbrev no (L : grid0.Coords) : Fin 32 := tileNo (Fin.cast bound_zero (L 0)) (Fin.cast bound_one (L 1))

end Cert.KernelIdeal.Call

end
-- ==== Proof.KernelIdeal.Turn.lean ====
/- One turn of a chunk's 64: check that sixteen positions of the table are in range, scatter to them, and read the next
   sixteen tokens. The adds and the zeros are the same turn over two sequences of tables. -/
module

public import proofs.«01_k».proof.Proof.KernelIdeal.Common

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- `u` holds the sixteen tokens of the chunk `q` at row `r` from column `c`. -/
def Tok (q : S8x64.Idx → BitVec 32) (r c : Nat) (u : Vec F S1x16 .i32) : Prop :=
  ∀ y : S1x16.Idx, ∀ p : S8x64.Idx, (p 0).val = r → (p 1).val = c + (y 1).val → u y = q p

/-- A sequence of tables: each the scatter of `w` to the positions of the step before it. -/
def Runs (q : S8x64.Idx → BitVec 32) (A : Nat → Vec F S8192 .f32) (w : Vec F S16 .f32) (add : Bool) : Prop :=
  ∀ (n : Nat) (v : IVec S16 32), v = lanes q n → ∀ h,
    storeIdx (F := F) (s := S8192) (e := .f32) (A n) ![v] w (fun _ => 1#1) add h = A (n + 1)

theorem runs_hist (q : S8x64.Idx → BitVec 32) : Runs (F := F) q (hist q) (k0_pay71 (F := F)) true :=
  fun n v hv h => hist_step q n v hv h
theorem runs_wipe (q : S8x64.Idx → BitVec 32) (f : Vec F S8192 .f32) : Runs (F := F) q (wipe q f) (k0_pay70 (F := F)) false :=
  fun n v hv h => wipe_step q f n v hv h

variable (d : Dev nD) (L : grid0.Coords)

/-- The tile's chunk of tokens and its table, at given contents. -/
abbrev held (q : S8x64.Idx → BitVec 32) (f : Vec F S8192 .f32) : sProp 𝕄 :=
  iprop((bufQ.view.loc (tile d L) ↦{fullShare} q) ∗ (bufH.view.loc (tile d L) ↦{fullShare} f))

variable {α : Type}

/-- Reading sixteen tokens. -/
theorem look {Q : α → sProp 𝕄} {R : sProp 𝕄} {q : S8x64.Idx → BitVec 32} {f : Vec F S8192 .f32} {r c : Nat} {inb} {hl}
    {k : Vec F S1x16 .i32 → Prog (TpuEff nD τ sig (Elt F) Λ₀ (.scVector (cV L) (jV L))) α}
    (next : ∀ u, Tok q r c u → iprop(R ∗ held d L q f) ⊢ wp frame (wpE (defs₀ (F := F)) 𝒱₀ (tile d L) none) Set.univ (k u) Q) :
    iprop(R ∗ held d L q f)
      ⊢ wp frame (wpE (defs₀ (F := F)) 𝒱₀ (tile d L) none) Set.univ
          (.op (.load bufQ (Rect.unit (s := S8x64) ![r, c] S1x16.size inb).toLoadRect hl) k) Q := by
  iintro ⟨HR, Hq, Hf⟩
  iapply (wp_load 𝒱₀ (tile d L) none Set.univ (m := bufQ) (S := Finset.univ) (Finset.subset_univ _)) $$ Hq
  iintro Hq
  iapply (next _ (by
    intro y p h0 h1
    show q ((Rect.unit (s := S8x64) ![r, c] S1x16.size inb).emb y) = q p
    refine congrArg q (funext fun a => Fin.ext ?_)
    match a with
    | 0 =>
      rw [Rect.emb_apply]
      have hy : (y 0).val < 1 := (y 0).isLt
      show r + 1 * (y 0).val = (p 0).val
      omega
    | 1 =>
      rw [Rect.emb_apply]
      show c + 1 * (y 1).val = (p 1).val
      omega))
  isplitl [HR]; · iexact HR
  isplitl [Hq]; · iexact Hq
  iexact Hf

theorem set_bufH : (bufH.access (.whole S8192)).set = Finset.univ := Memref.set_access_whole cc0_scratch1
theorem read_bufH (f : Vec F S8192 .f32) : (bufH.access (.whole S8192)).read (Elt F) f = f := Memref.read_access_whole (Elt F) cc0_scratch1 f
theorem write_bufH (f w : Vec F S8192 .f32) : (bufH.access (.whole S8192)).write (Elt F) f w Finset.univ = w :=
  Memref.write_access_whole_univ (Elt F) cc0_scratch1 f w

/-- The table after a scatter. -/
theorem scattered {f g : Vec F S8192 .f32} {v : IVec S16 32} {w : Vec F S16 .f32} {add : Bool} {h}
    (e : storeIdx (F := F) (s := S8192) (e := .f32) f ![v] w (fun _ => 1#1) add h = g) :
    (bufH.access (.whole S8192)).write (Elt F) f
      (storeIdx ((bufH.access (.whole S8192)).read (Elt F) f) ![v] w (fun _ => 1#1) add h) Finset.univ = g := by
  rw [write_bufH, read_bufH]; exact e

/-- The check and the scatter of step `n`. -/
theorem turn {Q : α → sProp 𝕄} {R : sProp 𝕄} {q : S8x64.Idx → BitVec 32} {A : Nat → Vec F S8192 .f32} {w : Vec F S16 .f32} {add : Bool} (hA : Runs q A w add) (hq : ∀ p, (q p).toNat < 1024)
    {n : Nat} (hn : n < 32) {v : IVec S16 32} (hv : v = lanes q n) {C : Prop} {dec : Decidable C}
    (hC : (∀ a x, ((![v] : Fin 1 → IVec S16 32) a x).toNat < S8192.size a) → C) {h : PLift C → ∀ a x, ((![v] : Fin 1 → IVec S16 32) a x).toNat < S8192.size a} {hs}
    {k : PUnit → Prog (TpuEff nD τ sig (Elt F) Λ₀ (.scVector (cV L) (jV L))) α}
    (next : iprop(R ∗ held d L q (A (n + 1))) ⊢ wp frame (wpE (defs₀ (F := F)) 𝒱₀ (tile d L) none) Set.univ (k ⟨⟩) Q) :
    iprop(R ∗ held d L q (A n))
      ⊢ wp frame (wpE (defs₀ (F := F)) 𝒱₀ (tile d L) none) Set.univ
          (.op (.assume C dec) fun x => SparseCore.vectorStoreIdx bufH ![v] w (fun _ => 1#1) add (h x) hs >>= k) Q := by
  have hc : C := hC (hv ▸ lanes_inb q hq n hn)
  rw [wp_assume_of _ _ _ _ hc]
  iintro ⟨HR, Hq, Hf⟩
  ihave Hf' := (Entails.of_eq (congrArg (fun I => ((bufH.access (.whole S8192)).loc (tile d L) ↦[I]{fullShare} A n : sProp 𝕄)) set_bufH.symm)) $$ Hf
  iapply (SparseCore.wp_vectorStoreIdx 𝒱₀ (tile d L) none Set.univ (base := bufH)) $$ Hf'
  iintro Hf
  ihave Hf' := (Entails.of_eq (congrArg₂ (fun I g => ((bufH.access (.whole S8192)).loc (tile d L) ↦[I]{fullShare} g : sProp 𝕄))
    set_bufH (scattered (hA n v hv (h ⟨hc⟩))))) $$ Hf
  iapply next
  isplitl [HR]; · iexact HR
  isplitl [Hq]; · iexact Hq
  iexact Hf'

/-- Step `n`, whose sixteen tokens `u` have been read: they are the chunk's, so the positions are step `n`'s. -/
theorem step {Q : α → sProp 𝕄} {R : sProp 𝕄} {q : S8x64.Idx → BitVec 32} {A : Nat → Vec F S8192 .f32} {w : Vec F S16 .f32} {add : Bool} (hA : Runs q A w add) (hq : ∀ p, (q p).toNat < 1024)
    (n : Nat) (hn : n < 32) {u : Vec F S1x16 .i32} (hu : Tok q (n / 4) (16 * (n % 4)) u) {v : IVec S16 32}
    (hv : v = addi (shapeCast S16 u shapeCasts_S1x16_S16) (broadcast S16 (BitVec.ofNat 32 (1024 * (n / 4))))) {C : Prop} {dec : Decidable C}
    (hC : (∀ a x, ((![v] : Fin 1 → IVec S16 32) a x).toNat < S8192.size a) → C) {h : PLift C → ∀ a x, ((![v] : Fin 1 → IVec S16 32) a x).toNat < S8192.size a} {hs}
    {k : PUnit → Prog (TpuEff nD τ sig (Elt F) Λ₀ (.scVector (cV L) (jV L))) α}
    (next : iprop(R ∗ held d L q (A (n + 1))) ⊢ wp frame (wpE (defs₀ (F := F)) 𝒱₀ (tile d L) none) Set.univ (k ⟨⟩) Q) :
    iprop(R ∗ held d L q (A n))
      ⊢ wp frame (wpE (defs₀ (F := F)) 𝒱₀ (tile d L) none) Set.univ
          (.op (.assume C dec) fun x => SparseCore.vectorStoreIdx bufH ![v] w (fun _ => 1#1) add (h x) hs >>= k) Q :=
  turn d L hA hq hn (hv.trans (lanes_of q n (n / 4) (16 * (n % 4)) hn rfl rfl u hu _ rfl)) hC next

/-- Step `n` and the reading of the next sixteen tokens. -/
theorem stepLook {Q : α → sProp 𝕄} {R : sProp 𝕄} {q : S8x64.Idx → BitVec 32} {A : Nat → Vec F S8192 .f32} {w : Vec F S16 .f32} {add : Bool} (hA : Runs q A w add) (hq : ∀ p, (q p).toNat < 1024)
    (n : Nat) (hn : n < 32) {u : Vec F S1x16 .i32} (hu : Tok q (n / 4) (16 * (n % 4)) u) {v : IVec S16 32}
    (hv : v = addi (shapeCast S16 u shapeCasts_S1x16_S16) (broadcast S16 (BitVec.ofNat 32 (1024 * (n / 4))))) {C : Prop} {dec : Decidable C}
    (hC : (∀ a x, ((![v] : Fin 1 → IVec S16 32) a x).toNat < S8192.size a) → C) {h : PLift C → ∀ a x, ((![v] : Fin 1 → IVec S16 32) a x).toNat < S8192.size a} {hs}
    {r c : Nat} {inb} {hl}
    {k : Vec F S1x16 .i32 → Prog (TpuEff nD τ sig (Elt F) Λ₀ (.scVector (cV L) (jV L))) α}
    (next : ∀ u, Tok q r c u → iprop(R ∗ held d L q (A (n + 1))) ⊢ wp frame (wpE (defs₀ (F := F)) 𝒱₀ (tile d L) none) Set.univ (k u) Q) :
    iprop(R ∗ held d L q (A n))
      ⊢ wp frame (wpE (defs₀ (F := F)) 𝒱₀ (tile d L) none) Set.univ
          (.op (.assume C dec) fun x => SparseCore.vectorStoreIdx bufH ![v] w (fun _ => 1#1) add (h x) hs >>= fun _ =>
            .op (.load bufQ (Rect.unit (s := S8x64) ![r, c] S1x16.size inb).toLoadRect hl) k) Q :=
  step d L hA hq n hn hu hv hC (look d L next)

/-- The end of a part. -/
theorem finish {Q : α → sProp 𝕄} {X : sProp 𝕄} {a : α} (h : X ⊢ Q a) :
    X ⊢ wp frame (wpE (defs₀ (F := F)) 𝒱₀ (tile d L) none) Set.univ (.ret a) Q := by
  rw [wp_ret]; iintro H; imodintro; iapply h; iexact H

end Cert.KernelIdeal.Call

end
-- ==== Proof.KernelIdeal.Parts.lean ====
/- The parts of a chunk's body, each its turns in order: the 32 scatters of ones, then the 32 scatters of zeros. -/
module

public import proofs.«01_k».proof.Proof.KernelIdeal.Turn

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-! ## The parts, at the tile's buffers -/

abbrev body (F : FTy → Type) [FloatOps F] (L : grid0.Coords) := cc0__sc_body (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev trip1 (F : FTy → Type) [FloatOps F] (L : grid0.Coords) := k0_t1_body (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev trip2 (F : FTy → Type) [FloatOps F] (L : grid0.Coords) := k0_t2_body (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part1 (F : FTy → Type) [FloatOps F] (L : grid0.Coords) := k0_part1 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part2 (F : FTy → Type) [FloatOps F] (L : grid0.Coords) := k0_part2 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part3 (F : FTy → Type) [FloatOps F] (L : grid0.Coords) := k0_part3 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part4 (F : FTy → Type) [FloatOps F] (L : grid0.Coords) := k0_part4 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part5 (F : FTy → Type) [FloatOps F] (L : grid0.Coords) := k0_part5 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part6 (F : FTy → Type) [FloatOps F] (L : grid0.Coords) := k0_part6 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part7 (F : FTy → Type) [FloatOps F] (L : grid0.Coords) := k0_part7 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part8 (F : FTy → Type) [FloatOps F] (L : grid0.Coords) := k0_part8 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part9 (F : FTy → Type) [FloatOps F] (L : grid0.Coords) := k0_part9 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part10 (F : FTy → Type) [FloatOps F] (L : grid0.Coords) := k0_part10 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part11 (F : FTy → Type) [FloatOps F] (L : grid0.Coords) := k0_part11 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5
abbrev part12 (F : FTy → Type) [FloatOps F] (L : grid0.Coords) := k0_part12 (F := F) L seqV (Memref.isWhole_whole _) posV (Memref.isWhole_whole _) sideV (Memref.isWhole_whole _)
    posWV (Memref.isWhole_whole _) sideWV (Memref.isWhole_whole _) hV (Memref.isWhole_whole _) pV (Memref.isWhole_whole _) dV (Memref.isWhole_whole _)
    bufQ (Memref.isWhole_whole _) bufH (Memref.isWhole_whole _) bufI (Memref.isWhole_whole _) bufR (Memref.isWhole_whole _)
    cc0_scratch4 cc0_scoped0 cc0_scoped1 cc0_scoped2 cc0_scoped3 cc0_scoped4 cc0_scoped5

/-! ## The parts that only scatter: six turns each -/

theorem part2_run {Q : (Σ' (_ : Vec F S16 .i32), BitVec 32) → sProp 𝕄} {R : sProp 𝕄} {q : S8x64.Idx → BitVec 32} (hq : ∀ p, (q p).toNat < 1024) {u : Vec F S1x16 .i32} (hu : Tok q 1 0 u)
    (next : ∀ u : Vec F S1x16 .i32, Tok q 2 32 u → iprop(R ∗ held d L q (hist q 10)) ⊢ Q ⟨k0_pay12 u, 2048#32⟩) :
    iprop(R ∗ held d L q (hist q 4)) ⊢ wp frame (wpE (defs₀ (F := F)) 𝒱₀ (tile d L) none) Set.univ
      (part2 F L (k0_pay71 (F := F)) (k0_pay5 u) 1024#32) Q := by
  unfold part2; rw [k0_part2_eq_skeleton]; unfold k0_part2_skel
  simp only [Prog.lift, Prog.bind_op, Prog.bind_ret, Prog.pure_eq_ret]
  exact
  stepLook d L (runs_hist q) hq 4 (by decide) hu rfl (fun h => h) fun u hu =>
  stepLook d L (runs_hist q) hq 5 (by decide) hu rfl (fun h => h) fun u hu =>
  stepLook d L (runs_hist q) hq 6 (by decide) hu rfl (fun h => h) fun u hu =>
  stepLook d L (runs_hist q) hq 7 (by decide) hu rfl (fun h => h) fun u hu =>
  stepLook d L (runs_hist q) hq 8 (by decide) hu rfl (fun h => h) fun u hu =>
  stepLook d L (runs_hist q) hq 9 (by decide) hu rfl (fun h => h) fun u hu =>
  finish d L (next u hu)

theorem part3_run {Q : (Σ' (_ : Vec F S16 .i32), BitVec 32) → sProp 𝕄} {R : sProp 𝕄} {q : S8x64.Idx → BitVec 32} (hq : ∀ p, (q p).toNat < 1024) {u : Vec F S1x16 .i32} (hu : Tok q 2 32 u)
    (next : ∀ u : Vec F S1x16 .i32, Tok q 4 0 u → iprop(R ∗ held d L q (hist q 16)) ⊢ Q ⟨k0_pay19 u, 4096#32⟩) :
    iprop(R ∗ held d L q (hist q 10)) ⊢ wp frame (wpE (defs₀ (F := F)) 𝒱₀ (tile d L) none) Set.univ
      (part3 F L (k0_pay71 (F := F)) (k0_pay12 u) 2048#32) Q := by
  unfold part3; rw [k0_part3_eq_skeleton]; unfold k0_part3_skel
  simp only [Prog.lift, Prog.bind_op, Prog.bind_ret, Prog.pure_eq_ret]
  exact
  stepLook d L (runs_hist q) hq 10 (by decide) hu rfl (fun h => h) fun u hu =>
  stepLook d L (runs_hist q) hq 11 (by decide) hu rfl (fun h => h) fun u hu =>
  stepLook d L (runs_hist q) hq 12 (by decide) hu rfl (fun h => h) fun u hu =>
  stepLook d L (runs_hist q) hq 13 (by decide) hu rfl (fun h => h) fun u hu =>
  stepLook d L (runs_hist q) hq 14 (by decide) hu rfl (fun h => h) fun u hu =>
  stepLook d L (runs_hist q) hq 15 (by decide) hu rfl (fun h => h) fun u hu =>
  finish d L (next u hu)

theorem part4_run {Q : (Σ' (_ : Vec F S16 .i32), BitVec 32) → sProp 𝕄} {R : sProp 𝕄} {q : S8x64.Idx → BitVec 32} (hq : ∀ p, (q p).toNat < 1024) {u : Vec F S1x16 .i32} (hu : Tok q 4 0 u)
    (next : ∀ u : Vec F S1x16 .i32, Tok q 5 32 u → iprop(R ∗ held d L q (hist q 22)) ⊢ Q ⟨k0_pay26 u, 5120#32⟩) :
    iprop(R ∗ held d L q (hist q 16)) ⊢ wp frame (wpE (defs₀ (F := F)) 𝒱₀ (tile d L) none) Set.univ
      (part4 F L (k0_pay71 (F := F)) (k0_pay19 u) 4096#32) Q := by
  unfold part4; rw [k0_part4_eq_skeleton]; unfold k0_part4_skel
  simp only [Prog.lift, Prog.bind_op, Prog.bind_ret, Prog.pure_eq_ret]
  exact
  stepLook d L (runs_hist q) hq 16 (by decide) hu rfl (fun h => h) fun u hu =>
  stepLook d L (runs_hist q) hq 17 (by decide) hu rfl (fun h => h) fun u hu =>
  stepLook d L (runs_hist q) hq 18 (by decide) hu rfl (fun h => h) fun u hu =>
  stepLook d L (runs_hist q) hq 19 (by decide) hu rfl (fun h => h) fun u hu =>
  stepLook d L (runs_hist q) hq 20 (by decide) hu rfl (fun h => h) fun u hu =>
  stepLook d L (runs_hist q) hq 21 (by decide) hu rfl (fun h => h) fun u hu =>
  finish d L (next u hu)

theorem part5_run {Q : (Σ' (_ : Vec F S16 .i32), BitVec 32) → sProp 𝕄} {R : sProp 𝕄} {q : S8x64.Idx → BitVec 32} (hq : ∀ p, (q p).toNat < 1024) {u : Vec F S1x16 .i32} (hu : Tok q 5 32 u)
    (next : ∀ u : Vec F S1x16 .i32, Tok q 7 0 u → iprop(R ∗ held d L q (hist q 28)) ⊢ Q ⟨k0_pay33 u, 7168#32⟩) :
    iprop(R ∗ held d L q (hist q 22)) ⊢ wp frame (wpE (defs₀ (F := F)) 𝒱₀ (tile d L) none) Set.univ
      (part5 F L (k0_pay71 (F := F)) (k0_pay26 u) 5120#32) Q := by
  unfold part5; rw [k0_part5_eq_skeleton]; unfold k0_part5_skel
  simp only [Prog.lift, Prog.bind_op, Prog.bind_ret, Prog.pure_eq_ret]
  exact
  stepLook d L (runs_hist q) hq 22 (by decide) hu rfl (fun h => h) fun u hu =>
  stepLook d L (runs_hist q) hq 23 (by decide) hu rfl (fun h => h) fun u hu =>
  stepLook d L (runs_hist q) hq 24 (by decide) hu rfl (fun h => h) fun u hu =>
  stepLook d L (runs_hist q) hq 25 (by decide) hu rfl (fun h => h) fun u hu =>
  stepLook d L (runs_hist q) hq 26 (by decide) hu rfl (fun h => h) fun u hu =>
  stepLook d L (runs_hist q) hq 27 (by decide) hu rfl (fun h => h) fun u hu =>
  finish d L (next u hu)

theorem part7_run {Q : IVec S16 32 → sProp 𝕄} {R : sProp 𝕄} {q : S8x64.Idx → BitVec 32} (hq : ∀ p, (q p).toNat < 1024) {f : Vec F S8192 .f32} {u : Vec F S1x16 .i32} (hu : Tok q 0 16 u)
    (next : ∀ u : Vec F S1x16 .i32, Tok q 1 48 u → iprop(R ∗ held d L q (wipe q f 7)) ⊢ Q (k0_pay45 u)) :
    iprop(R ∗ held d L q (wipe q f 1)) ⊢ wp frame (wpE (defs₀ (F := F)) 𝒱₀ (tile d L) none) Set.univ
      (part7 F L (k0_pay70 (F := F)) (k0_pay39 u)) Q := by
  unfold part7; rw [k0_part7_eq_skeleton]; unfold k0_part7_skel
  simp only [Prog.lift, Prog.bind_op, Prog.bind_ret, Prog.pure_eq_ret]
  exact
  stepLook d L (runs_wipe q f) hq 1 (by decide) hu rfl (fun h => h) fun u hu =>
  stepLook d L (runs_wipe q f) hq 2 (by decide) hu rfl (fun h => h) fun u hu =>
  stepLook d L (runs_wipe q f) hq 3 (by decide) hu rfl (fun h => h) fun u hu =>
  stepLook d L (runs_wipe q f) hq 4 (by decide) hu rfl (fun h => h) fun u hu =>
  stepLook d L (runs_wipe q f) hq 5 (by decide) hu rfl (fun h => h) fun u hu =>
  stepLook d L (runs_wipe q f) hq 6 (by decide) hu rfl (fun h => h) fun u hu =>
  finish d L (next u hu)

theorem part8_run {Q : IVec S16 32 → sProp 𝕄} {R : sProp 𝕄} {q : S8x64.Idx → BitVec 32} (hq : ∀ p, (q p).toNat < 1024) {f : Vec F S8192 .f32} {u : Vec F S1x16 .i32} (hu : Tok q 1 48 u)
    (next : ∀ u : Vec F S1x16 .i32, Tok q 3 16 u → iprop(R ∗ held d L q (wipe q f 13)) ⊢ Q (k0_pay51 u)) :
    iprop(R ∗ held d L q (wipe q f 7)) ⊢ wp frame (wpE (defs₀ (F := F)) 𝒱₀ (tile d L) none) Set.univ
      (part8 F L (k0_pay70 (F := F)) (k0_pay45 u)) Q := by
  unfold part8; rw [k0_part8_eq_skeleton]; unfold k0_part8_skel
  simp only [Prog.lift, Prog.bind_op, Prog.bind_ret, Prog.pure_eq_ret]
  exact
  stepLook d L (runs_wipe q f) hq 7 (by decide) hu rfl (fun h => h) fun u hu =>
  stepLook d L (runs_wipe q f) hq 8 (by decide) hu rfl (fun h => h) fun u hu =>
  stepLook d L (runs_wipe q f) hq 9 (by decide) hu rfl (fun h => h) fun u hu =>
  stepLook d L (runs_wipe q f) hq 10 (by decide) hu rfl (fun h => h) fun u hu =>
  stepLook d L (runs_wipe q f) hq 11 (by decide) hu rfl (fun h => h) fun u hu =>
  stepLook d L (runs_wipe q f) hq 12 (by decide) hu rfl (fun h => h) fun u hu =>
  finish d L (next u hu)

theorem part9_run {Q : IVec S16 32 → sProp 𝕄} {R : sProp 𝕄} {q : S8x64.Idx → BitVec 32} (hq : ∀ p, (q p).toNat < 1024) {f : Vec F S8192 .f32} {u : Vec F S1x16 .i32} (hu : Tok q 3 16 u)
    (next : ∀ u : Vec F S1x16 .i32, Tok q 4 48 u → iprop(R ∗ held d L q (wipe q f 19)) ⊢ Q (k0_pay57 u)) :
    iprop(R ∗ held d L q (wipe q f 13)) ⊢ wp frame (wpE (defs₀ (F := F)) 𝒱₀ (tile d L) none) Set.univ
      (part9 F L (k0_pay70 (F := F)) (k0_pay51 u)) Q := by
  unfold part9; rw [k0_part9_eq_skeleton]; unfold k0_part9_skel
  simp only [Prog.lift, Prog.bind_op, Prog.bind_ret, Prog.pure_eq_ret]
  exact
  stepLook d L (runs_wipe q f) hq 13 (by decide) hu rfl (fun h => h) fun u hu =>
  stepLook d L (runs_wipe q f) hq 14 (by decide) hu rfl (fun h => h) fun u hu =>
  stepLook d L (runs_wipe q f) hq 15 (by decide) hu rfl (fun h => h) fun u hu =>
  stepLook d L (runs_wipe q f) hq 16 (by decide) hu rfl (fun h => h) fun u hu =>
  stepLook d L (runs_wipe q f) hq 17 (by decide) hu rfl (fun h => h) fun u hu =>
  stepLook d L (runs_wipe q f) hq 18 (by decide) hu rfl (fun h => h) fun u hu =>
  finish d L (next u hu)

theorem part10_run {Q : IVec S16 32 → sProp 𝕄} {R : sProp 𝕄} {q : S8x64.Idx → BitVec 32} (hq : ∀ p, (q p).toNat < 1024) {f : Vec F S8192 .f32} {u : Vec F S1x16 .i32} (hu : Tok q 4 48 u)
    (next : ∀ u : Vec F S1x16 .i32, Tok q 6 16 u → iprop(R ∗ held d L q (wipe q f 25)) ⊢ Q (k0_pay63 u)) :
    iprop(R ∗ held d L q (wipe q f 19)) ⊢ wp frame (wpE (defs₀ (F := F)) 𝒱₀ (tile d L) none) Set.univ
      (part10 F L (k0_pay70 (F := F)) (k0_pay57 u)) Q := by
  unfold part10; rw [k0_part10_eq_skeleton]; unfold k0_part10_skel
  simp only [Prog.lift, Prog.bind_op, Prog.bind_ret, Prog.pure_eq_ret]
  exact
  stepLook d L (runs_wipe q f) hq 19 (by decide) hu rfl (fun h => h) fun u hu =>
  stepLook d L (runs_wipe q f) hq 20 (by decide) hu rfl (fun h => h) fun u hu =>
  stepLook d L (runs_wipe q f) hq 21 (by decide) hu rfl (fun h => h) fun u hu =>
  stepLook d L (runs_wipe q f) hq 22 (by decide) hu rfl (fun h => h) fun u hu =>
  stepLook d L (runs_wipe q f) hq 23 (by decide) hu rfl (fun h => h) fun u hu =>
  stepLook d L (runs_wipe q f) hq 24 (by decide) hu rfl (fun h => h) fun u hu =>
  finish d L (next u hu)

theorem part11_run {Q : IVec S16 32 → sProp 𝕄} {R : sProp 𝕄} {q : S8x64.Idx → BitVec 32} (hq : ∀ p, (q p).toNat < 1024) {f : Vec F S8192 .f32} {u : Vec F S1x16 .i32} (hu : Tok q 6 16 u)
    (next : ∀ u : Vec F S1x16 .i32, Tok q 7 48 u → iprop(R ∗ held d L q (wipe q f 31)) ⊢ Q (k0_pay69 u)) :
    iprop(R ∗ held d L q (wipe q f 25)) ⊢ wp frame (wpE (defs₀ (F := F)) 𝒱₀ (tile d L) none) Set.univ
      (part11 F L (k0_pay70 (F := F)) (k0_pay63 u)) Q := by
  unfold part11; rw [k0_part11_eq_skeleton]; unfold k0_part11_skel
  simp only [Prog.lift, Prog.bind_op, Prog.bind_ret, Prog.pure_eq_ret]
  exact
  stepLook d L (runs_wipe q f) hq 25 (by decide) hu rfl (fun h => h) fun u hu =>
  stepLook d L (runs_wipe q f) hq 26 (by decide) hu rfl (fun h => h) fun u hu =>
  stepLook d L (runs_wipe q f) hq 27 (by decide) hu rfl (fun h => h) fun u hu =>
  stepLook d L (runs_wipe q f) hq 28 (by decide) hu rfl (fun h => h) fun u hu =>
  stepLook d L (runs_wipe q f) hq 29 (by decide) hu rfl (fun h => h) fun u hu =>
  stepLook d L (runs_wipe q f) hq 30 (by decide) hu rfl (fun h => h) fun u hu =>
  finish d L (next u hu)

end Cert.KernelIdeal.Call

end
-- ==== Proof.KernelIdeal.Fill.lean ====
/- The loop that fills a tile's table with zeros, sixteen entries a trip. -/
module

public import proofs.«01_k».proof.Proof.KernelIdeal.Parts
public import Idealize.ShloMosaic.Lib.Pipeline.Value

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- A table of zeros. -/
abbrev zeros : Vec F S8192 .f32 := fun _ => zero

theorem hist_none (q : S8x64.Idx → BitVec 32) : (zeros : Vec F S8192 .f32) = hist q 0 := rfl

/-- Zero up to entry `16 k`. -/
def Filled (k : Nat) (f : Vec F S8192 .f32) : Prop := ∀ j : S8192.Idx, (j 0).val < 16 * k → f j = zero

theorem filled_zero (f : Vec F S8192 .f32) : Filled 0 f := fun j hj => absurd hj (by omega)

theorem filled_all {f : Vec F S8192 .f32} (h : Filled 512 f) : f = zeros :=
  funext fun j => h j (by have := (j 0).isLt; exact this)

theorem filled_step (k : Fin k0_t1_loop.trips) {f : Vec F S8192 .f32} (h : Filled k.val f) :
    Filled (k.val + 1) ((bufH.access (Rect.unit (s := S8192) (k0_off1 k) S16.size (k0_off1_inb k))).write (Elt F) f (k0_pay70 (F := F)) Finset.univ) := by
  intro j hj
  have e := View.write_whole_slice_unit (Val := Elt F) cc0_scratch1 (k0_off1 k) S16.size (k0_off1_inb k) f (k0_pay70 (F := F))
  refine (congrFun e j).trans ?_
  unfold updateSlice
  split
  · rfl
  · next hin =>
    refine h j ?_
    have h0 : ¬ (16 * k.val ≤ (j 0).val ∧ (j 0).val < 16 * k.val + 16) := by
      intro h
      refine hin fun a => ?_
      match a with
      | 0 =>
        have ho : k0_off1 k 0 = 16 * k.val := congrFun (k0_off1_eq k) 0
        rw [← ho] at h; exact h
    omega

/-- What the filling holds after `k` trips. -/
abbrev filling (R : sProp 𝕄) (k : Nat) : sProp 𝕄 := iprop(R ∗ ∃ f : Vec F S8192 .f32, ⌜Filled k f⌝ ∗ (bufH.view.loc (tile d L) ↦{fullShare} f))

theorem trip1_run (R : sProp 𝕄) (k : Fin k0_t1_loop.trips) :
    filling d L R k.val ⊢ wp frame (wpE (defs₀ (F := F)) 𝒱₀ (tile d L) none) Set.univ (trip1 F L k ⟨⟩) (fun _ => filling d L R (k.val + 1)) := by
  unfold trip1 k0_t1_body
  simp only [Prog.lift, Prog.bind_op, Prog.bind_ret, Prog.pure_eq_ret]
  iintro ⟨HR, %f, %hf, Hf⟩
  iapply (wp_load 𝒱₀ (tile d L) none Set.univ (m := bufH) (S := Finset.univ) (Finset.subset_univ _)) $$ Hf
  iintro Hf
  iapply (wp_store 𝒱₀ (tile d L) none Set.univ (m := bufH) (r := Rect.unit (s := S8192) (k0_off1 k) S16.size (k0_off1_inb k)) (S := Finset.univ) (Finset.subset_univ _)) $$ Hf
  iintro Hf
  rw [wp_ret]
  imodintro
  isplitl [HR]; · iexact HR
  iexists _
  isplitr
  · ipureintro; exact filled_step k hf
  iexact Hf

theorem trips1 : k0_t1_loop.trips = 512 := by decide +kernel

/-- The loop at the head of a program. -/
theorem fill {α : Type} {Q : α → sProp 𝕄} {R : sProp 𝕄} {f : Vec F S8192 .f32} {k : Unit → Prog (TpuEff nD τ sig (Elt F) Λ₀ (.scVector (cV L) (jV L))) α}
    (next : iprop(R ∗ (bufH.view.loc (tile d L) ↦{fullShare} (zeros : Vec F S8192 .f32))) ⊢ wp frame (wpE (defs₀ (F := F)) 𝒱₀ (tile d L) none) Set.univ (k ⟨⟩) Q) :
    iprop(R ∗ (bufH.view.loc (tile d L) ↦{fullShare} f))
      ⊢ wp frame (wpE (defs₀ (F := F)) 𝒱₀ (tile d L) none) Set.univ (Scf.Loop.for k0_t1_loop k0_t1_ok ⟨⟩ (trip1 F L) >>= k) Q := by
  iintro ⟨HR, Hf⟩
  iapply (Scf.wp_for_bind frame (wpE (defs₀ (F := F)) 𝒱₀ (tile d L) none) Set.univ k0_t1_loop.lb k0_t1_loop.ub k0_t1_loop.st k0_t1_ok ⟨⟩ (trip1 F L)
    (fun k _ => filling d L R k) (fun k _ => trip1_run d L R k)) $$ [HR Hf]
  · isplitl [HR]; · iexact HR
    iexists f
    isplitr
    · ipureintro; exact filled_zero f
    iexact Hf
  iintro %acc ⟨HR, %f', %hf', Hf⟩
  have hz : f' = zeros := filled_all (trips1 ▸ hf')
  subst hz
  iapply next
  isplitl [HR]; · iexact HR
  iexact Hf

end Cert.KernelIdeal.Call

end
-- ==== Proof.KernelIdeal.Copies.lean ====
/- A copy and its wait, and a gather of rows and its wait, as one step each. -/
module

public import proofs.«01_k».proof.Proof.KernelIdeal.Turn

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- What a tile holds to wait: the levels, and what it owes with the waits it has made. -/
abbrev Talk (O : CellTallies nD τ sig (HIx 1)) (W : Waits sig (HIx 1)) : sProp 𝕄 :=
  iprop(levAts (K (F := F)).L (K (F := F)).lev ∗ ∃ W', ⌜∀ p ∈ W', p ∈ W ∨ p.2 = none⌝ ∗ owes (tile d L) O W')

variable {O : CellTallies nD τ sig (HIx 1)} {W : Waits sig (HIx 1)}

/-- A copy and its wait: the destination's elements come back at `g`, which is what the copy wrote there. -/
theorem copy {α : Type} {Q : α → sProp 𝕄} {R : sProp 𝕄} (hO : ∀ g, O g none = 0) {sp sp' : Space} {s : Shape} {e : EltTy} (hs : 0 < s.numel)
    {src src' : Memref sig .scVector sp s e} {dst : Memref sig .scVector sp' s e} {sem : DmaSem sig}
    {hsrc : src.view.WordExact} {hdst : dst.view.WordExact} {hsem : DmaTarget.Typed (nD := nD) (p := .scVector (cV L) (jV L)) sp (.dma sem) (.here dst)} {hw : src'.view.WordExact} {hw' : dst.view.WordExact}
    {k : PUnit → Prog (TpuEff nD τ sig (Elt F) Λ₀ (.scVector (cV L) (jV L))) α}
    {S : Finset (Idx (src.view.loc (tile d L)))} {Sd : Finset (Idx (dst.view.loc (tile d L)))} {q : PosShare TreeShare}
    {fs : Buf (Elt F) (src.view.loc (tile d L))} {fd g : Buf (Elt F) (dst.view.loc (tile d L))}
    (hS : src.view.set ⊆ S) (hSd : dst.view.set ⊆ Sd)
    (hg : ∀ i ∈ Sd, dst.view.write (Elt F) fd (src.view.read (Elt F) fs) Finset.univ i = g i)
    (next : iprop(R ∗ (src.view.loc (tile d L) ↦[S]{q} fs) ∗ (dst.view.loc (tile d L) ↦[Sd]{fullShare} g) ∗ semVal (tile d L, SemLoc.dma sem) 0 ∗ Talk d L O W)
      ⊢ wp frame (wpE (defs₀ (F := F)) 𝒱₀ (tile d L) none) Set.univ (k ⟨⟩) Q) :
    iprop(R ∗ (src.view.loc (tile d L) ↦[S]{q} fs) ∗ (dst.view.loc (tile d L) ↦[Sd]{fullShare} fd) ∗ semVal (tile d L, SemLoc.dma sem) 0 ∗ Talk d L O W)
      ⊢ wp frame (wpE (defs₀ (F := F)) 𝒱₀ (tile d L) none) Set.univ
          (.op (.enqueueDma src (.here dst) (.dma sem) hsrc hdst hsem) fun _ => .op (.waitDma2 sem src' dst hw hw') k) Q := by
  iintro ⟨HR, Hs, Hd, Hsem, #Hlv, %W', %hW', HO⟩
  ihave Hsp := (pointsTo_split_subset (q := q) (f := fs) hS).1 $$ Hs
  icases Hsp with ⟨Hs, Hsr⟩
  iapply (Transfers.wp_dmaLocal countersEmb 𝒱₀ (tile d L) none (src := src) (via := .same) (dst := dst) (sm := .dma sem) (hsrc := hsrc) (hdst := hdst) (hsem := hsem)
    (q := q) (fs := fs) (fd := fd) (default : HIx 1) (dst.view.amount (.dma sem)) rfl (View.amount_pos _ _ hs) hSd) $$ [Hs Hd Hsem]
  · isplitl [Hs]; · iexact Hs
    isplitl [Hd]; · iexact Hd
    iexact Hsem
  iintro Hfl
  iapply (Transfers.wp_waitLocalO countersEmb 𝒱₀ (tile d L) none (default : HIx 1) (rfl : dst.view.dmaCredit = _)) $$ [Hfl HO]
  · isplitl [Hfl]; · iexact Hfl
    isplitl [HO]; · iexact HO
    iapply ((K (F := F)).mayWait_none (SemLoc.dma sem) hO); iexact Hlv
  iintro ⟨⟨Hd, Hs⟩, Hsem, HO⟩
  ihave Hs' := (pointsTo_split_subset (q := q) (f := fs) hS).2 $$ [Hs Hsr]
  · isplitl [Hs] <;> iassumption
  ihave Hd' := (Entails.of_eq (pointsTo_congr hg)) $$ Hd
  iapply next
  isplitl [HR]; · iexact HR
  isplitl [Hs']; · iexact Hs'
  isplitl [Hd']; · iexact Hd'
  isplitl [Hsem]; · iexact Hsem
  isplitr; · iexact Hlv
  iexists (insert (SemLoc.dma sem, (default : HIx 1)) W'); isplitr
  · ipureintro; intro p hp
    rcases Finset.mem_insert.mp hp with hp | hp
    · exact .inr (hp ▸ rfl)
    · exact hW' p hp
  · iexact HO

/-- A gather of rows by the tile's index scratch into its row scratch, and its wait. -/
theorem fetchRows {α : Type} {Q : α → sProp 𝕄} {R : sProp 𝕄} (hO : ∀ g, O g none = 0) {s₀ : Shape}
    {src src' : Memref sig .scVector .hbm s₀ .f32} (hgat : s₀.Gathers 0 S128x128) {hn : S128.numel = S128x128.size hgat.axis'} {sem : DmaSem sig}
    {hp : (tile d L).2.kind = .scVector} {hsrc : src.view.WordExact} {he : EltTy.f32.bits = 32} {hsp : Space.hbm = .hbm ∨ Space.hbm = .shared} {hr : s₀.StreamRows 0}
    {hw : src'.view.WordExact} {hw' : bufR.view.WordExact}
    {k : PUnit → Prog (TpuEff nD τ sig (Elt F) Λ₀ (.scVector (cV L) (jV L))) α} {q : PosShare TreeShare}
    {fs : Buf (Elt F) (src.view.loc (tile d L))} {fd g : Vec F S128x128 .f32} {fo : IVec S128 32}
    (hN : ∑ j, (bufR.slice (S128x128.rowRect hgat.axis' j) (S128x128.stride_rowRect hgat.axis' j)).view.dmaCredit = bufR.view.dmaCredit)
    (hin : ∀ x, (fo x).toNat < s₀.size hgat.axis)
    (hg : ∀ h h', SparseCore.gatherPayload (F := F) (e := .f32) hgat (src.view.read (Elt F) fs) (SparseCore.rows (F := F) fo h h') = g)
    (next : iprop(R ∗ (src.view.loc (tile d L) ↦{q} fs) ∗ (bufR.view.loc (tile d L) ↦{fullShare} g) ∗ (bufI.view.loc (tile d L) ↦{fullShare} fo)
        ∗ semVal (tile d L, SemLoc.dma sem) 0 ∗ Talk d L O W)
      ⊢ wp frame (wpE (defs₀ (F := F)) 𝒱₀ (tile d L) none) Set.univ (k ⟨⟩) Q) :
    iprop(R ∗ (src.view.loc (tile d L) ↦{q} fs) ∗ (bufR.view.loc (tile d L) ↦{fullShare} fd) ∗ (bufI.view.loc (tile d L) ↦{fullShare} fo)
        ∗ semVal (tile d L, SemLoc.dma sem) 0 ∗ Talk d L O W)
      ⊢ wp frame (wpE (defs₀ (F := F)) 𝒱₀ (tile d L) none) Set.univ
          (SparseCore.enqueueIndirectGather hp src bufR hgat bufI hn sem hsrc he hsp hr >>= fun _ =>
            SparseCore.waitIndirectGather sem src' bufR hw hw' >>= k) Q := by
  simp only [SparseCore.waitIndirectGather_bind]
  have hrs : bufR.view.set = Finset.univ := View.set_whole _
  have his : bufI.view.set = Finset.univ := View.set_whole _
  iintro ⟨HR, Hs, Hd, Hi, Hsem, #Hlv, %W', %hW', HO⟩
  ihave Hsp := (pointsTo_split_subset (q := q) (f := fs) (S := Finset.univ) (Finset.subset_univ src.view.set)).1 $$ Hs
  icases Hsp with ⟨Hs, Hsr⟩
  ihave Hd' := (Entails.of_eq (congrArg (fun I => (bufR.view.loc (tile d L) ↦[I]{fullShare} fd : sProp 𝕄)) hrs.symm)) $$ Hd
  ihave Hi' := (Entails.of_eq (congrArg (fun I => (bufI.view.loc (tile d L) ↦[I]{fullShare} fo : sProp 𝕄)) his.symm)) $$ Hi
  iapply (SparseCore.wp_indirectGatherLocal countersEmb 𝒱₀ (tile d L) none (hg := hgat) (fs := fs) (fd := fd) (fo := fo) (default : HIx 1)
      bufR.view.dmaCredit hN (by decide) hin) $$ [Hs Hd' Hi' Hsem]
  · isplitl [Hs]; · iexact Hs
    isplitl [Hd']; · iexact Hd'
    isplitl [Hi']; · iexact Hi'
    iexact Hsem
  iintro Hfl
  iapply (Transfers.wp_waitLocalO countersEmb 𝒱₀ (tile d L) none (default : HIx 1) (rfl : bufR.view.dmaCredit = _)) $$ [Hfl HO]
  · isplitl [Hfl]; · iexact Hfl
    isplitl [HO]; · iexact HO
    iapply ((K (F := F)).mayWait_none (SemLoc.dma sem) hO); iexact Hlv
  iintro ⟨⟨Hd, Hs, Hi⟩, Hsem, HO⟩
  ihave Hs' := (pointsTo_split_subset (q := q) (f := fs) (S := Finset.univ) (Finset.subset_univ src.view.set)).2 $$ [Hs Hsr]
  · isplitl [Hs] <;> iassumption
  ihave Hd' := (Entails.of_eq (show (bufR.view.loc (tile d L) ↦[bufR.view.set]{fullShare}
      bufR.view.write (Elt F) fd (SparseCore.gatherPayload (F := F) (e := .f32) hgat (src.view.read (Elt F) fs)
        (SparseCore.rows (F := F) (bufI.view.read (Elt F) fo) hn hin)) Finset.univ : sProp 𝕄) = (bufR.view.loc (tile d L) ↦{fullShare} g) from
    congrArg₂ (fun I f => (bufR.view.loc (tile d L) ↦[I]{fullShare} f : sProp 𝕄)) hrs
      ((View.write_whole_univ cc0_scratch3 fd _).trans (hg hn hin)))) $$ Hd
  ihave Hi' := (Entails.of_eq (congrArg (fun I => (bufI.view.loc (tile d L) ↦[I]{fullShare} fo : sProp 𝕄)) his)) $$ Hi
  iapply next
  isplitl [HR]; · iexact HR
  isplitl [Hs']; · iexact Hs'
  isplitl [Hd']; · iexact Hd'
  isplitl [Hi']; · iexact Hi'
  isplitl [Hsem]; · iexact Hsem
  isplitr; · iexact Hlv
  iexists (insert (SemLoc.dma sem, (default : HIx 1)) W'); isplitr
  · ipureintro; intro p hp
    rcases Finset.mem_insert.mp hp with hp | hp
    · exact .inr (hp ▸ rfl)
    · exact hW' p hp
  · iexact HO

end Cert.KernelIdeal.Call

end
-- ==== Proof.KernelIdeal.Fetch.lean ====
/- The rows a tile gathers: which entries of the arrays its copies touch, and what a gather delivers. -/
module

public import proofs.«01_k».proof.Proof.KernelIdeal.Parts
public import proofs.«01_k».proof.Proof.KernelIdeal.Copies
public import Idealize.ShloMosaic.Lib.Pipeline.Value

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (L : grid0.Coords)

/-- A tile's position `p` of an index array. -/
def bandIx (b : Nat) (p : S128.Idx) : S4096.Idx := fun a => match a with
  | 0 => ⟨(128 * b + (p 0).val) % 4096, Nat.mod_lt _ (by decide)⟩

/-- A tile's position `y` of a result of rows. -/
def bandRow (b : Nat) (y : S128x128.Idx) : S4096x128.Idx := fun a => match a with
  | 0 => ⟨(128 * b + (y 0).val) % 4096, Nat.mod_lt _ (by decide)⟩
  | 1 => y 1

abbrev ixRect : Rect S4096 := Rect.unit (s := S4096) (k0_off2 L) S128.size (k0_off2_inb L)
abbrev rowRect : Rect S4096x128 := Rect.unit (s := S4096x128) (k0_off3 L) S128x128.size (k0_off3_inb L)

theorem off2_val : k0_off2 L 0 = 128 * (no L).val := by
  have h0 : (L 0).val < 2 := (L 0).isLt
  refine (congrFun (k0_off2_eq L) 0).trans ?_
  show 256 * (L 1).val + 128 * (L 0).val = 128 * (2 * (L 1).val + (L 0).val)
  omega
theorem off3_val : k0_off3 L 0 = 128 * (no L).val := by
  refine (congrFun (k0_off3_eq L) 0).trans ?_
  show 256 * (L 1).val + 128 * (L 0).val = 128 * (2 * (L 1).val + (L 0).val)
  omega
theorem off3_lane : k0_off3 L 1 = 0 := congrFun (k0_off3_eq L) 1

theorem ixRect_sub : (ixRect L).set ⊆ ixB (no L).val := by
  intro j hj
  have h0 : k0_off2 L 0 ≤ (j 0).val ∧ (j 0).val < k0_off2 L 0 + 128 := Rect.mem_set_unit.mp hj 0
  rw [off2_val] at h0
  rw [mem_band]; omega

theorem rowRect_sub : (rowRect L).set ⊆ rowB (no L).val := by
  intro j hj
  have h0 : k0_off3 L 0 ≤ (j 0).val ∧ (j 0).val < k0_off3 L 0 + 128 := Rect.mem_set_unit.mp hj 0
  rw [off3_val] at h0
  rw [mem_band]; omega

theorem ixRect_emb (p : S128.Idx) : (ixRect L).emb p = bandIx (no L).val p := by
  funext a
  refine Fin.ext ?_
  rw [Rect.emb_apply]
  have hb := (no L).isLt
  match a with
  | 0 =>
    have hp : (p 0).val < 128 := (p 0).isLt
    refine (congrArg (fun n => n + 1 * (p 0).val) (off2_val L)).trans ?_
    show 128 * (no L).val + 1 * (p 0).val = (128 * (no L).val + (p 0).val) % 4096
    omega

abbrev posS : Memref sig .scVector .hbm S128 .i32 := posV.slice (ixRect L) (fun _ => rfl)
abbrev sideS : Memref sig .scVector .hbm S128 .i32 := sideV.slice (ixRect L) (fun _ => rfl)
abbrev pS : Memref sig .scVector .hbm S128x128 .f32 := pV.slice (rowRect L) (fun _ => rfl)
abbrev dS : Memref sig .scVector .hbm S128x128 .f32 := dV.slice (rowRect L) (fun _ => rfl)

theorem posS_sub : (posS L).view.set ⊆ ixB (no L).val := (View.set_slice_whole posR (ixRect L)).le.trans (ixRect_sub L)
theorem sideS_sub : (sideS L).view.set ⊆ ixB (no L).val := (View.set_slice_whole sideR (ixRect L)).le.trans (ixRect_sub L)
theorem pS_sub : (pS L).view.set ⊆ rowB (no L).val := (View.set_slice_whole pR (rowRect L)).le.trans (rowRect_sub L)
theorem dS_sub : (dS L).view.set ⊆ rowB (no L).val := (View.set_slice_whole dR (rowRect L)).le.trans (rowRect_sub L)

theorem posS_read (f : S4096.Idx → BitVec 32) : (posS L).view.read (Elt F) f = fun p => f (bandIx (no L).val p) :=
  funext fun p => congrArg f (ixRect_emb L p)
theorem sideS_read (f : S4096.Idx → BitVec 32) : (sideS L).view.read (Elt F) f = fun p => f (bandIx (no L).val p) :=
  funext fun p => congrArg f (ixRect_emb L p)

/-- The slice of an update of the tile's rows is the update's rows. -/
theorem rows_write {f : S4096x128.Idx → F .f32} {w : S4096x128.Idx → F .f32} {j : S4096x128.Idx} (hj : j ∈ rowB (no L).val) :
    updateSlice f (fun y : S128x128.Idx => w (bandRow (no L).val y)) (k0_off3 L) ⟨rfl, k0_off3_inb L⟩ j = w j := by
  rw [mem_band] at hj
  have hl : (j 1).val < 128 := (j 1).isLt
  unfold updateSlice
  rw [dif_pos (fun a => by
    match a with
    | 0 =>
      show k0_off3 L 0 ≤ (j 0).val ∧ (j 0).val < k0_off3 L 0 + 128
      rw [off3_val]; omega
    | 1 =>
      show k0_off3 L 1 ≤ (j 1).val ∧ (j 1).val < k0_off3 L 1 + 128
      rw [off3_lane]; omega)]
  have hlt : (j 0).val < 4096 := (j 0).isLt
  refine congrArg w (funext fun a => Fin.ext ?_)
  match a with
  | 0 =>
    show (128 * (no L).val + ((j 0).val - k0_off3 L 0)) % 4096 = (j 0).val
    rw [off3_val]; omega
  | 1 =>
    show (j 1).val - k0_off3 L 1 = (j 1).val
    rw [off3_lane]; omega

theorem pS_write (f w : S4096x128.Idx → F .f32) (j : S4096x128.Idx) (hj : j ∈ rowB (no L).val) :
    (pS L).view.write (Elt F) f (fun y => w (bandRow (no L).val y)) Finset.univ j = w j :=
  (congrFun (View.write_whole_slice_unit (Val := Elt F) pR (k0_off3 L) S128x128.size (k0_off3_inb L) f _) j).trans (rows_write L hj)
theorem dS_write (f w : S4096x128.Idx → F .f32) (j : S4096x128.Idx) (hj : j ∈ rowB (no L).val) :
    (dS L).view.write (Elt F) f (fun y => w (bandRow (no L).val y)) Finset.univ j = w j :=
  (congrFun (View.write_whole_slice_unit (Val := Elt F) dR (k0_off3 L) S128x128.size (k0_off3_inb L) f _) j).trans (rows_write L hj)

/-! ## What a gather delivers -/

abbrev posWS : Memref sig .scVector .hbm S20x128 .f32 := posWV.slice (Rect.unit (s := S20x128) ![0, 0] S20x128.size inb_S20x128_S20x128_0_0) (fun _ => rfl)
abbrev sideWS : Memref sig .scVector .hbm S2x128 .f32 := sideWV.slice (Rect.unit (s := S2x128) ![0, 0] S2x128.size inb_S2x128_S2x128_0_0) (fun _ => rfl)

/-- The offset list's word for a row. -/
theorem rows_val {z : Nat} (fo : IVec S128 32) (h : S128.numel = 128) (h' : ∀ x, (fo x).toNat < z) (k : Fin 128) (p : S128.Idx) (hp : (p 0).val = k.val) :
    (SparseCore.rows (F := F) fo h h' k).val = (fo p).toNat := by
  have e : S128.rowMajor.symm (k.cast h.symm) = p := by
    rw [Equiv.symm_apply_eq]
    refine Fin.ext ?_
    rw [Shape.rowMajor_val_one]
    exact hp.symm
  show (fo (S128.rowMajor.symm (k.cast h.symm))).toNat = _
  rw [e]

theorem posWS_gather (w : S20x128.Idx → F .f32) (ix : S4096.Idx → BitVec 32) (hix : ∀ j, (ix j).toNat < 20) (b : Nat) (h h') :
    SparseCore.gatherPayload (F := F) (e := .f32) gathers_S20x128_S128x128 (posWS.view.read (Elt F) w) (SparseCore.rows (F := F) (fun p : S128.Idx => ix (bandIx b p)) h h')
      = fun y => rows20 w ix (bandRow b y) := by
  funext y
  unfold SparseCore.gatherPayload rows20
  show w ((Rect.unit (s := S20x128) ![0, 0] S20x128.size inb_S20x128_S20x128_0_0).emb _) = _
  refine congrArg w (funext fun a => Fin.ext ?_)
  rw [Rect.emb_apply]
  match a with
  | 0 =>
    have e := congrArg Fin.val (Shape.Gathers.idx_axis gathers_S20x128_S128x128 (SparseCore.rows (F := F) (fun p : S128.Idx => ix (bandIx b p)) h h') y)
    have e' := rows_val (F := F) (fun p : S128.Idx => ix (bandIx b p)) h h' (y 0) (fun a => match a with | 0 => y 0) rfl
    have hm := hix (rowOf (bandRow b y))
    have hr : bandIx b (fun a => match a with | 0 => y 0) = rowOf (bandRow b y) := by
      funext a
      match a with
      | 0 => rfl
    rw [hr] at e'
    refine Eq.trans ((Nat.zero_add _).trans ((Nat.one_mul _).trans (e.trans e'))) ?_
    exact (Nat.mod_eq_of_lt hm).symm
  | 1 =>
    have e := Shape.Gathers.idx_of_ne gathers_S20x128_S128x128 (SparseCore.rows (F := F) (fun p : S128.Idx => ix (bandIx b p)) h h') y 1 (by decide)
    exact (Nat.zero_add _).trans ((Nat.one_mul _).trans e)

theorem sideWS_gather (w : S2x128.Idx → F .f32) (ix : S4096.Idx → BitVec 32) (hix : ∀ j, (ix j).toNat < 2) (b : Nat) (h h') :
    SparseCore.gatherPayload (F := F) (e := .f32) gathers_S2x128_S128x128 (sideWS.view.read (Elt F) w) (SparseCore.rows (F := F) (fun p : S128.Idx => ix (bandIx b p)) h h')
      = fun y => rows2 w ix (bandRow b y) := by
  funext y
  unfold SparseCore.gatherPayload rows2
  show w ((Rect.unit (s := S2x128) ![0, 0] S2x128.size inb_S2x128_S2x128_0_0).emb _) = _
  refine congrArg w (funext fun a => Fin.ext ?_)
  rw [Rect.emb_apply]
  match a with
  | 0 =>
    have e := congrArg Fin.val (Shape.Gathers.idx_axis gathers_S2x128_S128x128 (SparseCore.rows (F := F) (fun p : S128.Idx => ix (bandIx b p)) h h') y)
    have e' := rows_val (F := F) (fun p : S128.Idx => ix (bandIx b p)) h h' (y 0) (fun a => match a with | 0 => y 0) rfl
    have hm := hix (rowOf (bandRow b y))
    have hr : bandIx b (fun a => match a with | 0 => y 0) = rowOf (bandRow b y) := by
      funext a
      match a with
      | 0 => rfl
    rw [hr] at e'
    refine Eq.trans ((Nat.zero_add _).trans ((Nat.one_mul _).trans (e.trans e'))) ?_
    exact (Nat.mod_eq_of_lt hm).symm
  | 1 =>
    have e := Shape.Gathers.idx_of_ne gathers_S2x128_S128x128 (SparseCore.rows (F := F) (fun p : S128.Idx => ix (bandIx b p)) h h') y 1 (by decide)
    exact (Nat.zero_add _).trans ((Nat.one_mul _).trans e)

theorem posW_credit : ∑ j, (bufR.slice (S128x128.rowRect gathers_S20x128_S128x128.axis' j) (S128x128.stride_rowRect gathers_S20x128_S128x128.axis' j)).view.dmaCredit = bufR.view.dmaCredit := by
  decide
theorem sideW_credit : ∑ j, (bufR.slice (S128x128.rowRect gathers_S2x128_S128x128.axis' j) (S128x128.stride_rowRect gathers_S2x128_S128x128.axis' j)).view.dmaCredit = bufR.view.dmaCredit := by
  decide

end Cert.KernelIdeal.Call

end
-- ==== Proof.KernelIdeal.Chunk.lean ====
/- What one trip of the counting loop copies, and its first part: eight rows of tokens in, and the first four turns. -/
module

public import proofs.«01_k».proof.Proof.KernelIdeal.Parts
public import proofs.«01_k».proof.Proof.KernelIdeal.Copies
public import Idealize.ShloMosaic.Lib.Pipeline.Value

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-! ## The elements a trip's copies touch -/

theorem no_val : (no L).val = 2 * (L 1).val + (L 0).val := rfl

theorem trip_lt (t : Fin k0_t2_loop.trips) : t.val < 16 := Nat.lt_of_lt_of_le t.isLt k0_t2_abs.2.1

/-- The chunk of tokens trip `t` reads. -/
abbrev seqS (t : Fin k0_t2_loop.trips) : Memref sig .scVector .hbm S8x64 .i32 :=
  seqV.slice (Rect.unit (s := S4096x64) (k0_off4 L t) S8x64.size (k0_off4_inb L t)) (fun _ => rfl)

/-- The part of the flat result trip `t` writes. -/
abbrev hS (t : Fin k0_t2_loop.trips) : Memref sig .scVector .hbm S8192 .f32 :=
  hV.slice (Rect.unit (s := S4194304) (k0_off5 L t) S8192.size (k0_off5_inb L t)) (fun _ => rfl)

theorem seqS_sub (t : Fin k0_t2_loop.trips) : (seqS L t).view.set ⊆ seqB (no L).val := by
  intro j hj
  have hj' : j ∈ (Rect.unit (s := S4096x64) (k0_off4 L t) S8x64.size (k0_off4_inb L t)).set := by
    rw [← View.set_slice_whole seqR]; exact hj
  have h0 := Rect.mem_set_unit.mp hj' 0
  rw [k0_off4_eq] at h0
  have ht := trip_lt t
  have h0' : 256 * (L 1).val + 128 * (L 0).val + 8 * t.val ≤ (j 0).val ∧ (j 0).val < 256 * (L 1).val + 128 * (L 0).val + 8 * t.val + 8 := h0
  rw [mem_band, no_val]
  omega

theorem hS_sub (t : Fin k0_t2_loop.trips) : (hS L t).view.set ⊆ hB (no L).val := by
  intro j hj
  have hj' : j ∈ (Rect.unit (s := S4194304) (k0_off5 L t) S8192.size (k0_off5_inb L t)).set := by
    rw [← View.set_slice_whole hR]; exact hj
  have h0 := Rect.mem_set_unit.mp hj' 0
  rw [k0_off5_eq] at h0
  have ht := trip_lt t
  have h0' : 262144 * (L 1).val + 131072 * (L 0).val + 8192 * t.val ≤ (j 0).val ∧ (j 0).val < 262144 * (L 1).val + 131072 * (L 0).val + 8192 * t.val + 8192 := h0
  rw [mem_band, no_val]
  omega

/-- What trip `t` reads is chunk `16 b + t` of the tokens, of tile `b`. -/
theorem seqS_read (t : Fin k0_t2_loop.trips) (f : S4096x64.Idx → BitVec 32) :
    (seqS L t).view.read (Elt F) f = chunk f (16 * (no L).val + t.val) := by
  funext p
  show f ((Rect.unit (s := S4096x64) (k0_off4 L t) S8x64.size (k0_off4_inb L t)).emb p) = _
  refine congrArg f (funext fun a => Fin.ext ?_)
  rw [Rect.emb_apply]
  have e : ∀ a, k0_off4 L t a = ![256 * (L 1).val + 128 * (L 0).val + 8 * t.val, 0] a := fun a => congrFun (k0_off4_eq L t) a
  refine (congrArg (fun n => n + 1 * (p a).val) (e a)).trans ?_
  have ht := trip_lt t
  have h0 : (L 0).val < 2 := (L 0).isLt
  have h1 : (L 1).val < 16 := (L 1).isLt
  match a with
  | 0 =>
    have hp : (p 0).val < 8 := (p 0).isLt
    show 256 * (L 1).val + 128 * (L 0).val + 8 * t.val + 1 * (p 0).val = (8 * (16 * (no L).val + t.val) + (p 0).val) % 4096
    rw [no_val]
    omega
  | 1 => show 0 + 1 * (p 1).val = (p 1).val; omega

/-- The tile's part of the flat result after `k` trips: counted up to there, and as before beyond. -/
def counted (f : S4096x64.Idx → BitVec 32) (h₀ : S4194304.Idx → F .f32) (k : Nat) : S4194304.Idx → F .f32 := fun j =>
  if (j 0).val < 131072 * (no L).val + 8192 * k then countsOf f j else h₀ j

theorem counted_zero (f : S4096x64.Idx → BitVec 32) (h₀ : S4194304.Idx → F .f32) : ∀ j ∈ hB (no L).val, counted L f h₀ 0 j = h₀ j := by
  intro j hj
  rw [mem_band] at hj
  exact if_neg (by omega)

theorem counted_all (f : S4096x64.Idx → BitVec 32) (h₀ : S4194304.Idx → F .f32) : ∀ j ∈ hB (no L).val, counted L f h₀ 16 j = countsOf f j := by
  intro j hj
  rw [mem_band] at hj
  exact if_pos (by omega)

/-- The copy out of trip `t` takes the result from `t` counted chunks to `t + 1`. -/
theorem hS_write (t : Fin k0_t2_loop.trips) (f : S4096x64.Idx → BitVec 32) (h₀ : S4194304.Idx → F .f32) (j : S4194304.Idx) (hj : j ∈ hB (no L).val) :
    (hS L t).view.write (Elt F) (counted L f h₀ t.val) (hist (chunk f (16 * (no L).val + t.val)) 32) Finset.univ j = counted L f h₀ (t.val + 1) j := by
  rw [mem_band] at hj
  have ht := trip_lt t
  have e := View.write_whole_slice_unit (Val := Elt F) hR (k0_off5 L t) S8192.size (k0_off5_inb L t) (counted L f h₀ t.val) (hist (chunk f (16 * (no L).val + t.val)) 32)
  refine (congrFun e j).trans ?_
  unfold updateSlice
  have ho : k0_off5 L t 0 = 131072 * (no L).val + 8192 * t.val := by
    rw [k0_off5_eq, no_val]
    show 262144 * (L 1).val + 131072 * (L 0).val + 8192 * t.val = _
    omega
  split
  · next hin =>
    have h0 := hin 0
    have h0' : 131072 * (no L).val + 8192 * t.val ≤ (j 0).val ∧ (j 0).val < 131072 * (no L).val + 8192 * t.val + 8192 := by
      rw [← ho]; exact h0
    refine Eq.trans ?_ (if_pos (by omega)).symm
    unfold countsOf
    have hk : (j 0).val / 8192 = 16 * (no L).val + t.val := by omega
    rw [hk]
    refine congrArg _ (funext fun a => Fin.ext ?_)
    match a with
    | 0 =>
      show (j 0).val - k0_off5 L t 0 = (j 0).val % 8192
      rw [ho]; omega
  · next hin =>
    have h0 : ¬ (131072 * (no L).val + 8192 * t.val ≤ (j 0).val ∧ (j 0).val < 131072 * (no L).val + 8192 * t.val + 8192) := by
      intro h
      refine hin fun a => ?_
      match a with
      | 0 => rw [← ho] at h; exact h
    unfold counted
    by_cases hlt : (j 0).val < 131072 * (no L).val + 8192 * t.val
    · rw [if_pos hlt, if_pos (by omega)]
    · rw [if_neg hlt, if_neg (by omega)]

/-! ## The trip -/

variable {O : CellTallies nD τ sig (HIx 1)} {W : Waits sig (HIx 1)}

/-- What a trip works with besides the chunk and the table: the tokens, the flat result at `g`, and what its copies wait on. -/
abbrev desk (O : CellTallies nD τ sig (HIx 1)) (W : Waits sig (HIx 1)) (R : sProp 𝕄) (f : S4096x64.Idx → BitVec 32) (g : S4194304.Idx → F .f32) : sProp 𝕄 := iprop(
  R ∗ (seqLoc d ↦[seqB (no L).val]{fullShare} f) ∗ (hLoc d ↦[hB (no L).val]{fullShare} g)
    ∗ semVal (tile d L, SemLoc.dma cc0_scoped4.sem) 0 ∗ semVal (tile d L, SemLoc.dma cc0_scoped5.sem) 0 ∗ Talk d L O W)

theorem part1_run (hO : ∀ g, O g none = 0) {Q : (Σ' (_ : BitVec 32) (_ : Vec F S16 .i32), BitVec 32) → sProp 𝕄} {R : sProp 𝕄} {f : S4096x64.Idx → BitVec 32} (hf : ∀ j, (f j).toNat < 1024)
    {g : S4194304.Idx → F .f32} {q₀ : S8x64.Idx → BitVec 32} {z : Vec F S8192 .f32} (t : Fin k0_t2_loop.trips) (v2 : BitVec 32)
    (hz : z = hist (chunk f (16 * (no L).val + t.val)) 0)
    (next : ∀ (v12 : BitVec 32) (u : Vec F S1x16 .i32), Tok (chunk f (16 * (no L).val + t.val)) 1 0 u →
      iprop(desk d L O W R f g ∗ held d L (chunk f (16 * (no L).val + t.val)) (hist (chunk f (16 * (no L).val + t.val)) 4)) ⊢ Q ⟨v12, k0_pay5 u, 1024#32⟩) :
    iprop(desk d L O W R f g ∗ held d L q₀ z) ⊢ wp frame (wpE (defs₀ (F := F)) 𝒱₀ (tile d L) none) Set.univ
      (part1 F L v2 (k0_pay71 (F := F)) 0#32 1#32 t) Q := by
  unfold part1; rw [k0_part1_eq_skeleton]; unfold k0_part1_skel
  simp only [Prog.lift, Prog.bind_op, Prog.bind_ret, Prog.pure_eq_ret]
  have hq : ∀ p, (chunk f (16 * (no L).val + t.val) p).toNat < 1024 := fun p => hf _
  generalize hc : chunk f (16 * (no L).val + t.val) = q at *
  have key := fun k => copy (F := F) d L (k := k) (O := O) (W := W) (Q := Q) (src := seqS L t) (src' := seqS L t) (dst := bufQ) (sem := cc0_scoped4.sem)
    (S := seqB (no L).val) (Sd := Finset.univ) (q := fullShare) (fs := f) (fd := q₀) (g := q)
    (R := iprop(R ∗ (hLoc d ↦[hB (no L).val]{fullShare} g) ∗ semVal (tile d L, SemLoc.dma cc0_scoped5.sem) 0 ∗ (bufH.view.loc (tile d L) ↦{fullShare} z)))
    (hsrc := View.wordExact_bits rfl) (hdst := (Memref.isWhole_whole _).wordExact) (hsem := ⟨Or.inl rfl, trivial⟩) (hw := View.wordExact_bits rfl) (hw' := (Memref.isWhole_whole _).wordExact)
    hO (by decide) (seqS_sub L t) (Finset.subset_univ _)
    (fun i _ => congrFun ((View.write_whole_univ cc0_scratch0 q₀ _).trans ((seqS_read L t f).trans hc)) i)
  refine BIBase.Entails.trans ?_ (key _ (BIBase.Entails.trans ?_ (
    look d L (R := desk d L O W R f g) (q := q) (f := z) (r := 0) (c := 0) fun u hu => by
      rw [hz]
      exact stepLook d L (runs_hist q) hq 0 (by decide) hu rfl (fun h => h) fun u hu =>
        stepLook d L (runs_hist q) hq 1 (by decide) hu rfl (fun h => h) fun u hu =>
        stepLook d L (runs_hist q) hq 2 (by decide) hu rfl (fun h => h) fun u hu =>
        stepLook d L (runs_hist q) hq 3 (by decide) hu rfl (fun h => h) fun u hu =>
        finish d L (next _ u hu))))
  · iintro ⟨⟨HR, Hs, Hh, H4, H5, HT⟩, Hq, Hz⟩
    isplitl [HR Hh H5 Hz]
    · isplitl [HR]; · iexact HR
      isplitl [Hh]; · iexact Hh
      isplitl [H5]; · iexact H5
      iexact Hz
    isplitl [Hs]; · iexact Hs
    isplitl [Hq]; · iexact Hq
    isplitl [H4]; · iexact H4
    iexact HT
  · iintro ⟨⟨HR, Hh, H5, Hz⟩, Hs, Hq, H4, HT⟩
    isplitr [Hq Hz]
    · isplitl [HR]; · iexact HR
      isplitl [Hs]; · iexact Hs
      isplitl [Hh]; · iexact Hh
      isplitl [H4]; · iexact H4
      isplitl [H5]; · iexact H5
      iexact HT
    isplitl [Hq]; · iexact Hq
    iexact Hz

end Cert.KernelIdeal.Call

end
-- ==== Proof.KernelIdeal.Trip.lean ====
/- One trip of the counting loop: the table counted, copied out, and wiped. -/
module

public import proofs.«01_k».proof.Proof.KernelIdeal.Chunk
public import Idealize.ShloMosaic.Lib.Pipeline.Value

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

variable {O : CellTallies nD τ sig (HIx 1)} {W : Waits sig (HIx 1)}

/-- The copy of a table out to the flat result, and its wait. -/
theorem copyOut (hO : ∀ g, O g none = 0) {α : Type} {Q : α → sProp 𝕄} {R : sProp 𝕄} {f : S4096x64.Idx → BitVec 32} {g g' : S4194304.Idx → F .f32} {q : S8x64.Idx → BitVec 32}
    {T : Vec F S8192 .f32} (t : Fin k0_t2_loop.trips) (hw : ∀ i ∈ hB (no L).val, (hS L t).view.write (Elt F) g T Finset.univ i = g' i)
    {hsrc : bufH.view.WordExact} {hdst : (hS L t).view.WordExact} {hsem : DmaTarget.Typed (nD := nD) (p := .scVector (cV L) (jV L)) .vmem (.dma cc0_scoped5.sem) (.here (hS L t))}
    {hw1 : bufH.view.WordExact} {hw2 : (hS L t).view.WordExact} {k : PUnit → Prog (TpuEff nD τ sig (Elt F) Λ₀ (.scVector (cV L) (jV L))) α}
    (next : iprop(desk d L O W R f g' ∗ held d L q T) ⊢ wp frame (wpE (defs₀ (F := F)) 𝒱₀ (tile d L) none) Set.univ (k ⟨⟩) Q) :
    iprop(desk d L O W R f g ∗ held d L q T) ⊢ wp frame (wpE (defs₀ (F := F)) 𝒱₀ (tile d L) none) Set.univ
      (.op (.enqueueDma bufH (.here (hS L t)) (.dma cc0_scoped5.sem) hsrc hdst hsem) fun _ => .op (.waitDma2 cc0_scoped5.sem bufH (hS L t) hw1 hw2) k) Q := by
  refine BIBase.Entails.trans ?_ (copy (F := F) d L (O := O) (W := W) (Q := Q) (src := bufH) (src' := bufH) (dst := hS L t) (sem := cc0_scoped5.sem)
    (S := Finset.univ) (Sd := hB (no L).val) (q := fullShare) (fs := T) (fd := g) (g := g')
    (R := iprop(R ∗ (seqLoc d ↦[seqB (no L).val]{fullShare} f) ∗ semVal (tile d L, SemLoc.dma cc0_scoped4.sem) 0 ∗ (bufQ.view.loc (tile d L) ↦{fullShare} q)))
    hO h_S8192 (Finset.subset_univ _) (hS_sub L t) (fun i hi => hw i hi) (BIBase.Entails.trans ?_ next))
  · iintro ⟨⟨HR, Hs, Hh, H4, H5, HT⟩, Hq, Hz⟩
    isplitl [HR Hs H4 Hq]
    · isplitl [HR]; · iexact HR
      isplitl [Hs]; · iexact Hs
      isplitl [H4]; · iexact H4
      iexact Hq
    isplitl [Hz]; · iexact Hz
    isplitl [Hh]; · iexact Hh
    isplitl [H5]; · iexact H5
    iexact HT
  · iintro ⟨⟨HR, Hs, H4, Hq⟩, Hz, Hh, H5, HT⟩
    isplitr [Hq Hz]
    · isplitl [HR]; · iexact HR
      isplitl [Hs]; · iexact Hs
      isplitl [Hh]; · iexact Hh
      isplitl [H4]; · iexact H4
      isplitl [H5]; · iexact H5
      iexact HT
    isplitl [Hq]; · iexact Hq
    iexact Hz

theorem part6_run (hO : ∀ g, O g none = 0) {Q : IVec S16 32 → sProp 𝕄} {R : sProp 𝕄} {f : S4096x64.Idx → BitVec 32} (hf : ∀ j, (f j).toNat < 1024)
    {h₀ : S4194304.Idx → F .f32} {u : Vec F S1x16 .i32} (t : Fin k0_t2_loop.trips) (v12 : BitVec 32)
    (hu : Tok (chunk f (16 * (no L).val + t.val)) 7 0 u)
    (next : ∀ u : Vec F S1x16 .i32, Tok (chunk f (16 * (no L).val + t.val)) 0 16 u →
      iprop(desk d L O W R f (counted L f h₀ (t.val + 1)) ∗ held d L (chunk f (16 * (no L).val + t.val))
        (wipe (chunk f (16 * (no L).val + t.val)) (hist (chunk f (16 * (no L).val + t.val)) 32) 1)) ⊢ Q (k0_pay39 u)) :
    iprop(desk d L O W R f (counted L f h₀ t.val) ∗ held d L (chunk f (16 * (no L).val + t.val)) (hist (chunk f (16 * (no L).val + t.val)) 28))
      ⊢ wp frame (wpE (defs₀ (F := F)) 𝒱₀ (tile d L) none) Set.univ
      (part6 F L (k0_pay70 (F := F)) (k0_pay71 (F := F)) t v12 (k0_pay33 u) 7168#32) Q := by
  unfold part6; rw [k0_part6_eq_skeleton]; unfold k0_part6_skel
  simp only [Prog.lift, Prog.bind_op, Prog.bind_ret, Prog.pure_eq_ret]
  have hq : ∀ p, (chunk f (16 * (no L).val + t.val) p).toNat < 1024 := fun p => hf _
  have hw := hS_write (F := F) L t f h₀
  generalize hc : chunk f (16 * (no L).val + t.val) = q at *
  refine stepLook d L (runs_hist q) hq 28 (by decide) hu rfl (fun h => h) fun u hu =>
    stepLook d L (runs_hist q) hq 29 (by decide) hu rfl (fun h => h) fun u hu =>
    stepLook d L (runs_hist q) hq 30 (by decide) hu rfl (fun h => h) fun u hu =>
    step d L (runs_hist q) hq 31 (by decide) hu rfl (fun h => h) (copyOut d L hO t hw ?_)
  exact look d L (R := desk d L O W R f (counted L f h₀ (t.val + 1))) (q := q) (f := hist q 32) (r := 0) (c := 0) fun u hu =>
      stepLook d L (runs_wipe q (hist q 32)) hq 0 (by decide) hu rfl (fun h => h) fun u hu =>
        finish d L (next u hu)

theorem trip2_run (hO : ∀ g, O g none = 0) {R : sProp 𝕄} {f : S4096x64.Idx → BitVec 32} (hf : ∀ j, (f j).toNat < 1024)
    {h₀ : S4194304.Idx → F .f32} {z : Vec F S8192 .f32} (hz : ∀ q, z = hist q 0) {q₀ : S8x64.Idx → BitVec 32} (t : Fin k0_t2_loop.trips) (v2 : BitVec 32) {Q : PUnit → sProp 𝕄}
    (next : iprop(desk d L O W R f (counted L f h₀ (t.val + 1)) ∗ held d L (chunk f (16 * (no L).val + t.val)) z) ⊢ Q ⟨⟩) :
    iprop(desk d L O W R f (counted L f h₀ t.val) ∗ held d L q₀ z)
      ⊢ wp frame (wpE (defs₀ (F := F)) 𝒱₀ (tile d L) none) Set.univ
      (trip2 F L v2 (k0_pay70 (F := F)) (k0_pay71 (F := F)) t ⟨⟩) Q := by
  have hq : ∀ p, (chunk f (16 * (no L).val + t.val) p).toNat < 1024 := fun p => hf _
  unfold trip2 k0_t2_body
  simp only [wp_bind]
  refine part1_run d L hO hf t v2 (hz _) fun v12 u hu => ?_
  dsimp only
  refine part2_run d L hq hu fun u hu => ?_
  dsimp only
  refine part3_run d L hq hu fun u hu => ?_
  dsimp only
  refine part4_run d L hq hu fun u hu => ?_
  dsimp only
  refine part5_run d L hq hu fun u hu => ?_
  dsimp only
  refine part6_run d L hO hf t v12 hu fun u hu => ?_
  dsimp only
  refine part7_run d L hq hu fun u hu => ?_
  dsimp only
  refine part8_run d L hq hu fun u hu => ?_
  dsimp only
  refine part9_run d L hq hu fun u hu => ?_
  dsimp only
  refine part10_run d L hq hu fun u hu => ?_
  dsimp only
  refine part11_run d L hq hu fun u hu => ?_
  simp only [← wp_bind, Prog.lift, Prog.bind_op, Prog.bind_ret, Prog.pure_eq_ret]
  refine step d L (runs_wipe _ _) hq 31 (by decide) hu rfl (fun h => h) (finish d L ?_)
  rw [wipe_all, ← hz]
  exact next

end Cert.KernelIdeal.Call

end
-- ==== Proof.KernelIdeal.Tile.lean ====
/- A tile's whole program: the table filled, the rows gathered, and the sixteen chunks counted. -/
module

public import proofs.«01_k».proof.Proof.KernelIdeal.Fill
public import proofs.«01_k».proof.Proof.KernelIdeal.Fetch
public import proofs.«01_k».proof.Proof.KernelIdeal.Trip

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

variable {O : CellTallies nD τ sig (HIx 1)} {W : Waits sig (HIx 1)}

/-- `copy`, with the rest of the program as an assumption. -/
theorem copyK {α : Type} {Q : α → sProp 𝕄} (hO : ∀ g, O g none = 0) {sp sp' : Space} {s : Shape} {e : EltTy} (hs : 0 < s.numel)
    {src src' : Memref sig .scVector sp s e} {dst : Memref sig .scVector sp' s e} {sem : DmaSem sig}
    {hsrc : src.view.WordExact} {hdst : dst.view.WordExact} {hsem : DmaTarget.Typed (nD := nD) (p := .scVector (cV L) (jV L)) sp (.dma sem) (.here dst)} {hw : src'.view.WordExact} {hw' : dst.view.WordExact}
    {k : PUnit → Prog (TpuEff nD τ sig (Elt F) Λ₀ (.scVector (cV L) (jV L))) α}
    {S : Finset (Idx (src.view.loc (tile d L)))} {Sd : Finset (Idx (dst.view.loc (tile d L)))} {q : PosShare TreeShare}
    {fs : Buf (Elt F) (src.view.loc (tile d L))} {fd g : Buf (Elt F) (dst.view.loc (tile d L))}
    (hS : src.view.set ⊆ S) (hSd : dst.view.set ⊆ Sd)
    (hg : ∀ i ∈ Sd, dst.view.write (Elt F) fd (src.view.read (Elt F) fs) Finset.univ i = g i) :
    iprop((src.view.loc (tile d L) ↦[S]{q} fs) ∗ (dst.view.loc (tile d L) ↦[Sd]{fullShare} fd) ∗ semVal (tile d L, SemLoc.dma sem) 0 ∗ Talk d L O W)
      ⊢ iprop((((src.view.loc (tile d L) ↦[S]{q} fs) ∗ (dst.view.loc (tile d L) ↦[Sd]{fullShare} g) ∗ semVal (tile d L, SemLoc.dma sem) 0 ∗ Talk d L O W)
          -∗ wp frame (wpE (defs₀ (F := F)) 𝒱₀ (tile d L) none) Set.univ (k ⟨⟩) Q)
        -∗ wp frame (wpE (defs₀ (F := F)) 𝒱₀ (tile d L) none) Set.univ
          (.op (.enqueueDma src (.here dst) (.dma sem) hsrc hdst hsem) fun _ => .op (.waitDma2 sem src' dst hw hw') k) Q) := by
  iintro HX HK
  iapply (copy d L (R := iprop(((src.view.loc (tile d L) ↦[S]{q} fs) ∗ (dst.view.loc (tile d L) ↦[Sd]{fullShare} g) ∗ semVal (tile d L, SemLoc.dma sem) 0 ∗ Talk d L O W)
          -∗ wp frame (wpE (defs₀ (F := F)) 𝒱₀ (tile d L) none) Set.univ (k ⟨⟩) Q)) hO hs hS hSd hg (by
    iintro ⟨HK, HX⟩
    iapply HK
    iexact HX))
  isplitl [HK]; · iexact HK
  iexact HX

/-- `fetchRows`, with the rest of the program as an assumption. -/
theorem fetchRowsK {α : Type} {Q : α → sProp 𝕄} (hO : ∀ g, O g none = 0) {s₀ : Shape}
    {src src' : Memref sig .scVector .hbm s₀ .f32} (hgat : s₀.Gathers 0 S128x128) {hn : S128.numel = S128x128.size hgat.axis'} {sem : DmaSem sig}
    {hp : (tile d L).2.kind = .scVector} {hsrc : src.view.WordExact} {he : EltTy.f32.bits = 32} {hsp : Space.hbm = .hbm ∨ Space.hbm = .shared} {hr : s₀.StreamRows 0}
    {hw : src'.view.WordExact} {hw' : bufR.view.WordExact}
    {k : PUnit → Prog (TpuEff nD τ sig (Elt F) Λ₀ (.scVector (cV L) (jV L))) α} {q : PosShare TreeShare}
    {fs : Buf (Elt F) (src.view.loc (tile d L))} {fd g : Vec F S128x128 .f32} {fo : IVec S128 32}
    (hN : ∑ j, (bufR.slice (S128x128.rowRect hgat.axis' j) (S128x128.stride_rowRect hgat.axis' j)).view.dmaCredit = bufR.view.dmaCredit)
    (hin : ∀ x, (fo x).toNat < s₀.size hgat.axis)
    (hg : ∀ h h', SparseCore.gatherPayload (F := F) (e := .f32) hgat (src.view.read (Elt F) fs) (SparseCore.rows (F := F) fo h h') = g) :
    iprop((src.view.loc (tile d L) ↦{q} fs) ∗ (bufR.view.loc (tile d L) ↦{fullShare} fd) ∗ (bufI.view.loc (tile d L) ↦{fullShare} fo)
        ∗ semVal (tile d L, SemLoc.dma sem) 0 ∗ Talk d L O W)
      ⊢ iprop((((src.view.loc (tile d L) ↦{q} fs) ∗ (bufR.view.loc (tile d L) ↦{fullShare} g) ∗ (bufI.view.loc (tile d L) ↦{fullShare} fo)
        ∗ semVal (tile d L, SemLoc.dma sem) 0 ∗ Talk d L O W) -∗ wp frame (wpE (defs₀ (F := F)) 𝒱₀ (tile d L) none) Set.univ (k ⟨⟩) Q)
        -∗ wp frame (wpE (defs₀ (F := F)) 𝒱₀ (tile d L) none) Set.univ
          (SparseCore.enqueueIndirectGather hp src bufR hgat bufI hn sem hsrc he hsp hr >>= fun _ =>
            SparseCore.waitIndirectGather sem src' bufR hw hw' >>= k) Q) := by
  iintro HX HK
  iapply (fetchRows d L (R := iprop(((src.view.loc (tile d L) ↦{q} fs) ∗ (bufR.view.loc (tile d L) ↦{fullShare} g) ∗ (bufI.view.loc (tile d L) ↦{fullShare} fo)
        ∗ semVal (tile d L, SemLoc.dma sem) 0 ∗ Talk d L O W) -∗ wp frame (wpE (defs₀ (F := F)) 𝒱₀ (tile d L) none) Set.univ (k ⟨⟩) Q)) hO hgat hN hin hg (by
    iintro ⟨HK, HX⟩
    iapply HK
    iexact HX))
  isplitl [HK]; · iexact HK
  iexact HX

theorem ixs_pos : 0 < S128.numel := by decide
theorem rows_pos : 0 < S128x128.numel := by decide

/-- What the first half of the program works with: its own buffers at given contents, the index arrays, the tables, and the first result of rows. -/
abbrev half (O : CellTallies nD τ sig (HIx 1)) (W : Waits sig (HIx 1)) (I : Feed F) (f : Vec F S8192 .f32) (i : S128.Idx → BitVec 32) (r : Vec F S128x128 .f32) (p : S4096x128.Idx → F .f32) : sProp 𝕄 := iprop(
  (bufH.view.loc (tile d L) ↦{fullShare} f) ∗ (bufI.view.loc (tile d L) ↦{fullShare} i) ∗ (bufR.view.loc (tile d L) ↦{fullShare} r)
    ∗ (posLoc d ↦[ixB (no L).val]{fullShare} I.pos) ∗ (sideLoc d ↦[ixB (no L).val]{fullShare} I.side)
    ∗ (posWLoc d ↦{tq (no L)} I.posW) ∗ (sideWLoc d ↦{tq (no L)} I.sideW) ∗ (pLoc d ↦[rowB (no L).val]{fullShare} p)
    ∗ semVal (tile d L, SemLoc.dma cc0_scratch4.sem) 0 ∗ semVal (tile d L, SemLoc.dma cc0_scoped0.sem) 0
    ∗ semVal (tile d L, SemLoc.dma cc0_scoped1.sem) 0 ∗ semVal (tile d L, SemLoc.dma cc0_scoped2.sem) 0 ∗ Talk d L O W)

theorem part12_run (hO : ∀ g, O g none = 0) {I : Feed F} (hI : I.Ok) {f : Vec F S8192 .f32} {i : S128.Idx → BitVec 32} {r : Vec F S128x128 .f32}
    {Q : (Σ' (_ : BitVec 32) (_ : FVec F S16 .f32), FVec F S16 .f32) → sProp 𝕄} {R : sProp 𝕄}
    (next : ∀ v2 : BitVec 32, iprop(R ∗ half d L O W I zeros (fun p => I.side (bandIx (no L).val p)) (fun y => rows2 I.sideW I.side (bandRow (no L).val y)) (rows20 I.posW I.pos))
      ⊢ Q ⟨v2, k0_pay70 (F := F), k0_pay71 (F := F)⟩) :
    iprop(R ∗ half d L O W I f i r I.p₀) ⊢ wp frame (wpE (defs₀ (F := F)) 𝒱₀ (tile d L) none) Set.univ (part12 F L) Q := by
  unfold part12; rw [k0_part12_eq_skeleton]; unfold k0_part12_skel
  simp only [Prog.lift, Prog.bind_op, Prog.bind_ret, Prog.pure_eq_ret]
  iintro ⟨HR, Hh, Hi, Hr, Hp, Hs, HpW, HsW, Ho, Hm, H0, H1, H2, HT⟩
  iapply (fill d L (R := iprop(R ∗ (bufI.view.loc (tile d L) ↦{fullShare} i) ∗ (bufR.view.loc (tile d L) ↦{fullShare} r)
    ∗ (posLoc d ↦[ixB (no L).val]{fullShare} I.pos) ∗ (sideLoc d ↦[ixB (no L).val]{fullShare} I.side)
    ∗ (posWLoc d ↦{tq (no L)} I.posW) ∗ (sideWLoc d ↦{tq (no L)} I.sideW) ∗ (pLoc d ↦[rowB (no L).val]{fullShare} I.p₀)
    ∗ semVal (tile d L, SemLoc.dma cc0_scratch4.sem) 0 ∗ semVal (tile d L, SemLoc.dma cc0_scoped0.sem) 0
    ∗ semVal (tile d L, SemLoc.dma cc0_scoped1.sem) 0 ∗ semVal (tile d L, SemLoc.dma cc0_scoped2.sem) 0 ∗ Talk d L O W)) ?_)
  rotate_left
  · isplitr [Hh]
    · isplitl [HR]; · iexact HR
      isplitl [Hi]; · iexact Hi
      isplitl [Hr]; · iexact Hr
      isplitl [Hp]; · iexact Hp
      isplitl [Hs]; · iexact Hs
      isplitl [HpW]; · iexact HpW
      isplitl [HsW]; · iexact HsW
      isplitl [Ho]; · iexact Ho
      isplitl [Hm]; · iexact Hm
      isplitl [H0]; · iexact H0
      isplitl [H1]; · iexact H1
      isplitl [H2]; · iexact H2
      iexact HT
    iexact Hh
  iintro ⟨⟨HR, Hi, Hr, Hp, Hs, HpW, HsW, Ho, Hm, H0, H1, H2, HT⟩, Hh⟩
  iapply (copyK d L hO ixs_pos (src := posS L) (src' := posS L) (dst := bufI) (sem := cc0_scoped0.sem) (S := ixB (no L).val) (Sd := Finset.univ) (q := fullShare) (fs := I.pos) (fd := i)
    (g := fun p => I.pos (bandIx (no L).val p)) (posS_sub L) (Finset.subset_univ _)
    (fun j _ => congrFun ((View.write_whole_univ cc0_scratch2 i _).trans (posS_read (F := F) L I.pos)) j)) $$ [Hp Hi H0 HT]
  · isplitl [Hp]; · iexact Hp
    isplitl [Hi]; · iexact Hi
    isplitl [H0]; · iexact H0
    iexact HT
  iintro ⟨Hp, Hi, H0, HT⟩
  iapply (fetchRowsK d L hO gathers_S20x128_S128x128 (src := posWS) (src' := posWS) (sem := cc0_scratch4.sem) (q := tq (no L)) (fs := I.posW) (fd := r)
    (g := fun y => rows20 I.posW I.pos (bandRow (no L).val y)) (fo := fun p => I.pos (bandIx (no L).val p)) posW_credit (fun x => hI.pos _)
    (posWS_gather I.posW I.pos hI.pos (no L).val)) $$ [HpW Hr Hi Hm HT]
  · isplitl [HpW]; · iexact HpW
    isplitl [Hr]; · iexact Hr
    isplitl [Hi]; · iexact Hi
    isplitl [Hm]; · iexact Hm
    iexact HT
  iintro ⟨HpW, Hr, Hi, Hm, HT⟩
  iapply (copyK d L hO rows_pos (src := bufR) (src' := bufR) (dst := pS L) (sem := cc0_scoped1.sem) (S := Finset.univ) (Sd := rowB (no L).val) (q := fullShare)
    (fs := fun y => rows20 I.posW I.pos (bandRow (no L).val y)) (fd := I.p₀) (g := rows20 I.posW I.pos) (Finset.subset_univ _) (pS_sub L)
    (fun j hj => pS_write L I.p₀ (rows20 I.posW I.pos) j hj)) $$ [Hr Ho H1 HT]
  · isplitl [Hr]; · iexact Hr
    isplitl [Ho]; · iexact Ho
    isplitl [H1]; · iexact H1
    iexact HT
  iintro ⟨Hr, Ho, H1, HT⟩
  iapply (copyK d L hO ixs_pos (src := sideS L) (src' := sideS L) (dst := bufI) (sem := cc0_scoped2.sem) (S := ixB (no L).val) (Sd := Finset.univ) (q := fullShare) (fs := I.side)
    (fd := fun p => I.pos (bandIx (no L).val p)) (g := fun p => I.side (bandIx (no L).val p)) (sideS_sub L) (Finset.subset_univ _)
    (fun j _ => congrFun ((View.write_whole_univ cc0_scratch2 _ _).trans (sideS_read (F := F) L I.side)) j)) $$ [Hs Hi H2 HT]
  · isplitl [Hs]; · iexact Hs
    isplitl [Hi]; · iexact Hi
    isplitl [H2]; · iexact H2
    iexact HT
  iintro ⟨Hs, Hi, H2, HT⟩
  iapply (fetchRowsK d L hO gathers_S2x128_S128x128 (src := sideWS) (src' := sideWS) (sem := cc0_scratch4.sem) (q := tq (no L)) (fs := I.sideW) (fd := fun y => rows20 I.posW I.pos (bandRow (no L).val y))
    (g := fun y => rows2 I.sideW I.side (bandRow (no L).val y)) (fo := fun p => I.side (bandIx (no L).val p)) sideW_credit (fun x => hI.side _)
    (sideWS_gather I.sideW I.side hI.side (no L).val)) $$ [HsW Hr Hi Hm HT]
  · isplitl [HsW]; · iexact HsW
    isplitl [Hr]; · iexact Hr
    isplitl [Hi]; · iexact Hi
    isplitl [Hm]; · iexact Hm
    iexact HT
  iintro ⟨HsW, Hr, Hi, Hm, HT⟩
  rw [wp_ret]
  imodintro
  iapply (next _)
  isplitl [HR]; · iexact HR
  isplitl [Hh]; · iexact Hh
  isplitl [Hi]; · iexact Hi
  isplitl [Hr]; · iexact Hr
  isplitl [Hp]; · iexact Hp
  isplitl [Hs]; · iexact Hs
  isplitl [HpW]; · iexact HpW
  isplitl [HsW]; · iexact HsW
  isplitl [Ho]; · iexact Ho
  isplitl [Hm]; · iexact Hm
  isplitl [H0]; · iexact H0
  isplitl [H1]; · iexact H1
  isplitl [H2]; · iexact H2
  iexact HT

/-! ## The counting loop -/

theorem trips2 : k0_t2_loop.trips = 16 := by decide +kernel

/-- The counting loop at the head of a program. -/
theorem count (hO : ∀ g, O g none = 0) {α : Type} {Q : α → sProp 𝕄} {R : sProp 𝕄} {f : S4096x64.Idx → BitVec 32} (hf : ∀ j, (f j).toNat < 1024)
    {h₀ : S4194304.Idx → F .f32} {q₀ : S8x64.Idx → BitVec 32} {v2 : BitVec 32} {k : Unit → Prog (TpuEff nD τ sig (Elt F) Λ₀ (.scVector (cV L) (jV L))) α}
    (next : ∀ q, iprop(desk d L O W R f (countsOf f) ∗ held d L q zeros) ⊢ wp frame (wpE (defs₀ (F := F)) 𝒱₀ (tile d L) none) Set.univ (k ⟨⟩) Q) :
    iprop(desk d L O W R f h₀ ∗ held d L q₀ zeros)
      ⊢ wp frame (wpE (defs₀ (F := F)) 𝒱₀ (tile d L) none) Set.univ
        (Scf.Loop.for k0_t2_loop k0_t2_ok ⟨⟩ (trip2 F L v2 (k0_pay70 (F := F)) (k0_pay71 (F := F))) >>= k) Q := by
  iintro ⟨⟨HR, Hs, Hh, H4, H5, HT⟩, HH⟩
  ihave Hh' := (Entails.of_eq (pointsTo_congr (q := fullShare) (fun j hj => (counted_zero L f h₀ j hj).symm))) $$ Hh
  iapply (Scf.wp_for_bind frame (wpE (defs₀ (F := F)) 𝒱₀ (tile d L) none) Set.univ k0_t2_loop.lb k0_t2_loop.ub k0_t2_loop.st k0_t2_ok ⟨⟩
    (trip2 F L v2 (k0_pay70 (F := F)) (k0_pay71 (F := F)))
    (fun n _ => iprop(desk d L O W R f (counted L f h₀ n) ∗ ∃ q, held d L q zeros)) (fun t _ => by
      iintro ⟨HD, %q, HH⟩
      iapply (trip2_run d L hO hf hist_none (q₀ := q) t v2 (by
        iintro ⟨HD, HH⟩
        isplitl [HD]; · iexact HD
        iexists _; iexact HH))
      isplitl [HD]; · iexact HD
      iexact HH)) $$ [HR Hs Hh' H4 H5 HT HH]
  · isplitr [HH]
    · isplitl [HR]; · iexact HR
      isplitl [Hs]; · iexact Hs
      isplitl [Hh']; · iexact Hh'
      isplitl [H4]; · iexact H4
      isplitl [H5]; · iexact H5
      iexact HT
    iexists q₀; iexact HH
  iintro %acc ⟨⟨HR, Hs, Hh, H4, H5, HT⟩, %q, HH⟩
  ihave Hh' := (Entails.of_eq (pointsTo_congr (q := fullShare) (fun j hj => (counted_all L f h₀ j hj)))) $$ Hh
  iapply (next q)
  isplitr [HH]
  · isplitl [HR]; · iexact HR
    isplitl [Hs]; · iexact Hs
    isplitl [Hh']; · iexact Hh'
    isplitl [H4]; · iexact H4
    isplitl [H5]; · iexact H5
    iexact HT
  iexact HH

/-! ## The program -/

/-- The tile's scratch at some contents. -/
abbrev scratch : sProp 𝕄 := iprop(
  (∃ q : S8x64.Idx → BitVec 32, bufQ.view.loc (tile d L) ↦{fullShare} q) ∗ (∃ f : Vec F S8192 .f32, bufH.view.loc (tile d L) ↦{fullShare} f)
    ∗ (∃ i : S128.Idx → BitVec 32, bufI.view.loc (tile d L) ↦{fullShare} i) ∗ (∃ r : Vec F S128x128 .f32, bufR.view.loc (tile d L) ↦{fullShare} r))

/-- The tile's semaphores at rest. -/
abbrev rest : sProp 𝕄 := iprop(
  semVal (tile d L, SemLoc.dma cc0_scratch4.sem) 0 ∗ semVal (tile d L, SemLoc.dma cc0_scoped0.sem) 0 ∗ semVal (tile d L, SemLoc.dma cc0_scoped1.sem) 0
    ∗ semVal (tile d L, SemLoc.dma cc0_scoped2.sem) 0 ∗ semVal (tile d L, SemLoc.dma cc0_scoped3.sem) 0 ∗ semVal (tile d L, SemLoc.dma cc0_scoped4.sem) 0
    ∗ semVal (tile d L, SemLoc.dma cc0_scoped5.sem) 0)

theorem body_run (hO : ∀ g, O g none = 0) {I : Feed F} (hI : I.Ok) :
    iprop(before I d (no L) ∗ scratch d L ∗ rest d L ∗ Talk d L O W)
      ⊢ wp frame (wpE (defs₀ (F := F)) 𝒱₀ (tile d L) none) Set.univ (body F L)
        (fun _ => iprop(after I d (no L) ∗ scratch d L ∗ rest d L ∗ Talk d L O W)) := by
  unfold body; rw [cc0__sc_body_eq_skeleton]; unfold cc0__sc_body_skel
  simp only [Prog.lift, Prog.bind_op, Prog.bind_ret, Prog.pure_eq_ret]
  rw [wp_bind]
  iintro ⟨⟨⟨Hq, Hp, Hs, HpW, HsW⟩, Hh, Ho, Hd⟩, ⟨⟨%bq, HQ⟩, ⟨%bh, HH⟩, ⟨%bi, HI⟩, ⟨%br, HRr⟩⟩, ⟨Hm, H0, H1, H2, H3, H4, H5⟩, HT⟩
  iapply (part12_run d L (W := W) hO hI (f := bh) (i := bi) (r := br) (R := iprop((seqLoc d ↦[seqB (no L).val]{fullShare} I.seq) ∗ (hLoc d ↦[hB (no L).val]{fullShare} I.h₀)
    ∗ (dLoc d ↦[rowB (no L).val]{fullShare} I.d₀) ∗ (bufQ.view.loc (tile d L) ↦{fullShare} bq) ∗ semVal (tile d L, SemLoc.dma cc0_scoped3.sem) 0
    ∗ semVal (tile d L, SemLoc.dma cc0_scoped4.sem) 0 ∗ semVal (tile d L, SemLoc.dma cc0_scoped5.sem) 0)) fun v2 => ?_)
  rotate_left
  · isplitl [Hq Hh Hd HQ H3 H4 H5]
    · isplitl [Hq]; · iexact Hq
      isplitl [Hh]; · iexact Hh
      isplitl [Hd]; · iexact Hd
      isplitl [HQ]; · iexact HQ
      isplitl [H3]; · iexact H3
      isplitl [H4]; · iexact H4
      iexact H5
    isplitl [HH]; · iexact HH
    isplitl [HI]; · iexact HI
    isplitl [HRr]; · iexact HRr
    isplitl [Hp]; · iexact Hp
    isplitl [Hs]; · iexact Hs
    isplitl [HpW]; · iexact HpW
    isplitl [HsW]; · iexact HsW
    isplitl [Ho]; · iexact Ho
    isplitl [Hm]; · iexact Hm
    isplitl [H0]; · iexact H0
    isplitl [H1]; · iexact H1
    isplitl [H2]; · iexact H2
    iexact HT
  dsimp only
  iintro ⟨⟨Hq, Hh, Hd, HQ, H3, H4, H5⟩, HH, HI, HRr, Hp, Hs, HpW, HsW, Ho, Hm, H0, H1, H2, HT⟩
  iapply (copyK d L hO rows_pos (src := bufR) (src' := bufR) (dst := dS L) (sem := cc0_scoped3.sem) (S := Finset.univ) (Sd := rowB (no L).val) (q := fullShare)
    (fs := fun y => rows2 I.sideW I.side (bandRow (no L).val y)) (fd := I.d₀) (g := rows2 I.sideW I.side) (Finset.subset_univ _) (dS_sub L)
    (fun j hj => dS_write L I.d₀ (rows2 I.sideW I.side) j hj)) $$ [HRr Hd H3 HT]
  · isplitl [HRr]; · iexact HRr
    isplitl [Hd]; · iexact Hd
    isplitl [H3]; · iexact H3
    iexact HT
  iintro ⟨HRr, Hd, H3, HT⟩
  iapply (count d L (W := W) hO hI.seq (h₀ := I.h₀) (q₀ := bq) (v2 := v2) (R := iprop((bufI.view.loc (tile d L) ↦{fullShare} fun p => I.side (bandIx (no L).val p))
    ∗ (bufR.view.loc (tile d L) ↦{fullShare} fun y => rows2 I.sideW I.side (bandRow (no L).val y))
    ∗ (posLoc d ↦[ixB (no L).val]{fullShare} I.pos) ∗ (sideLoc d ↦[ixB (no L).val]{fullShare} I.side)
    ∗ (posWLoc d ↦{tq (no L)} I.posW) ∗ (sideWLoc d ↦{tq (no L)} I.sideW) ∗ (pLoc d ↦[rowB (no L).val]{fullShare} rows20 I.posW I.pos)
    ∗ (dLoc d ↦[rowB (no L).val]{fullShare} rows2 I.sideW I.side)
    ∗ semVal (tile d L, SemLoc.dma cc0_scratch4.sem) 0 ∗ semVal (tile d L, SemLoc.dma cc0_scoped0.sem) 0
    ∗ semVal (tile d L, SemLoc.dma cc0_scoped1.sem) 0 ∗ semVal (tile d L, SemLoc.dma cc0_scoped2.sem) 0 ∗ semVal (tile d L, SemLoc.dma cc0_scoped3.sem) 0)) fun q => ?_)
  rotate_left
  · isplitr [HQ HH]
    · isplitl [HI HRr Hp Hs HpW HsW Ho Hd Hm H0 H1 H2 H3]
      · isplitl [HI]; · iexact HI
        isplitl [HRr]; · iexact HRr
        isplitl [Hp]; · iexact Hp
        isplitl [Hs]; · iexact Hs
        isplitl [HpW]; · iexact HpW
        isplitl [HsW]; · iexact HsW
        isplitl [Ho]; · iexact Ho
        isplitl [Hd]; · iexact Hd
        isplitl [Hm]; · iexact Hm
        isplitl [H0]; · iexact H0
        isplitl [H1]; · iexact H1
        isplitl [H2]; · iexact H2
        iexact H3
      isplitl [Hq]; · iexact Hq
      isplitl [Hh]; · iexact Hh
      isplitl [H4]; · iexact H4
      isplitl [H5]; · iexact H5
      iexact HT
    isplitl [HQ]; · iexact HQ
    iexact HH
  iintro ⟨⟨⟨HI, HRr, Hp, Hs, HpW, HsW, Ho, Hd, Hm, H0, H1, H2, H3⟩, Hq, Hh, H4, H5, HT⟩, HQ, HH⟩
  rw [wp_ret]
  imodintro
  isplitl [Hq Hp Hs HpW HsW Hh Ho Hd]
  · isplitl [Hq Hp Hs HpW HsW]
    · isplitl [Hq]; · iexact Hq
      isplitl [Hp]; · iexact Hp
      isplitl [Hs]; · iexact Hs
      isplitl [HpW]; · iexact HpW
      iexact HsW
    isplitl [Hh]; · iexact Hh
    isplitl [Ho]; · iexact Ho
    iexact Hd
  isplitl [HQ HH HI HRr]
  · isplitl [HQ]; · iexists _; iexact HQ
    isplitl [HH]; · iexists _; iexact HH
    isplitl [HI]; · iexists _; iexact HI
    iexists _; iexact HRr
  isplitr [HT]
  · isplitl [Hm]; · iexact Hm
    isplitl [H0]; · iexact H0
    isplitl [H1]; · iexact H1
    isplitl [H2]; · iexact H2
    isplitl [H3]; · iexact H3
    isplitl [H4]; · iexact H4
    iexact H5
  iexact HT

end Cert.KernelIdeal.Call

end
-- ==== Proof.KernelIdeal.Obl.lean ====
/- What the launch asks of a tile: from the buffers and semaphores that a tile owns to the tile's program and back, and
   how a SparseCore's share of the call's operands is dealt to its sixteen tiles. -/
module

public import proofs.«01_k».proof.Proof.KernelIdeal.Tile

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Tile

variable (d : Dev nD) (L : grid0.Coords)

/-! ## A tile's own semaphores and buffers -/

/-- The semaphores the tile's program uses. -/
abbrev semNames : Finset (SemLoc sig) :=
  {.dma cc0_scratch4.sem, .dma cc0_scoped0.sem, .dma cc0_scoped1.sem, .dma cc0_scoped2.sem, .dma cc0_scoped3.sem, .dma cc0_scoped4.sem,
    .dma cc0_scoped5.sem}

/-- The buffers it uses. -/
abbrev bufNames : Finset (Ref sig .scVector) := {cc0_scratch0, cc0_scratch1, cc0_scratch2, cc0_scratch3}

omit [FloatOps F] in
theorem semNames_scoped : ∀ s ∈ semNames, s.isScoped .scVector = true := by decide

/-- A semaphore's name, at the tile. -/
abbrev semAt : SemLoc sig ↪ GSem nD τ sig := ⟨Prod.mk (tile d L), fun _ _ e => (Prod.mk.inj e).2⟩
/-- A buffer's name, at the tile. -/
abbrev bufAt : Ref sig .scVector ↪ DevRef τ sig := ⟨(Proc.scVector (cV L) (jV L)).devRef, Proc.devRef_injective _⟩

omit [FloatOps F] in
theorem sems_sub : semNames.map (semAt d L) ⊆ ownCells (tile d L) := fun g hg => by
  obtain ⟨s, hs, rfl⟩ := Finset.mem_map.mp hg
  exact mem_ownCells.mpr ⟨rfl, semNames_scoped s hs⟩

omit [FloatOps F] in
theorem bufs_sub : bufNames.map (bufAt L) ⊆ ownRefs (τ := τ) (sig := sig) (.scVector (cV L) (jV L)) := fun b hb => by
  obtain ⟨r, hr, rfl⟩ := Finset.mem_map.mp hb
  simp only [bufNames, Finset.mem_insert, Finset.mem_singleton] at hr
  rcases hr with rfl | rfl | rfl | rfl <;> exact SparseCore.Cfg.mem_ownRefs_of_owner rfl

/-- The semaphores the tile owns and does not use. -/
abbrev moreSems : sProp 𝕄 := bigSep (ownCells (tile d L) \ semNames.map (semAt d L)) fun g => semVal g 0
/-- The buffers it owns and does not use. -/
abbrev moreBufs : sProp 𝕄 := bigSep (ownRefs (.scVector (cV L) (jV L)) \ bufNames.map (bufAt L)) fun b =>
  iprop(∃ f, ((d, b) : Loc nD τ sig) ↦{fullShare} f)

omit [FloatOps F] in
theorem ownSems_eq : (ownSems0 (tile d L) : sProp 𝕄) = iprop(rest d L ∗ moreSems d L) := by
  unfold ownSems0
  rw [SparseCore.bigSep_sdiff_split' (sems_sub d L), SparseCore.bigSep_map]
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
theorem ownBufs_eq : (ownBufs (tile d L) : sProp 𝕄) = iprop(scratch d L ∗ moreBufs d L) := by
  unfold ownBufs
  refine (SparseCore.bigSep_sdiff_split' (bufs_sub L)).trans ?_
  rw [SparseCore.bigSep_map]
  rw [SparseCore.bigSep_insert' (by decide), SparseCore.bigSep_insert' (by decide), SparseCore.bigSep_insert' (by decide), bigSep_singleton]
  rfl

/-! ## The tile's program from what the launch deals it -/

theorem tile_run {I : Feed F} (hI : I.Ok) (O : CellTallies nD τ sig (HIx 1)) (W : Waits sig (HIx 1)) (hO : ∀ g, O g none = 0) :
    iprop(levAts (K (F := F)).L (K (F := F)).lev ∗ emp ∗ before I d (no L)
        ∗ scopedBufs (tile d L) ∗ scopedSems0 (tile d L) ∗ owes (tile d L) O W)
      ⊢ wp frame (wpE (defs₀ (F := F)) 𝒱₀ (tile d L) none) Set.univ (body F L)
          fun _ => iprop(after I d (no L) ∗ scopedBufs (tile d L) ∗ scopedSems0 (tile d L)
            ∗ ∃ W', ⌜∀ p ∈ W', p ∈ W ∨ p.2 = none ∨ p.2 = some (0 : Fin 1)⌝ ∗ owes (tile d L) O W') := by
  rw [(K (F := F)).scopedBufs_V facts d (cV L) (jV L), SparseCore.Cfg.scopedSems0_V (Val := Elt F) d (cV L) (jV L),
    show (ownBufs (V d (cV L) (jV L)) : sProp 𝕄) = _ from ownBufs_eq d L, show (ownSems0 (V d (cV L) (jV L)) : sProp 𝕄) = _ from ownSems_eq d L]
  iintro ⟨Hl, -, Hbef, ⟨Hs, Hbs⟩, ⟨Hr, Hss⟩, HO⟩
  iapply (wp_wand_r frame _ _)
  isplitl [Hl Hbef Hs Hr HO]
  · iapply (body_run (W := W) d L hO hI)
    isplitl [Hbef]; · iexact Hbef
    isplitl [Hs]; · iexact Hs
    isplitl [Hr]; · iexact Hr
    isplitl [Hl]; · iexact Hl
    iexists W; isplitr
    · ipureintro; exact fun p hp => .inl hp
    · iexact HO
  · iintro %_ ⟨Haft, Hs, Hr, -, %W', %hW', HO⟩
    isplitl [Haft]; · iexact Haft
    isplitl [Hs Hbs]; · isplitl [Hs] <;> iassumption
    isplitl [Hr Hss]; · isplitl [Hr] <;> iassumption
    iexists W'; isplitr
    · ipureintro; exact fun p hp => (hW' p hp).imp_right Or.inl
    · iexact HO

end Tile

/-! ## The launch's obligations -/

/-- A tile's coordinates from its SparseCore's number and its own. -/
def coords (c : Fin (grid0.bound 0)) (i : Fin (grid0.bound 1)) : grid0.Coords :=
  fun | 0 => c | 1 => i | ⟨_ + 2, h⟩ => absurd h (Nat.not_lt.2 (Nat.le_add_left _ _))

theorem vector_defs (c : Fin τ.nSC) (i : Fin τ.nSub) :
    defs₀ (F := F) (.scVector c i) 0 () = SparseCore.onTile hcore0 hsub0 (fun c i => body F (coords c i)) ⟨⟩ c i := rfl

variable (I : Dev nD → Feed F)

theorem tileObl (hI : ∀ d, (I d).Ok) : (K (F := F)).TileObl (D (F := F)) 𝒱 (P I) v₀ 0 := by
  intro d c i O W hO _ _
  simp only [show (P I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vector_defs]; simp only [SparseCore.onTile, hci, and_self, ↓reduceDIte]
  exact tile_run d (coords ⟨_, hci.1⟩ ⟨_, hci.2⟩) (hI d) O W hO

/-- A SparseCore's share is its tiles' shares, before the call and after. -/
theorem vecSplit : (K (F := F)).VecSplit' (P I) 0 := by
  intro d c
  show coreBefore (I d) d (Fin.cast nCore_zero c) ⊢ |={Set.univ}=> iprop(
    (bigSep Finset.univ fun i : Fin ((K (F := F)).nSub 0) => before (I d) d (tileNo (Fin.cast nCore_zero c) (Fin.cast nSub_zero i)))
      ∗ ((bigSep Finset.univ fun i : Fin ((K (F := F)).nSub 0) => after (I d) d (tileNo (Fin.cast nCore_zero c) (Fin.cast nSub_zero i)))
          -∗ coreAfter (I d) d (Fin.cast nCore_zero c)))
  iintro H; imodintro
  isplitl [H]; · iexact H
  iintro H; iexact H

end Cert.KernelIdeal.Call

end
-- ==== Proof.KernelIdeal.Host.lean ====
/- The SparseCore call as the host's thread sees it: its eight arrays dealt to the 32 tiles and gathered back, and the
   call's effect on the contents of all the arrays. -/
module

public import proofs.«01_k».proof.Proof.KernelIdeal.Obl
public import Idealize.ShloMosaic.Lib.Pipeline.Frame

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx Pay)
open Idealize.ShloMosaic.StableHlo (held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Eight whole arrays, and the 32 tiles' shares of them -/

/-- The five inputs and three results, whole. -/
abbrev whole (I : Feed F) (h : S4194304.Idx → F .f32) (p r : S4096x128.Idx → F .f32) (d : Dev nD) : sProp 𝕄 := iprop(
  ((seqLoc d ↦{fullShare} I.seq) ∗ (posLoc d ↦{fullShare} I.pos) ∗ (sideLoc d ↦{fullShare} I.side)
    ∗ (posWLoc d ↦{fullShare} I.posW) ∗ (sideWLoc d ↦{fullShare} I.sideW))
  ∗ (hLoc d ↦{fullShare} h) ∗ (pLoc d ↦{fullShare} p) ∗ (dLoc d ↦{fullShare} r))

omit [FloatOps F] in
theorem bands_disjoint {s : Shape} (a : Fin s.rank) (n : Nat) : ∀ b ∈ (Finset.univ : Finset (Fin 32)), ∀ b' ∈ (Finset.univ : Finset (Fin 32)),
    b ≠ b' → Disjoint (band (s := s) a n b.val) (band a n b'.val) :=
  fun _ _ _ _ h => band_disjoint a n fun e => h (Fin.ext e)

omit [FloatOps F] in
theorem seq_bands (d : Dev nD) (f : Buf (Elt F) (seqLoc d)) :
    (seqLoc d ↦{fullShare} f : sProp 𝕄) = bigSep Finset.univ fun b : Fin 32 => seqLoc d ↦[seqB b.val]{fullShare} f := by
  rw [← pointsTo_biUnion Finset.univ (ℓ := seqLoc d) (fun b : Fin 32 => seqB b.val) (bands_disjoint (s := S4096x64) 0 128),
    show (Finset.univ : Finset (Fin 32)).biUnion (fun b => seqB b.val) = Finset.univ from band_cover (s := S4096x64) 0 128 32 rfl]

omit [FloatOps F] in
theorem pos_bands (d : Dev nD) (f : Buf (Elt F) (posLoc d)) :
    (posLoc d ↦{fullShare} f : sProp 𝕄) = bigSep Finset.univ fun b : Fin 32 => posLoc d ↦[ixB b.val]{fullShare} f := by
  rw [← pointsTo_biUnion Finset.univ (ℓ := posLoc d) (fun b : Fin 32 => ixB b.val) (bands_disjoint (s := S4096) 0 128),
    show (Finset.univ : Finset (Fin 32)).biUnion (fun b => ixB b.val) = Finset.univ from band_cover (s := S4096) 0 128 32 rfl]

omit [FloatOps F] in
theorem side_bands (d : Dev nD) (f : Buf (Elt F) (sideLoc d)) :
    (sideLoc d ↦{fullShare} f : sProp 𝕄) = bigSep Finset.univ fun b : Fin 32 => sideLoc d ↦[ixB b.val]{fullShare} f := by
  rw [← pointsTo_biUnion Finset.univ (ℓ := sideLoc d) (fun b : Fin 32 => ixB b.val) (bands_disjoint (s := S4096) 0 128),
    show (Finset.univ : Finset (Fin 32)).biUnion (fun b => ixB b.val) = Finset.univ from band_cover (s := S4096) 0 128 32 rfl]

omit [FloatOps F] in
theorem h_bands (d : Dev nD) (f : Buf (Elt F) (hLoc d)) :
    (hLoc d ↦{fullShare} f : sProp 𝕄) = bigSep Finset.univ fun b : Fin 32 => hLoc d ↦[hB b.val]{fullShare} f := by
  rw [← pointsTo_biUnion Finset.univ (ℓ := hLoc d) (fun b : Fin 32 => hB b.val) (bands_disjoint (s := S4194304) 0 131072),
    show (Finset.univ : Finset (Fin 32)).biUnion (fun b => hB b.val) = Finset.univ from band_cover (s := S4194304) 0 131072 32 rfl]

omit [FloatOps F] in
theorem p_bands (d : Dev nD) (f : Buf (Elt F) (pLoc d)) :
    (pLoc d ↦{fullShare} f : sProp 𝕄) = bigSep Finset.univ fun b : Fin 32 => pLoc d ↦[rowB b.val]{fullShare} f := by
  rw [← pointsTo_biUnion Finset.univ (ℓ := pLoc d) (fun b : Fin 32 => rowB b.val) (bands_disjoint (s := S4096x128) 0 128),
    show (Finset.univ : Finset (Fin 32)).biUnion (fun b => rowB b.val) = Finset.univ from band_cover (s := S4096x128) 0 128 32 rfl]

omit [FloatOps F] in
theorem d_bands (d : Dev nD) (f : Buf (Elt F) (dLoc d)) :
    (dLoc d ↦{fullShare} f : sProp 𝕄) = bigSep Finset.univ fun b : Fin 32 => dLoc d ↦[rowB b.val]{fullShare} f := by
  rw [← pointsTo_biUnion Finset.univ (ℓ := dLoc d) (fun b : Fin 32 => rowB b.val) (bands_disjoint (s := S4096x128) 0 128),
    show (Finset.univ : Finset (Fin 32)).biUnion (fun b => rowB b.val) = Finset.univ from band_cover (s := S4096x128) 0 128 32 rfl]

omit [FloatOps F] in
theorem posW_shares (d : Dev nD) (f : Buf (Elt F) (posWLoc d)) :
    (posWLoc d ↦{fullShare} f : sProp 𝕄) = bigSep Finset.univ fun b : Fin 32 => posWLoc d ↦{tq b} f :=
  pointsTo_piecesOf Finset.univ f (by decide) fullShare

omit [FloatOps F] in
theorem sideW_shares (d : Dev nD) (f : Buf (Elt F) (sideWLoc d)) :
    (sideWLoc d ↦{fullShare} f : sProp 𝕄) = bigSep Finset.univ fun b : Fin 32 => sideWLoc d ↦{tq b} f :=
  pointsTo_piecesOf Finset.univ f (by decide) fullShare

/-- The whole arrays are the 32 tiles' shares together. -/
theorem whole_bands (I : Feed F) (h : S4194304.Idx → F .f32) (p r : S4096x128.Idx → F .f32) (d : Dev nD) :
    (whole I h p r d : sProp 𝕄) = bigSep Finset.univ fun b : Fin 32 => iprop(ins I d b ∗ outs h p r d b) := by
  rw [bigSep_sep', bigSep_sep', bigSep_sep', bigSep_sep', bigSep_sep', bigSep_sep', bigSep_sep']
  unfold whole
  rw [seq_bands, pos_bands, side_bands, h_bands, p_bands, d_bands,
    posW_shares, sideW_shares]

/-- A tile's SparseCore and its number there, and its number among the 32. -/
def numbering : Fin 2 × Fin 16 ≃ Fin 32 where
  toFun x := tileNo x.1 x.2
  invFun b := (⟨b.val % 2, by omega⟩, ⟨b.val / 2, by omega⟩)
  left_inv x := by
    obtain ⟨c, i⟩ := x
    refine Prod.ext (Fin.ext ?_) (Fin.ext ?_)
    · show (2 * i.val + c.val) % 2 = c.val; omega
    · show (2 * i.val + c.val) / 2 = i.val; omega
  right_inv b := Fin.ext (show 2 * (b.val / 2) + b.val % 2 = b.val by omega)

theorem by_core (Φ : Fin 32 → sProp 𝕄) :
    bigSep Finset.univ Φ = bigSep Finset.univ fun c : Fin ((K (F := F)).nCore 0) =>
      bigSep Finset.univ fun i : Fin 16 => Φ (tileNo (Fin.cast nCore_zero c) i) := by
  rw [bigSep_univ_equiv numbering Φ, bigSep_univ_prod]
  rfl

variable (I : Dev nD → Feed F)

/-- What the call takes: the eight arrays whole, at the contents they have. -/
theorem start_eq (d : Dev nD) : (bigSep Finset.univ fun c : Fin ((K (F := F)).nCore 0) => (P I).st 0 d c)
    = (whole (I d) (I d).h₀ (I d).p₀ (I d).d₀ d : sProp 𝕄) :=
  ((whole_bands (I d) _ _ _ d).trans (by_core (F := F) fun b => before (I d) d b)).symm

/-- What it gives back: the three results computed. -/
theorem done_eq (d : Dev nD) : (bigSep Finset.univ fun c : Fin ((K (F := F)).nCore 0) => (P I).dn 0 d c)
    = (whole (I d) (countsOf (I d).seq) (rows20 (I d).posW (I d).pos) (rows2 (I d).sideW (I d).side) d : sProp 𝕄) :=
  ((whole_bands (I d) _ _ _ d).trans (by_core (F := F) fun b => after (I d) d b)).symm

/-! ## The call's effect on all the arrays -/

abbrev seqD : DevRef τ sig := Proc.devRef .tc main_v0
abbrev posD : DevRef τ sig := Proc.devRef .tc main_arg1
abbrev sideD : DevRef τ sig := Proc.devRef .tc main_arg2
abbrev posWD : DevRef τ sig := Proc.devRef .tc main_arg4
abbrev sideWD : DevRef τ sig := Proc.devRef .tc main_arg5
abbrev hD : DevRef τ sig := Proc.devRef .tc main_v1_0
abbrev pD : DevRef τ sig := Proc.devRef .tc main_v1_1
abbrev dD : DevRef τ sig := Proc.devRef .tc main_v1_2

/-- The call's arrays among all of them. -/
abbrev callRefs : Finset (DevRef τ sig) := {seqD, posD, sideD, posWD, sideWD, hD, pD, dD}

/-- What the call reads when the arrays hold `V`. -/
def feedOf (V : Valuation τ sig (Elt F)) : Feed F := ⟨V seqD, V posD, V sideD, V posWD, V sideWD, V hD, V pD, V dD⟩

/-- What the arrays hold after the call, when they held `V` before it. -/
def called (V : Valuation τ sig (Elt F)) : Valuation τ sig (Elt F) :=
  Function.update (Function.update (Function.update V hD (countsOf (F := F) (feedOf V).seq))
    pD (rows20 (feedOf V).posW (feedOf V).pos)) dD (rows2 (feedOf V).sideW (feedOf V).side)

theorem called_h (V : Valuation τ sig (Elt F)) : called V hD = countsOf (F := F) (feedOf V).seq := by
  unfold called
  rw [Function.update_of_ne (by decide), Function.update_of_ne (by decide), Function.update_self]
theorem called_p (V : Valuation τ sig (Elt F)) : called V pD = rows20 (feedOf V).posW (feedOf V).pos := by
  unfold called
  rw [Function.update_of_ne (by decide), Function.update_self]
theorem called_d (V : Valuation τ sig (Elt F)) : called V dD = rows2 (feedOf V).sideW (feedOf V).side := by
  unfold called
  rw [Function.update_self]
theorem called_ne (V : Valuation τ sig (Elt F)) {b : DevRef τ sig} (h₁ : b ≠ hD) (h₂ : b ≠ pD) (h₃ : b ≠ dD) : called V b = V b := by
  unfold called
  rw [Function.update_of_ne h₃, Function.update_of_ne h₂, Function.update_of_ne h₁]

omit [FloatOps F] in
theorem callRefs_sub : callRefs ⊆ ucRefs τ sig := by decide

omit [FloatOps F] in
theorem sep_assoc_eq (A B C : sProp 𝕄) : iprop((A ∗ B) ∗ C) = iprop(A ∗ B ∗ C) := BI.sep_assoc.antisymm BI.sep_assoc'

omit [FloatOps F] in
/-- The call's arrays held at `V`, one by one. -/
theorem held_call (d : Dev nD) (V : Valuation τ sig (Elt F)) :
    (StableHlo.held (SparseCore.T d) callRefs V : sProp 𝕄) = whole (feedOf V) (feedOf V).h₀ (feedOf V).p₀ (feedOf V).d₀ d := by
  unfold StableHlo.held
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  unfold whole
  rw [sep_assoc_eq, sep_assoc_eq, sep_assoc_eq, sep_assoc_eq]
  rfl

theorem feed_called (V : Valuation τ sig (Elt F)) :
    feedOf (called V) = { feedOf V with
      h₀ := countsOf (feedOf V).seq, p₀ := rows20 (feedOf V).posW (feedOf V).pos, d₀ := rows2 (feedOf V).sideW (feedOf V).side } := by
  unfold feedOf
  rw [called_h, called_p, called_d, called_ne V (b := seqD) (by decide) (by decide) (by decide),
    called_ne V (b := posD) (by decide) (by decide) (by decide), called_ne V (b := sideD) (by decide) (by decide) (by decide),
    called_ne V (b := posWD) (by decide) (by decide) (by decide), called_ne V (b := sideWD) (by decide) (by decide) (by decide)]
  rfl

/-- The rest of the arrays are as they were. -/
theorem held_others (d : Dev nD) (V : Valuation τ sig (Elt F)) :
    (StableHlo.held (SparseCore.T d) (ucRefs τ sig \ callRefs) (called V) : sProp 𝕄) = StableHlo.held (SparseCore.T d) (ucRefs τ sig \ callRefs) V :=
  held_congr _ fun b hb => by
    have hn := (Finset.mem_sdiff.mp hb).2
    exact called_ne V (fun e => hn (e ▸ by decide)) (fun e => hn (e ▸ by decide)) (fun e => hn (e ▸ by decide))

/-- The call, run by the host's thread that holds all the arrays: it goes on with the three results computed. -/
theorem call_run (V : Dev nD → Valuation τ sig (Elt F)) (κ : GSem nD τ sig → ℕ) (d : Dev nD) {Φ : PUnit → sProp 𝕄} :
    iprop((K (F := F)).ctx EH (P fun d => feedOf (V d)) κ ∗ (K (F := F)).tcSt EH d 0 ∗ StableHlo.held (SparseCore.T d) (ucRefs τ sig) (V d)
        ∗ (((K (F := F)).tcSt EH d 1 ∗ StableHlo.held (SparseCore.T d) (ucRefs τ sig) (called (V d))) -∗ Φ ⟨⟩))
      ⊢ wp frame (wpE ((K (F := F)).defs (D (F := F))) 𝒱 (SparseCore.T d) none) Set.univ ((K (F := F)).run d 0) Φ := by
  rw [held_sub_split (SparseCore.T d) callRefs_sub (V d), held_sub_split (SparseCore.T d) callRefs_sub (called (V d)), held_call, held_call,
    held_others, feed_called]
  iintro ⟨#Hctx, Hst, ⟨Hw, Ho⟩, Hk⟩
  iapply ((K (F := F)).wp_run (D (F := F)) 𝒱 (EH := EH) (P := P fun d => feedOf (V d)) κ d 0) $$ [Hst Hw Ho Hk]
  rw [start_eq, done_eq]
  isplitr; · iexact Hctx
  isplitl [Hst]; · iexact Hst
  isplitl [Hw]; · iexact Hw
  iintro ⟨Hst, Hw⟩
  iapply Hk
  isplitl [Hst]; · iexact Hst
  isplitl [Hw]; · iexact Hw
  iexact Ho

end Cert.KernelIdeal.Call

end
-- ==== Proof.KernelIdeal.Dense.lean ====
/- What the four dense layers' calls share: the bound on the waits that the host's thread has recorded. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Common
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.VecWindow
public import Idealize.ShloMosaic.Lib.WordCmp

@[expose] public section

noncomputable section

namespace Cert.KernelIdeal.Dense

open Cert.KernelIdeal Cert.KernelIdeal.Gen Cert.KernelIdeal.Call
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

/-- The waits that the host's thread may have recorded once the SparseCore call is over. -/
def low (c : Dev nD) : Set (SemLoc sig × HIx 1) := {p | (K (F := F)).lev (SparseCore.T c, p.1) p.2 ≤ 8 * 1}

/-- What a call keeps through its grid beside its windows: the scoped buffers that stage no window, and the generator
    register, each at some state. -/
def inv {gr W : Nat} (win : Fin W → Pipeline.WinSpec sig gr) (c : Dev nD) : sProp (MT nD τ sig (HIx 1) (Elt F) ℕ UU ℕ) :=
  iprop(Pipeline.scopedRest (Ix := HIx 1) (Name := ℕ) (U := UU) (Lvl := ℕ) (Val := Elt F) win c ∗ ∃ r, prngReg c r)

end Cert.KernelIdeal.Dense

end
-- ==== Proof.KernelIdeal.Region.lean ====
/- One dense layer's call as a step of the host's program: from every array's contents to the same with the call's own
   arrays at what its grid leaves in them. The four calls share this text. -/
module

public import proofs.«01_k».proof.Proof.KernelIdeal.Dense

@[expose] public section

set_option maxRecDepth 16384

noncomputable section

namespace Cert.KernelIdeal.Dense

open Cert.KernelIdeal Cert.KernelIdeal.Gen Cert.KernelIdeal.Call
open Idealize.ShloMosaic Idealize.ShloMosaic.TcCoe
open Idealize.ShloMosaic.SparseCore.Cfg (HIx)
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- No pipeline reads a table ahead. -/
abbrev adm : (p : Fin 4) → (pcfgs (F := F) p).Adm := fun p => (cfgs p).toPCfg_adm

/-- The proof data of the four pipelines. -/
abbrev Family : Type := (p : Fin 4) → (c : Dev nD) → Dat τ (Elt F) (HIx 1) ℕ UU ℕ (Pipeline.pin (pcfgs (F := F)) adm p) c

/-- What rides beside the arrays: the generator register, and nothing owed with only low waits recorded. -/
abbrev R (c : Dev nD) : sProp 𝕄 :=
  iprop((∃ r, prngReg c r) ∗ ∃ W, ⌜(K (F := F)).WBelow (SparseCore.T c) W (8 * 1)⌝ ∗ owes (SparseCore.T c) (0 : CellTallies nD τ sig (HIx 1)) W)

/-- The arrays after a call. -/
abbrev left (pd : Family (F := F)) (p : Fin 4) (c : Dev nD) (W : Valuation τ sig (Elt F)) : Valuation τ sig (Elt F) :=
  Pipeline.withArrays (Pipeline.pin (pcfgs (F := F)) adm p).spec c W ((pd p c).arrAt · (Pipeline.pin (pcfgs (F := F)) adm p).N)

set_option backward.isDefEq.respectTransparency.types false in
/-- A call as a segment of the host's program. -/
def region (pd : Family (F := F)) (p : Fin 4) (lf : Pipeline.LaunchFacts (nD := nD) (τ := τ) cfgs p) (W : Dev nD → Valuation τ sig (Elt F))
    (hA : ∀ c w, (pd p c).A w = W c (Proc.devRef .tc (Pipeline.arrRef (Pipeline.pin (pcfgs (F := F)) adm p).spec w)))
    (hΦ : ∀ c t, (pd p c).Φ t = inv (Pipeline.pin (pcfgs (F := F)) adm p).spec c) (howed : ∀ c t, (pd p c).owed t = 0)
    (hrec : ∀ c t, (pd p c).recorded t = low (F := F) c) (hq : ∀ c w, (pd p c).q w = fullShare)
    (hbody : ∀ c, Pipeline.BodyObligationLoose (pd p c) defs₀ Variants.none none Set.univ) :
    Pipeline.RegionSeg (pcfgs (F := F)) adm pd none defs₀ Variants.none (K (F := F)).L (K (F := F)).lev p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ (K (F := F)).L (K (F := F)).lev p fun c t => howed c t
  pre c := iprop(StableHlo.held (c : Thread nD τ) (Pipeline.ucRefs τ sig) (W c) ∗ R c)
  post c := iprop(StableHlo.held (c : Thread nD τ) (Pipeline.ucRefs τ sig) (left pd p c (W c)) ∗ R c)
  X c := iprop(∃ r, prngReg c r)
  Y c := iprop(∃ r, prngReg c r)
  Z c := Pipeline.unscopedRest (Ix := HIx 1) (Name := ℕ) (U := UU) (Lvl := ℕ) (Pipeline.pin (pcfgs (F := F)) adm p).spec c fun b => W c (Proc.devRef .tc b)
  hentry c := by
    rw [Pipeline.ownSems0_none]
    have hsplit := Pipeline.arrays_of_unscopedBufs (p := p) (pcfgs (F := F)) adm pd lf.win lf.arr_whole c
      ((pd p c).share_full fun w => hq c w) (fun b => W c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%Wt, %hW, HO⟩; iexists Wt; isplitr
      · ipureintro; intro x hx; exact Or.inl (by rw [hrec]; exact hW x hx)
      iexact HO
    isplitl [Hp]; · iexact Hp
    iexact Hrest
  hin c := by
    rw [hΦ]; unfold inv
    iintro ⟨Hp, -, Hr⟩
    isplitl [Hr]; · iexact Hr
    iexact Hp
  hout c := by
    rw [Pipeline.ownSems0_none, hΦ]; unfold inv
    iintro ⟨Hr, Hp⟩
    isplitl [Hp]; · iexact Hp
    isplitr; · iempintro
    iexact Hr
  hexit c := by
    have hjoin := Pipeline.unscopedBufs_of_arrays (p := p) (pcfgs (F := F)) adm (Ix := HIx 1) (Name := ℕ) (U := UU) (Lvl := ℕ)
      lf.win lf.arr_whole c pd ((pd p c).share_full fun w => hq c w)
      (fun b => W c (Proc.devRef .tc b)) (fun b => left pd p c (W c) (Proc.devRef .tc b)) ((pd p c).arrAt · (Pipeline.pin (pcfgs (F := F)) adm p).N)
      (fun w => (Pipeline.withArrays_arr (Pipeline.pin (pcfgs (F := F)) adm p).spec lf.win.arr_inj c (W c) ((pd p c).arrAt · (Pipeline.pin (pcfgs (F := F)) adm p).N) w).symm)
      (fun b hb => Pipeline.withArrays_of_ne (Pipeline.pin (pcfgs (F := F)) adm p).spec c (W c) ((pd p c).arrAt · (Pipeline.pin (pcfgs (F := F)) adm p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%Wt, %hW, HO⟩; iexists Wt; isplitr
    · ipureintro; intro x hx
      rcases hW hx with h | ⟨w, s, e⟩
      · rw [hrec] at h; exact h
      · obtain rfl := e; exact Nat.zero_le _
    iexact HO

end Cert.KernelIdeal.Dense

end
-- ==== Proof.KernelIdeal.Layer1.lean ====
/- The first dense layer's call: what one step of its grid leaves in the buffers. -/
module

public import proofs.«01_k».proof.Proof.KernelIdeal.Dense

@[expose] public section

set_option maxRecDepth 16384

noncomputable section

namespace Cert.KernelIdeal.Layer1

open Cert.KernelIdeal Cert.KernelIdeal.Gen Cert.KernelIdeal.Call Cert.KernelIdeal.Dense
open Idealize.ShloMosaic Idealize.ShloMosaic.TcCoe
open Idealize.ShloMosaic.SparseCore.Cfg (HIx)
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The step is the grid's first, as the kernel asks it. -/
abbrev First (i : grid1.Coords) : Prop := (Scalar.cmpi .ne (Scalar.extui (Scalar.cmpi .eq (BitVec.ofNat 32 (i 0).val) 0#32)) 0#32) = 1#1

instance (i : grid1.Coords) : Decidable (First i) := inferInstanceAs (Decidable (_ = _))

theorem first_iff (t : Fin cfg1.N) : First (grid1.coords t) ↔ t.val % 8 = 0 := by
  have ht : t.val < 8 := Nat.lt_of_lt_of_eq t.isLt N_1
  have e0 : (grid1.coords t 0).val = t.val / 1 % 8 := Pipeline.Grid.coords_val t 0 (by decide) rfl
  simp only [First, e0]
  word_cmp

/-- The first column of a band of the counts. -/
abbrev col0 (x : Vec F S512x1024 .f32) : Vec F S512x1 .f32 :=
  View.ld x (Rect.unit (s := S512x1024) ![0, 0] S512x1.size inb_S512x1024_S512x1_0_0)

set_option maxHeartbeats 1000000 in
/-- One step: a band of the layer's rows, and its sums added to the running ones. -/
theorem body_run (c : Dev nD) (i : grid1.Coords) (a₁ : Memref sig .tc .vmem S512x1024 .f32) (h₁ : a₁.IsWhole) (a₂ : Memref sig .tc .vmem S512x128 .f32) (h₂ : a₂.IsWhole)
    (a₃ : Memref sig .tc .vmem S512x128 .f32) (h₃ : a₃.IsWhole) (a₄ : Memref sig .tc .vmem S1024x128 .bf16) (h₄ : a₄.IsWhole) (a₅ : Memref sig .tc .vmem S512x1024 .bf16) (h₅ : a₅.IsWhole)
    (a₆ : Memref sig .tc .vmem S1x1024 .f32) (h₆ : a₆.IsWhole) (a₇ : Memref sig .tc .vmem S512x1024 .bf16) (h₇ : a₇.IsWhole) (a₈ : Memref sig .tc .vmem S2x1024 .f32) (h₈ : a₈.IsWhole)
    (x₁ : Vec F S512x1024 .f32) (x₂ x₃ : Vec F S512x128 .f32) (x₄ : Vec F S1024x128 .bf16) (x₅ : Vec F S512x1024 .bf16) (x₆ : Vec F S1x1024 .f32) (x₈ : Vec F S2x1024 .f32)
    (E : Set ℕ) (Q : PUnit → sProp 𝕄) :
    iprop(owns (c : Thread nD τ) a₁ fullShare x₁ ∗ owns (c : Thread nD τ) a₂ fullShare x₂ ∗ owns (c : Thread nD τ) a₃ fullShare x₃ ∗ owns (c : Thread nD τ) a₄ fullShare x₄
        ∗ owns (c : Thread nD τ) a₅ fullShare x₅ ∗ owns (c : Thread nD τ) a₆ fullShare x₆ ∗ (∃ d, owns (c : Thread nD τ) a₇ fullShare d) ∗ owns (c : Thread nD τ) a₈ fullShare x₈
        ∗ (iprop(owns (c : Thread nD τ) a₁ fullShare x₁ ∗ owns (c : Thread nD τ) a₂ fullShare x₂ ∗ owns (c : Thread nD τ) a₃ fullShare x₃ ∗ owns (c : Thread nD τ) a₄ fullShare x₄
            ∗ owns (c : Thread nD τ) a₅ fullShare x₅ ∗ owns (c : Thread nD τ) a₆ fullShare x₆ ∗ owns (c : Thread nD τ) a₇ fullShare (k1_pay3 x₁ x₄ (col0 x₁) x₂ x₃ x₅ x₆)
            ∗ owns (c : Thread nD τ) a₈ fullShare (k1_pay2 (k1_pay4 x₁ x₄ (col0 x₁) x₂ x₃ x₅ x₆) (if First i then k1_pay1 (F := F) else x₈))) -∗ Q ⟨⟩))
      ⊢ wp frame (wpE (defs₀ (F := F)) Variants.none c none) E (cc1__l1_body i a₁ h₁ a₂ h₂ a₃ h₃ a₄ h₄ a₅ h₅ a₆ h₆ a₇ h₇ a₈ h₈) Q := by
  by_cases hc0 : First i
  all_goals
    first | rw [if_pos hc0] | rw [if_neg hc0]
    simp only [cc1__l1_body_eq_skeleton]; unfold cc1__l1_body_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := h₁.eq_unread hf1; obtain rfl := h₂.eq_unread hf2; obtain rfl := h₃.eq_unread hf3; obtain rfl := h₄.eq_unread hf4
    obtain rfl := h₅.eq_unread hf5; obtain rfl := h₆.eq_unread hf6; obtain rfl := h₈.eq_unread hf8
    have e1 : View.readAt (Elt F) a₁.view (Rect.unit (s := S512x1024) ![0, 0] S512x1024.size inb_S512x1024_S512x1024_0_0).toLoadRect (h₁.unread x₁) = x₁ := (View.readAt_full _ _ _).trans hf1
    have e1' : View.readAt (Elt F) a₁.view (Rect.unit (s := S512x1024) ![0, 0] S512x1.size inb_S512x1024_S512x1_0_0).toLoadRect (h₁.unread x₁) = col0 x₁ := congrArg (View.ld · _) hf1
    have e2 : View.readAt (Elt F) a₂.view (Rect.unit (s := S512x128) ![0, 0] S512x128.size inb_S512x128_S512x128_0_0).toLoadRect (h₂.unread x₂) = x₂ := (View.readAt_full _ _ _).trans hf2
    have e3 : View.readAt (Elt F) a₃.view (Rect.unit (s := S512x128) ![0, 0] S512x128.size inb_S512x128_S512x128_0_0).toLoadRect (h₃.unread x₃) = x₃ := (View.readAt_full _ _ _).trans hf3
    have e4 : View.readAt (Elt F) a₄.view (Rect.unit (s := S1024x128) ![0, 0] S1024x128.size inb_S1024x128_S1024x128_0_0).toLoadRect (h₄.unread x₄) = x₄ := (View.readAt_full _ _ _).trans hf4
    have e5 : View.readAt (Elt F) a₅.view (Rect.unit (s := S512x1024) ![0, 0] S512x1024.size inb_S512x1024_S512x1024_0_0).toLoadRect (h₅.unread x₅) = x₅ := (View.readAt_full _ _ _).trans hf5
    have e6 : View.readAt (Elt F) a₆.view (Rect.unit (s := S1x1024) ![0, 0] S1x1024.size inb_S1x1024_S1x1024_0_0).toLoadRect (h₆.unread x₆) = x₆ := (View.readAt_full _ _ _).trans hf6
    sl_exec (disch := first | sl_exact hc0)
    sl_step
    iapply Hk
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]
    · iexists _; isplitr
      swap; · iexact H7
      ipureintro
      refine (View.read_writes_full _ _ _ _ _).trans ?_
      rfl
    iexists _; isplitr
    swap; · iexact H8
    ipureintro
    refine (View.read_writes_full _ _ _ _ _).trans ?_
    refine congrArg₂ k1_pay2 ?_ ?_
    · first | unfold body_run.sl.r | unfold body_run.sl.r_1
      rfl
    · first | exact View.readCov_full _ _ _ _ _ | (unfold body_run.sl.v35 body_run.sl.H8_1; exact View.readCov_full _ _ _ _ _) | exact (View.readAt_full _ _ _).trans hf8

end Cert.KernelIdeal.Layer1

end
-- ==== Proof.KernelIdeal.Data1.lean ====
/- The first dense layer's call: its proof data, and the body's obligation at every point of the grid. -/
module

public import proofs.«01_k».proof.Proof.KernelIdeal.Layer1

@[expose] public section

set_option maxRecDepth 16384

noncomputable section

namespace Cert.KernelIdeal.Layer1

open Cert.KernelIdeal Cert.KernelIdeal.Gen Cert.KernelIdeal.Call Cert.KernelIdeal.Dense
open Idealize.ShloMosaic Idealize.ShloMosaic.TcCoe
open Idealize.ShloMosaic.SparseCore.Cfg (HIx)
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The call's proof data -/

variable (V : (c : Dev nD) → (b : Ref sig .tc) → Buf (Elt F) ((c : Thread nD τ).loc b))

/-- Window `w`'s block at point `t`, read off its array. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows that point `t` computes. -/
def rows (c : Dev nD) (t : Fin cfg1.N) : Vec F S512x1024 .bf16 := k1_pay3 (blk V c 0 t) (blk V c 3 t) (col0 (blk V c 0 t)) (blk V c 1 t) (blk V c 2 t) (blk V c 4 t) (blk V c 5 t)

/-- The grid's point number `n`. -/
def pt (n : ℕ) : Fin cfg1.N := ⟨n % 8, Nat.lt_of_lt_of_eq (Nat.mod_lt _ (by decide)) N_1.symm⟩

theorem pt_val (t : Fin cfg1.N) : pt t.val = t := Fin.ext (Nat.mod_eq_of_lt (Nat.lt_of_lt_of_eq t.isLt N_1))

/-- The running sums after point `n`. -/
def sums (c : Dev nD) : ℕ → Vec F S2x1024 .f32
  | 0 => k1_pay2 (k1_pay4 (blk V c 0 (pt 0)) (blk V c 3 (pt 0)) (col0 (blk V c 0 (pt 0))) (blk V c 1 (pt 0)) (blk V c 2 (pt 0)) (blk V c 4 (pt 0)) (blk V c 5 (pt 0))) (k1_pay1 (F := F))
  | n + 1 => k1_pay2 (k1_pay4 (blk V c 0 (pt (n + 1))) (blk V c 3 (pt (n + 1))) (col0 (blk V c 0 (pt (n + 1)))) (blk V c 1 (pt (n + 1))) (blk V c 2 (pt (n + 1))) (blk V c 4 (pt (n + 1))) (blk V c 5 (pt (n + 1)))) (sums c n)

/-- The pipeline's proof data: the arrays as the call finds them; after each point each input's block, and what the
    point computes. -/
def dat (c : Dev nD) : Dat τ (Elt F) (HIx 1) ℕ UU ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => rows V c t
    | ⟨7, _⟩ => sums V c t.val
  Φ _ := inv spec1 c
  q _ := fullShare
  owed _ := 0
  recorded _ := low (F := F) c

theorem A_eq (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = rows V c t := by dsimp only [dat]
theorem after_7 (c : Dev nD) (t : Fin cfg1.N) : (dat V c).after 7 t = sums V c t.val := by dsimp only [dat]

theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg1.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)

theorem before_7 (c : Dev nD) (t : Fin cfg1.N) (h0 : ¬ t.val % 8 = 0) (d) : (dat V c).before 7 t d = sums V c (t.val - 1) := by
  have hN : t.val < 8 := lt_of_lt_of_eq t.isLt (show cfg1.N = 8 from N_1)
  rw [Dat.before_out_kept _ 7 rfl t (by omega) (Bool.eq_false_iff.mpr fun h => by have := (flush1_7 _).mp h; dsimp only at this; omega)
    (fun _ => rfl) (fun _ _ => rfl)]
  dsimp only [dat]

/-- The running sums, step by step. -/
theorem sums_step (c : Dev nD) (t : Fin cfg1.N) (x₈ : Vec F S2x1024 .f32) (hx : ¬ t.val % 8 = 0 → x₈ = sums V c (t.val - 1)) :
    k1_pay2 (k1_pay4 (blk V c 0 t) (blk V c 3 t) (col0 (blk V c 0 t)) (blk V c 1 t) (blk V c 2 t) (blk V c 4 t) (blk V c 5 t)) (if First (grid1.coords t) then k1_pay1 (F := F) else x₈) = sums V c t.val := by
  have hN : t.val < 8 := lt_of_lt_of_eq t.isLt (show cfg1.N = 8 from N_1)
  by_cases h0 : t.val % 8 = 0
  · rw [if_pos ((first_iff t).mpr h0)]
    obtain rfl : t = pt 0 := Fin.ext (by show t.val = 0; omega)
    rfl
  · rw [if_neg fun h => h0 ((first_iff t).mp h), hx h0]
    obtain ⟨n, hn⟩ : ∃ n, t.val = n + 1 := ⟨t.val - 1, by omega⟩
    obtain rfl : t = pt (n + 1) := by rw [← hn, pt_val]
    rw [hn]; rfl

/-- What the body is called with at point `t`, and what it returns. -/
def stepPre (c : Dev nD) (t : Fin cfg1.N) : sProp 𝕄 :=
  iprop((dat V c).Φ t.castSucc ∗ (dat V c).owesAt none t.castSucc
    ∗ (∃ d, owns (c : Thread nD τ) (win1_0.stage (cfg1.slots t 0)) fullShare ((dat V c).before 0 t d))
    ∗ (∃ d, owns (c : Thread nD τ) (win1_1.stage (cfg1.slots t 1)) fullShare ((dat V c).before 1 t d))
    ∗ (∃ d, owns (c : Thread nD τ) (win1_2.stage (cfg1.slots t 2)) fullShare ((dat V c).before 2 t d))
    ∗ (∃ d, owns (c : Thread nD τ) (win1_3.stage (cfg1.slots t 3)) fullShare ((dat V c).before 3 t d))
    ∗ (∃ d, owns (c : Thread nD τ) (win1_4.stage (cfg1.slots t 4)) fullShare ((dat V c).before 4 t d))
    ∗ (∃ d, owns (c : Thread nD τ) (win1_5.stage (cfg1.slots t 5)) fullShare ((dat V c).before 5 t d))
    ∗ (∃ d, owns (c : Thread nD τ) (win1_6.stage (cfg1.slots t 6)) fullShare ((dat V c).before 6 t d))
    ∗ (∃ d, owns (c : Thread nD τ) (win1_7.stage (cfg1.slots t 7)) fullShare ((dat V c).before 7 t d)))

def stepPost (c : Dev nD) (t : Fin cfg1.N) : sProp 𝕄 :=
  iprop((dat V c).Φ t.succ ∗ (dat V c).owesAt none t.succ
    ∗ owns (c : Thread nD τ) (win1_0.stage (cfg1.slots t 0)) fullShare ((dat V c).after 0 t)
    ∗ owns (c : Thread nD τ) (win1_1.stage (cfg1.slots t 1)) fullShare ((dat V c).after 1 t)
    ∗ owns (c : Thread nD τ) (win1_2.stage (cfg1.slots t 2)) fullShare ((dat V c).after 2 t)
    ∗ owns (c : Thread nD τ) (win1_3.stage (cfg1.slots t 3)) fullShare ((dat V c).after 3 t)
    ∗ owns (c : Thread nD τ) (win1_4.stage (cfg1.slots t 4)) fullShare ((dat V c).after 4 t)
    ∗ owns (c : Thread nD τ) (win1_5.stage (cfg1.slots t 5)) fullShare ((dat V c).after 5 t)
    ∗ owns (c : Thread nD τ) (win1_6.stage (cfg1.slots t 6)) fullShare ((dat V c).after 6 t)
    ∗ owns (c : Thread nD τ) (win1_7.stage (cfg1.slots t 7)) fullShare ((dat V c).after 7 t))

set_option maxHeartbeats 1600000 in
/-- The body at any point: each input's buffer holds its block, so one step's run applies. -/
theorem step_run (c : Dev nD) (t : Fin cfg1.N) :
    stepPre V c t ⊢ wp frame (wpE (defs₀ (F := F)) Variants.none c none) Set.univ (bodyAt1 t) (fun _ => stepPost V c t) := by
  unfold stepPre stepPost bodyAt1
  simp only [before_0, before_1, before_2, before_3, before_4, before_5]
  rw [show (dat V c).Φ t.succ = (dat V c).Φ t.castSucc from rfl,
    show (dat V c).owesAt none t.succ = (dat V c).owesAt none t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← sums_step V c t ((dat V c).before 7 t d7) fun h0 => before_7 V c t h0 d7]
  iapply (body_run c (grid1.coords t) _ _ _ _ _ _ _ _ _ _ _ _ _ _ _ _ (blk V c 0 t) (blk V c 1 t) (blk V c 2 t) (blk V c 3 t) (blk V c 4 t) (blk V c 5 t) ((dat V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg1.N) : defs₀ (F := F) .tc cfg1.body (cfg1.bodyArgs t (cfg1.slots t)) = bodyAt1 t := by
  rfl

/-- The library's body obligation, at every point. -/
theorem obligation (c : Dev nD) : BodyObligation (dat (F := F) V c) (defs₀ (F := F)) Variants.none none Set.univ := fun t => by
  rw [bigSep_W1, bigSep_W1, defs₀_row]
  exact triple_restated (step_run V c t) rfl .rfl fun _ => .rfl

end Cert.KernelIdeal.Layer1

end
-- ==== Proof.KernelIdeal.Layer2.lean ====
/- The second dense layer's call: what one step of its grid leaves in the buffers. -/
module

public import proofs.«01_k».proof.Proof.KernelIdeal.Dense

@[expose] public section

set_option maxRecDepth 16384

noncomputable section

namespace Cert.KernelIdeal.Layer2

open Cert.KernelIdeal Cert.KernelIdeal.Gen Cert.KernelIdeal.Call Cert.KernelIdeal.Dense
open Idealize.ShloMosaic Idealize.ShloMosaic.TcCoe
open Idealize.ShloMosaic.SparseCore.Cfg (HIx)
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The step is the grid's first, as the kernel asks it. -/
abbrev First (i : grid2.Coords) : Prop := (Scalar.cmpi .ne (Scalar.extui (Scalar.cmpi .eq (BitVec.ofNat 32 (i 0).val) 0#32)) 0#32) = 1#1

instance (i : grid2.Coords) : Decidable (First i) := inferInstanceAs (Decidable (_ = _))

theorem first_iff (t : Fin cfg2.N) : First (grid2.coords t) ↔ t.val % 8 = 0 := by
  have ht : t.val < 8 := Nat.lt_of_lt_of_eq t.isLt N_2
  have e0 : (grid2.coords t 0).val = t.val / 1 % 8 := Pipeline.Grid.coords_val t 0 (by decide) rfl
  simp only [First, e0]
  word_cmp

/-- The two rows of the sums. -/
abbrev row0 (x : Vec F S2x1024 .f32) : Vec F S1x1024 .f32 := View.ld x (Rect.unit (s := S2x1024) ![0, 0] S1x1024.size inb_S2x1024_S1x1024_0_0)
abbrev row1 (x : Vec F S2x1024 .f32) : Vec F S1x1024 .f32 := View.ld x (Rect.unit (s := S2x1024) ![1, 0] S1x1024.size inb_S2x1024_S1x1024_1_0)

set_option maxHeartbeats 1000000 in
/-- One step: a band of the layer's rows, and its sums added to the running ones. -/
theorem body_run (c : Dev nD) (i : grid2.Coords) (a₁ : Memref sig .tc .vmem S512x1024 .bf16) (h₁ : a₁.IsWhole) (a₂ : Memref sig .tc .vmem S2x1024 .f32) (h₂ : a₂.IsWhole) (a₃ : Memref sig .tc .vmem S1x1024 .f32) (h₃ : a₃.IsWhole) (a₄ : Memref sig .tc .vmem S1x1024 .f32) (h₄ : a₄.IsWhole) (a₅ : Memref sig .tc .vmem S1024x1024 .bf16) (h₅ : a₅.IsWhole) (a₆ : Memref sig .tc .vmem S1x1024 .f32) (h₆ : a₆.IsWhole) (a₇ : Memref sig .tc .vmem S512x1024 .bf16) (h₇ : a₇.IsWhole) (a₈ : Memref sig .tc .vmem S2x1024 .f32) (h₈ : a₈.IsWhole)
    (x₁ : Vec F S512x1024 .bf16) (x₂ : Vec F S2x1024 .f32) (x₃ : Vec F S1x1024 .f32) (x₄ : Vec F S1x1024 .f32) (x₅ : Vec F S1024x1024 .bf16) (x₆ : Vec F S1x1024 .f32) (x₈ : Vec F S2x1024 .f32)
    (E : Set ℕ) (Q : PUnit → sProp 𝕄) :
    iprop(owns (c : Thread nD τ) a₁ fullShare x₁ ∗ owns (c : Thread nD τ) a₂ fullShare x₂ ∗ owns (c : Thread nD τ) a₃ fullShare x₃ ∗ owns (c : Thread nD τ) a₄ fullShare x₄ ∗ owns (c : Thread nD τ) a₅ fullShare x₅ ∗ owns (c : Thread nD τ) a₆ fullShare x₆ ∗ (∃ d, owns (c : Thread nD τ) a₇ fullShare d) ∗ owns (c : Thread nD τ) a₈ fullShare x₈
        ∗ (iprop(owns (c : Thread nD τ) a₁ fullShare x₁ ∗ owns (c : Thread nD τ) a₂ fullShare x₂ ∗ owns (c : Thread nD τ) a₃ fullShare x₃ ∗ owns (c : Thread nD τ) a₄ fullShare x₄ ∗ owns (c : Thread nD τ) a₅ fullShare x₅ ∗ owns (c : Thread nD τ) a₆ fullShare x₆ ∗ owns (c : Thread nD τ) a₇ fullShare (k2_pay3 (row0 x₂) (row1 x₂) x₃ x₄ x₁ x₅ x₆) ∗ owns (c : Thread nD τ) a₈ fullShare (k2_pay2 (k2_pay3 (row0 x₂) (row1 x₂) x₃ x₄ x₁ x₅ x₆) (if First i then k2_pay1 (F := F) else x₈))) -∗ Q ⟨⟩))
      ⊢ wp frame (wpE (defs₀ (F := F)) Variants.none c none) E (cc2__mid_body i a₁ h₁ a₂ h₂ a₃ h₃ a₄ h₄ a₅ h₅ a₆ h₆ a₇ h₇ a₈ h₈) Q := by
  by_cases hc0 : First i
  all_goals
    first | rw [if_pos hc0] | rw [if_neg hc0]
    simp only [cc2__mid_body_eq_skeleton]; unfold cc2__mid_body_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := h₁.eq_unread hf1; obtain rfl := h₂.eq_unread hf2; obtain rfl := h₃.eq_unread hf3; obtain rfl := h₄.eq_unread hf4
    obtain rfl := h₅.eq_unread hf5; obtain rfl := h₆.eq_unread hf6; obtain rfl := h₈.eq_unread hf8
    have e1 : View.readAt (Elt F) a₁.view (Rect.unit (s := S512x1024) ![0, 0] S512x1024.size inb_S512x1024_S512x1024_0_0).toLoadRect (h₁.unread x₁) = x₁ := (View.readAt_full _ _ _).trans hf1
    have e2row0 : View.readAt (Elt F) a₂.view (Rect.unit (s := S2x1024) ![0, 0] S1x1024.size inb_S2x1024_S1x1024_0_0).toLoadRect (h₂.unread x₂) = row0 x₂ := congrArg (View.ld · _) hf2
    have e2row1 : View.readAt (Elt F) a₂.view (Rect.unit (s := S2x1024) ![1, 0] S1x1024.size inb_S2x1024_S1x1024_1_0).toLoadRect (h₂.unread x₂) = row1 x₂ := congrArg (View.ld · _) hf2
    have e3 : View.readAt (Elt F) a₃.view (Rect.unit (s := S1x1024) ![0, 0] S1x1024.size inb_S1x1024_S1x1024_0_0).toLoadRect (h₃.unread x₃) = x₃ := (View.readAt_full _ _ _).trans hf3
    have e4 : View.readAt (Elt F) a₄.view (Rect.unit (s := S1x1024) ![0, 0] S1x1024.size inb_S1x1024_S1x1024_0_0).toLoadRect (h₄.unread x₄) = x₄ := (View.readAt_full _ _ _).trans hf4
    have e5 : View.readAt (Elt F) a₅.view (Rect.unit (s := S1024x1024) ![0, 0] S1024x1024.size inb_S1024x1024_S1024x1024_0_0).toLoadRect (h₅.unread x₅) = x₅ := (View.readAt_full _ _ _).trans hf5
    have e6 : View.readAt (Elt F) a₆.view (Rect.unit (s := S1x1024) ![0, 0] S1x1024.size inb_S1x1024_S1x1024_0_0).toLoadRect (h₆.unread x₆) = x₆ := (View.readAt_full _ _ _).trans hf6
    sl_exec (disch := first | sl_exact hc0)
    sl_step
    iapply Hk
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]
    · iexists _; isplitr
      swap; · iexact H7
      ipureintro
      refine (View.read_writes_full _ _ _ _ _).trans ?_
      rfl
    iexists _; isplitr
    swap; · iexact H8
    ipureintro
    refine (View.read_writes_full _ _ _ _ _).trans ?_
    refine congrArg₂ k2_pay2 ?_ ?_
    · first | rfl | (unfold body_run.sl.r; rfl) | (unfold body_run.sl.r_1; rfl)
    · first | exact View.readCov_full _ _ _ _ _ | (unfold body_run.sl.v43 body_run.sl.H8_1; exact View.readCov_full _ _ _ _ _) | exact (View.readAt_full _ _ _).trans hf8

end Cert.KernelIdeal.Layer2

end
-- ==== Proof.KernelIdeal.Data2.lean ====
/- The second dense layer's call: its proof data, and the body's obligation at every point of the grid. -/
module

public import proofs.«01_k».proof.Proof.KernelIdeal.Layer2

@[expose] public section

set_option maxRecDepth 16384

noncomputable section

namespace Cert.KernelIdeal.Layer2

open Cert.KernelIdeal Cert.KernelIdeal.Gen Cert.KernelIdeal.Call Cert.KernelIdeal.Dense
open Idealize.ShloMosaic Idealize.ShloMosaic.TcCoe
open Idealize.ShloMosaic.SparseCore.Cfg (HIx)
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The call's proof data -/

variable (V : (c : Dev nD) → (b : Ref sig .tc) → Buf (Elt F) ((c : Thread nD τ).loc b))

/-- Window `w`'s block at point `t`, read off its array. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rows that point `t` computes. -/
def rows (c : Dev nD) (t : Fin cfg2.N) : Vec F S512x1024 .bf16 := k2_pay3 (row0 (blk V c 1 t)) (row1 (blk V c 1 t)) (blk V c 2 t) (blk V c 3 t) (blk V c 0 t) (blk V c 4 t) (blk V c 5 t)

/-- The grid's point number `n`. -/
def pt (n : ℕ) : Fin cfg2.N := ⟨n % 8, Nat.lt_of_lt_of_eq (Nat.mod_lt _ (by decide)) N_2.symm⟩

theorem pt_val (t : Fin cfg2.N) : pt t.val = t := Fin.ext (Nat.mod_eq_of_lt (Nat.lt_of_lt_of_eq t.isLt N_2))

/-- The running sums after point `n`. -/
def sums (c : Dev nD) : ℕ → Vec F S2x1024 .f32
  | 0 => k2_pay2 (rows V c (pt 0)) (k2_pay1 (F := F))
  | n + 1 => k2_pay2 (rows V c (pt (n + 1))) (sums c n)

/-- The pipeline's proof data: the arrays as the call finds them; after each point each input's block, and what the
    point computes. -/
def dat (c : Dev nD) : Dat τ (Elt F) (HIx 1) ℕ UU ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => rows V c t
    | ⟨7, _⟩ => sums V c t.val
  Φ _ := inv spec2 c
  q _ := fullShare
  owed _ := 0
  recorded _ := low (F := F) c

theorem A_eq (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_6 (c : Dev nD) (t : Fin cfg2.N) : (dat V c).after 6 t = rows V c t := by dsimp only [dat]
theorem after_7 (c : Dev nD) (t : Fin cfg2.N) : (dat V c).after 7 t = sums V c t.val := by dsimp only [dat]

theorem before_0 (c : Dev nD) (t : Fin cfg2.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg2.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg2.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg2.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg2.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg2.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)

theorem before_7 (c : Dev nD) (t : Fin cfg2.N) (h0 : ¬ t.val % 8 = 0) (d) : (dat V c).before 7 t d = sums V c (t.val - 1) := by
  have hN : t.val < 8 := lt_of_lt_of_eq t.isLt (show cfg2.N = 8 from N_2)
  rw [Dat.before_out_kept _ 7 rfl t (by omega) (Bool.eq_false_iff.mpr fun h => by have := (flush2_7 _).mp h; dsimp only at this; omega)
    (fun _ => rfl) (fun _ _ => rfl)]
  dsimp only [dat]

/-- The running sums, step by step. -/
theorem sums_step (c : Dev nD) (t : Fin cfg2.N) (x₈ : Vec F S2x1024 .f32) (hx : ¬ t.val % 8 = 0 → x₈ = sums V c (t.val - 1)) :
    k2_pay2 (rows V c t) (if First (grid2.coords t) then k2_pay1 (F := F) else x₈) = sums V c t.val := by
  have hN : t.val < 8 := lt_of_lt_of_eq t.isLt (show cfg2.N = 8 from N_2)
  by_cases h0 : t.val % 8 = 0
  · rw [if_pos ((first_iff t).mpr h0)]
    obtain rfl : t = pt 0 := Fin.ext (by show t.val = 0; omega)
    rfl
  · rw [if_neg fun h => h0 ((first_iff t).mp h), hx h0]
    obtain ⟨n, hn⟩ : ∃ n, t.val = n + 1 := ⟨t.val - 1, by omega⟩
    obtain rfl : t = pt (n + 1) := by rw [← hn, pt_val]
    rw [hn]; rfl

/-- What the body is called with at point `t`, and what it returns. -/
def stepPre (c : Dev nD) (t : Fin cfg2.N) : sProp 𝕄 :=
  iprop((dat V c).Φ t.castSucc ∗ (dat V c).owesAt none t.castSucc
    ∗ (∃ d, owns (c : Thread nD τ) (win2_0.stage (cfg2.slots t 0)) fullShare ((dat V c).before 0 t d))
    ∗ (∃ d, owns (c : Thread nD τ) (win2_1.stage (cfg2.slots t 1)) fullShare ((dat V c).before 1 t d))
    ∗ (∃ d, owns (c : Thread nD τ) (win2_2.stage (cfg2.slots t 2)) fullShare ((dat V c).before 2 t d))
    ∗ (∃ d, owns (c : Thread nD τ) (win2_3.stage (cfg2.slots t 3)) fullShare ((dat V c).before 3 t d))
    ∗ (∃ d, owns (c : Thread nD τ) (win2_4.stage (cfg2.slots t 4)) fullShare ((dat V c).before 4 t d))
    ∗ (∃ d, owns (c : Thread nD τ) (win2_5.stage (cfg2.slots t 5)) fullShare ((dat V c).before 5 t d))
    ∗ (∃ d, owns (c : Thread nD τ) (win2_6.stage (cfg2.slots t 6)) fullShare ((dat V c).before 6 t d))
    ∗ (∃ d, owns (c : Thread nD τ) (win2_7.stage (cfg2.slots t 7)) fullShare ((dat V c).before 7 t d)))

def stepPost (c : Dev nD) (t : Fin cfg2.N) : sProp 𝕄 :=
  iprop((dat V c).Φ t.succ ∗ (dat V c).owesAt none t.succ
    ∗ owns (c : Thread nD τ) (win2_0.stage (cfg2.slots t 0)) fullShare ((dat V c).after 0 t)
    ∗ owns (c : Thread nD τ) (win2_1.stage (cfg2.slots t 1)) fullShare ((dat V c).after 1 t)
    ∗ owns (c : Thread nD τ) (win2_2.stage (cfg2.slots t 2)) fullShare ((dat V c).after 2 t)
    ∗ owns (c : Thread nD τ) (win2_3.stage (cfg2.slots t 3)) fullShare ((dat V c).after 3 t)
    ∗ owns (c : Thread nD τ) (win2_4.stage (cfg2.slots t 4)) fullShare ((dat V c).after 4 t)
    ∗ owns (c : Thread nD τ) (win2_5.stage (cfg2.slots t 5)) fullShare ((dat V c).after 5 t)
    ∗ owns (c : Thread nD τ) (win2_6.stage (cfg2.slots t 6)) fullShare ((dat V c).after 6 t)
    ∗ owns (c : Thread nD τ) (win2_7.stage (cfg2.slots t 7)) fullShare ((dat V c).after 7 t))

set_option maxHeartbeats 1600000 in
/-- The body at any point: each input's buffer holds its block, so one step's run applies. -/
theorem step_run (c : Dev nD) (t : Fin cfg2.N) :
    stepPre V c t ⊢ wp frame (wpE (defs₀ (F := F)) Variants.none c none) Set.univ (bodyAt2 t) (fun _ => stepPost V c t) := by
  unfold stepPre stepPost bodyAt2
  simp only [before_0, before_1, before_2, before_3, before_4, before_5]
  rw [show (dat V c).Φ t.succ = (dat V c).Φ t.castSucc from rfl,
    show (dat V c).owesAt none t.succ = (dat V c).owesAt none t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← sums_step V c t ((dat V c).before 7 t d7) fun h0 => before_7 V c t h0 d7]
  iapply (body_run c (grid2.coords t) _ _ _ _ _ _ _ _ _ _ _ _ _ _ _ _ (blk V c 0 t) (blk V c 1 t) (blk V c 2 t) (blk V c 3 t) (blk V c 4 t) (blk V c 5 t) ((dat V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg2.N) : defs₀ (F := F) .tc cfg2.body (cfg2.bodyArgs t (cfg2.slots t)) = bodyAt2 t := by
  rfl

/-- The library's body obligation, at every point. -/
theorem obligation (c : Dev nD) : BodyObligation (dat (F := F) V c) (defs₀ (F := F)) Variants.none none Set.univ := fun t => by
  rw [bigSep_W2, bigSep_W2, defs₀_row]
  exact triple_restated (step_run V c t) rfl .rfl fun _ => .rfl

end Cert.KernelIdeal.Layer2

end
-- ==== Proof.KernelIdeal.Layer3.lean ====
/- The third dense layer's call: what one step of its grid leaves in the buffers. -/
module

public import proofs.«01_k».proof.Proof.KernelIdeal.Dense

@[expose] public section

set_option maxRecDepth 16384

noncomputable section

namespace Cert.KernelIdeal.Layer3

open Cert.KernelIdeal Cert.KernelIdeal.Gen Cert.KernelIdeal.Call Cert.KernelIdeal.Dense
open Idealize.ShloMosaic Idealize.ShloMosaic.TcCoe
open Idealize.ShloMosaic.SparseCore.Cfg (HIx)
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The step is the grid's first, as the kernel asks it. -/
abbrev First (i : grid3.Coords) : Prop := (Scalar.cmpi .ne (Scalar.extui (Scalar.cmpi .eq (BitVec.ofNat 32 (i 0).val) 0#32)) 0#32) = 1#1

instance (i : grid3.Coords) : Decidable (First i) := inferInstanceAs (Decidable (_ = _))

theorem first_iff (t : Fin cfg3.N) : First (grid3.coords t) ↔ t.val % 8 = 0 := by
  have ht : t.val < 8 := Nat.lt_of_lt_of_eq t.isLt N_3
  have e0 : (grid3.coords t 0).val = t.val / 1 % 8 := Pipeline.Grid.coords_val t 0 (by decide) rfl
  simp only [First, e0]
  word_cmp

/-- The two rows of the sums. -/
abbrev row0 (x : Vec F S2x1024 .f32) : Vec F S1x1024 .f32 := View.ld x (Rect.unit (s := S2x1024) ![0, 0] S1x1024.size inb_S2x1024_S1x1024_0_0)
abbrev row1 (x : Vec F S2x1024 .f32) : Vec F S1x1024 .f32 := View.ld x (Rect.unit (s := S2x1024) ![1, 0] S1x1024.size inb_S2x1024_S1x1024_1_0)

set_option maxHeartbeats 1000000 in
/-- One step: a band of the layer's rows, and its sums added to the running ones. -/
theorem body_run (c : Dev nD) (i : grid3.Coords) (a₁ : Memref sig .tc .vmem S512x1024 .bf16) (h₁ : a₁.IsWhole) (a₂ : Memref sig .tc .vmem S2x1024 .f32) (h₂ : a₂.IsWhole) (a₃ : Memref sig .tc .vmem S1x1024 .f32) (h₃ : a₃.IsWhole) (a₄ : Memref sig .tc .vmem S1x1024 .f32) (h₄ : a₄.IsWhole) (a₅ : Memref sig .tc .vmem S1024x512 .bf16) (h₅ : a₅.IsWhole) (a₆ : Memref sig .tc .vmem S1x512 .f32) (h₆ : a₆.IsWhole) (a₇ : Memref sig .tc .vmem S512x512 .bf16) (h₇ : a₇.IsWhole) (a₈ : Memref sig .tc .vmem S2x512 .f32) (h₈ : a₈.IsWhole)
    (x₁ : Vec F S512x1024 .bf16) (x₂ : Vec F S2x1024 .f32) (x₃ : Vec F S1x1024 .f32) (x₄ : Vec F S1x1024 .f32) (x₅ : Vec F S1024x512 .bf16) (x₆ : Vec F S1x512 .f32) (x₈ : Vec F S2x512 .f32)
    (E : Set ℕ) (Q : PUnit → sProp 𝕄) :
    iprop(owns (c : Thread nD τ) a₁ fullShare x₁ ∗ owns (c : Thread nD τ) a₂ fullShare x₂ ∗ owns (c : Thread nD τ) a₃ fullShare x₃ ∗ owns (c : Thread nD τ) a₄ fullShare x₄ ∗ owns (c : Thread nD τ) a₅ fullShare x₅ ∗ owns (c : Thread nD τ) a₆ fullShare x₆ ∗ (∃ d, owns (c : Thread nD τ) a₇ fullShare d) ∗ owns (c : Thread nD τ) a₈ fullShare x₈
        ∗ (iprop(owns (c : Thread nD τ) a₁ fullShare x₁ ∗ owns (c : Thread nD τ) a₂ fullShare x₂ ∗ owns (c : Thread nD τ) a₃ fullShare x₃ ∗ owns (c : Thread nD τ) a₄ fullShare x₄ ∗ owns (c : Thread nD τ) a₅ fullShare x₅ ∗ owns (c : Thread nD τ) a₆ fullShare x₆ ∗ owns (c : Thread nD τ) a₇ fullShare (k3_pay3 (row0 x₂) (row1 x₂) x₃ x₄ x₁ x₅ x₆) ∗ owns (c : Thread nD τ) a₈ fullShare (k3_pay2 (k3_pay3 (row0 x₂) (row1 x₂) x₃ x₄ x₁ x₅ x₆) (if First i then k3_pay1 (F := F) else x₈))) -∗ Q ⟨⟩))
      ⊢ wp frame (wpE (defs₀ (F := F)) Variants.none c none) E (cc3__mid_body i a₁ h₁ a₂ h₂ a₃ h₃ a₄ h₄ a₅ h₅ a₆ h₆ a₇ h₇ a₈ h₈) Q := by
  by_cases hc0 : First i
  all_goals
    first | rw [if_pos hc0] | rw [if_neg hc0]
    simp only [cc3__mid_body_eq_skeleton]; unfold cc3__mid_body_skel
    simp only [k3_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := h₁.eq_unread hf1; obtain rfl := h₂.eq_unread hf2; obtain rfl := h₃.eq_unread hf3; obtain rfl := h₄.eq_unread hf4
    obtain rfl := h₅.eq_unread hf5; obtain rfl := h₆.eq_unread hf6; obtain rfl := h₈.eq_unread hf8
    have e1 : View.readAt (Elt F) a₁.view (Rect.unit (s := S512x1024) ![0, 0] S512x1024.size inb_S512x1024_S512x1024_0_0).toLoadRect (h₁.unread x₁) = x₁ := (View.readAt_full _ _ _).trans hf1
    have e2row0 : View.readAt (Elt F) a₂.view (Rect.unit (s := S2x1024) ![0, 0] S1x1024.size inb_S2x1024_S1x1024_0_0).toLoadRect (h₂.unread x₂) = row0 x₂ := congrArg (View.ld · _) hf2
    have e2row1 : View.readAt (Elt F) a₂.view (Rect.unit (s := S2x1024) ![1, 0] S1x1024.size inb_S2x1024_S1x1024_1_0).toLoadRect (h₂.unread x₂) = row1 x₂ := congrArg (View.ld · _) hf2
    have e3 : View.readAt (Elt F) a₃.view (Rect.unit (s := S1x1024) ![0, 0] S1x1024.size inb_S1x1024_S1x1024_0_0).toLoadRect (h₃.unread x₃) = x₃ := (View.readAt_full _ _ _).trans hf3
    have e4 : View.readAt (Elt F) a₄.view (Rect.unit (s := S1x1024) ![0, 0] S1x1024.size inb_S1x1024_S1x1024_0_0).toLoadRect (h₄.unread x₄) = x₄ := (View.readAt_full _ _ _).trans hf4
    have e5 : View.readAt (Elt F) a₅.view (Rect.unit (s := S1024x512) ![0, 0] S1024x512.size inb_S1024x512_S1024x512_0_0).toLoadRect (h₅.unread x₅) = x₅ := (View.readAt_full _ _ _).trans hf5
    have e6 : View.readAt (Elt F) a₆.view (Rect.unit (s := S1x512) ![0, 0] S1x512.size inb_S1x512_S1x512_0_0).toLoadRect (h₆.unread x₆) = x₆ := (View.readAt_full _ _ _).trans hf6
    sl_exec (disch := first | sl_exact hc0)
    sl_step
    iapply Hk
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    isplitl [H7]
    · iexists _; isplitr
      swap; · iexact H7
      ipureintro
      refine (View.read_writes_full _ _ _ _ _).trans ?_
      rfl
    iexists _; isplitr
    swap; · iexact H8
    ipureintro
    refine (View.read_writes_full _ _ _ _ _).trans ?_
    refine congrArg₂ k3_pay2 ?_ ?_
    · first | rfl | (unfold body_run.sl.r; rfl) | (unfold body_run.sl.r_1; rfl)
    · first | exact View.readCov_full _ _ _ _ _ | (unfold body_run.sl.v43 body_run.sl.H8_1; exact View.readCov_full _ _ _ _ _) | exact (View.readAt_full _ _ _).trans hf8

end Cert.KernelIdeal.Layer3

end
-- ==== Proof.KernelIdeal.Data3.lean ====
/- The third dense layer's call: its proof data, and the body's obligation at every point of the grid. -/
module

public import proofs.«01_k».proof.Proof.KernelIdeal.Layer3

@[expose] public section

set_option maxRecDepth 16384

noncomputable section

namespace Cert.KernelIdeal.Layer3

open Cert.KernelIdeal Cert.KernelIdeal.Gen Cert.KernelIdeal.Call Cert.KernelIdeal.Dense
open Idealize.ShloMosaic Idealize.ShloMosaic.TcCoe
open Idealize.ShloMosaic.SparseCore.Cfg (HIx)
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The call's proof data -/

variable (V : (c : Dev nD) → (b : Ref sig .tc) → Buf (Elt F) ((c : Thread nD τ).loc b))

/-- Window `w`'s block at point `t`, read off its array. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The rows that point `t` computes. -/
def rows (c : Dev nD) (t : Fin cfg3.N) : Vec F S512x512 .bf16 := k3_pay3 (row0 (blk V c 1 t)) (row1 (blk V c 1 t)) (blk V c 2 t) (blk V c 3 t) (blk V c 0 t) (blk V c 4 t) (blk V c 5 t)

/-- The grid's point number `n`. -/
def pt (n : ℕ) : Fin cfg3.N := ⟨n % 8, Nat.lt_of_lt_of_eq (Nat.mod_lt _ (by decide)) N_3.symm⟩

theorem pt_val (t : Fin cfg3.N) : pt t.val = t := Fin.ext (Nat.mod_eq_of_lt (Nat.lt_of_lt_of_eq t.isLt N_3))

/-- The running sums after point `n`. -/
def sums (c : Dev nD) : ℕ → Vec F S2x512 .f32
  | 0 => k3_pay2 (rows V c (pt 0)) (k3_pay1 (F := F))
  | n + 1 => k3_pay2 (rows V c (pt (n + 1))) (sums c n)

/-- The pipeline's proof data: the arrays as the call finds them; after each point each input's block, and what the
    point computes. -/
def dat (c : Dev nD) : Dat τ (Elt F) (HIx 1) ℕ UU ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => rows V c t
    | ⟨7, _⟩ => sums V c t.val
  Φ _ := inv spec3 c
  q _ := fullShare
  owed _ := 0
  recorded _ := low (F := F) c

theorem A_eq (c : Dev nD) (w : Fin cfg3.W) : (dat V c).A w = V c (Pipeline.arrRef spec3 w) := by dsimp only [dat]
theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = blk V c 3 t := by dsimp only [dat]
theorem after_4 (c : Dev nD) (t : Fin cfg3.N) : (dat V c).after 4 t = blk V c 4 t := by dsimp only [dat]
theorem after_5 (c : Dev nD) (t : Fin cfg3.N) : (dat V c).after 5 t = blk V c 5 t := by dsimp only [dat]
theorem after_6 (c : Dev nD) (t : Fin cfg3.N) : (dat V c).after 6 t = rows V c t := by dsimp only [dat]
theorem after_7 (c : Dev nD) (t : Fin cfg3.N) : (dat V c).after 7 t = sums V c t.val := by dsimp only [dat]

theorem before_0 (c : Dev nD) (t : Fin cfg3.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg3.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg3.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg3.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg3.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg3.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)

theorem before_7 (c : Dev nD) (t : Fin cfg3.N) (h0 : ¬ t.val % 8 = 0) (d) : (dat V c).before 7 t d = sums V c (t.val - 1) := by
  have hN : t.val < 8 := lt_of_lt_of_eq t.isLt (show cfg3.N = 8 from N_3)
  rw [Dat.before_out_kept _ 7 rfl t (by omega) (Bool.eq_false_iff.mpr fun h => by have := (flush3_7 _).mp h; dsimp only at this; omega)
    (fun _ => rfl) (fun _ _ => rfl)]
  dsimp only [dat]

/-- The running sums, step by step. -/
theorem sums_step (c : Dev nD) (t : Fin cfg3.N) (x₈ : Vec F S2x512 .f32) (hx : ¬ t.val % 8 = 0 → x₈ = sums V c (t.val - 1)) :
    k3_pay2 (rows V c t) (if First (grid3.coords t) then k3_pay1 (F := F) else x₈) = sums V c t.val := by
  have hN : t.val < 8 := lt_of_lt_of_eq t.isLt (show cfg3.N = 8 from N_3)
  by_cases h0 : t.val % 8 = 0
  · rw [if_pos ((first_iff t).mpr h0)]
    obtain rfl : t = pt 0 := Fin.ext (by show t.val = 0; omega)
    rfl
  · rw [if_neg fun h => h0 ((first_iff t).mp h), hx h0]
    obtain ⟨n, hn⟩ : ∃ n, t.val = n + 1 := ⟨t.val - 1, by omega⟩
    obtain rfl : t = pt (n + 1) := by rw [← hn, pt_val]
    rw [hn]; rfl

/-- What the body is called with at point `t`, and what it returns. -/
def stepPre (c : Dev nD) (t : Fin cfg3.N) : sProp 𝕄 :=
  iprop((dat V c).Φ t.castSucc ∗ (dat V c).owesAt none t.castSucc
    ∗ (∃ d, owns (c : Thread nD τ) (win3_0.stage (cfg3.slots t 0)) fullShare ((dat V c).before 0 t d))
    ∗ (∃ d, owns (c : Thread nD τ) (win3_1.stage (cfg3.slots t 1)) fullShare ((dat V c).before 1 t d))
    ∗ (∃ d, owns (c : Thread nD τ) (win3_2.stage (cfg3.slots t 2)) fullShare ((dat V c).before 2 t d))
    ∗ (∃ d, owns (c : Thread nD τ) (win3_3.stage (cfg3.slots t 3)) fullShare ((dat V c).before 3 t d))
    ∗ (∃ d, owns (c : Thread nD τ) (win3_4.stage (cfg3.slots t 4)) fullShare ((dat V c).before 4 t d))
    ∗ (∃ d, owns (c : Thread nD τ) (win3_5.stage (cfg3.slots t 5)) fullShare ((dat V c).before 5 t d))
    ∗ (∃ d, owns (c : Thread nD τ) (win3_6.stage (cfg3.slots t 6)) fullShare ((dat V c).before 6 t d))
    ∗ (∃ d, owns (c : Thread nD τ) (win3_7.stage (cfg3.slots t 7)) fullShare ((dat V c).before 7 t d)))

def stepPost (c : Dev nD) (t : Fin cfg3.N) : sProp 𝕄 :=
  iprop((dat V c).Φ t.succ ∗ (dat V c).owesAt none t.succ
    ∗ owns (c : Thread nD τ) (win3_0.stage (cfg3.slots t 0)) fullShare ((dat V c).after 0 t)
    ∗ owns (c : Thread nD τ) (win3_1.stage (cfg3.slots t 1)) fullShare ((dat V c).after 1 t)
    ∗ owns (c : Thread nD τ) (win3_2.stage (cfg3.slots t 2)) fullShare ((dat V c).after 2 t)
    ∗ owns (c : Thread nD τ) (win3_3.stage (cfg3.slots t 3)) fullShare ((dat V c).after 3 t)
    ∗ owns (c : Thread nD τ) (win3_4.stage (cfg3.slots t 4)) fullShare ((dat V c).after 4 t)
    ∗ owns (c : Thread nD τ) (win3_5.stage (cfg3.slots t 5)) fullShare ((dat V c).after 5 t)
    ∗ owns (c : Thread nD τ) (win3_6.stage (cfg3.slots t 6)) fullShare ((dat V c).after 6 t)
    ∗ owns (c : Thread nD τ) (win3_7.stage (cfg3.slots t 7)) fullShare ((dat V c).after 7 t))

set_option maxHeartbeats 1600000 in
/-- The body at any point: each input's buffer holds its block, so one step's run applies. -/
theorem step_run (c : Dev nD) (t : Fin cfg3.N) :
    stepPre V c t ⊢ wp frame (wpE (defs₀ (F := F)) Variants.none c none) Set.univ (bodyAt3 t) (fun _ => stepPost V c t) := by
  unfold stepPre stepPost bodyAt3
  simp only [before_0, before_1, before_2, before_3, before_4, before_5]
  rw [show (dat V c).Φ t.succ = (dat V c).Φ t.castSucc from rfl,
    show (dat V c).owesAt none t.succ = (dat V c).owesAt none t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← sums_step V c t ((dat V c).before 7 t d7) fun h0 => before_7 V c t h0 d7]
  iapply (body_run c (grid3.coords t) _ _ _ _ _ _ _ _ _ _ _ _ _ _ _ _ (blk V c 0 t) (blk V c 1 t) (blk V c 2 t) (blk V c 3 t) (blk V c 4 t) (blk V c 5 t) ((dat V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg3.N) : defs₀ (F := F) .tc cfg3.body (cfg3.bodyArgs t (cfg3.slots t)) = bodyAt3 t := by
  rfl

/-- The library's body obligation, at every point. -/
theorem obligation (c : Dev nD) : BodyObligation (dat (F := F) V c) (defs₀ (F := F)) Variants.none none Set.univ := fun t => by
  rw [bigSep_W3, bigSep_W3, defs₀_row]
  exact triple_restated (step_run V c t) rfl .rfl fun _ => .rfl

end Cert.KernelIdeal.Layer3

end
-- ==== Proof.KernelIdeal.Layer4.lean ====
/- The last dense layer's call: what one step of its grid leaves in the buffers. -/
module

public import proofs.«01_k».proof.Proof.KernelIdeal.Dense

@[expose] public section

set_option maxRecDepth 16384

noncomputable section

namespace Cert.KernelIdeal.Layer4

open Cert.KernelIdeal Cert.KernelIdeal.Gen Cert.KernelIdeal.Call Cert.KernelIdeal.Dense
open Idealize.ShloMosaic Idealize.ShloMosaic.TcCoe
open Idealize.ShloMosaic.SparseCore.Cfg (HIx)
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The two rows of the sums. -/
abbrev row0 (x : Vec F S2x512 .f32) : Vec F S1x512 .f32 := View.ld x (Rect.unit (s := S2x512) ![0, 0] S1x512.size inb_S2x512_S1x512_0_0)
abbrev row1 (x : Vec F S2x512 .f32) : Vec F S1x512 .f32 := View.ld x (Rect.unit (s := S2x512) ![1, 0] S1x512.size inb_S2x512_S1x512_1_0)

set_option maxHeartbeats 1000000 in
/-- One step: a band of the layer's rows. -/
theorem body_run (c : Dev nD) (i : grid4.Coords) (a₁ : Memref sig .tc .vmem S512x512 .bf16) (h₁ : a₁.IsWhole) (a₂ : Memref sig .tc .vmem S2x512 .f32) (h₂ : a₂.IsWhole) (a₃ : Memref sig .tc .vmem S1x512 .f32) (h₃ : a₃.IsWhole) (a₄ : Memref sig .tc .vmem S1x512 .f32) (h₄ : a₄.IsWhole) (a₅ : Memref sig .tc .vmem S512x1024 .bf16) (h₅ : a₅.IsWhole) (a₆ : Memref sig .tc .vmem S1x1024 .f32) (h₆ : a₆.IsWhole) (a₇ : Memref sig .tc .vmem S512x1024 .f32) (h₇ : a₇.IsWhole)
    (x₁ : Vec F S512x512 .bf16) (x₂ : Vec F S2x512 .f32) (x₃ : Vec F S1x512 .f32) (x₄ : Vec F S1x512 .f32) (x₅ : Vec F S512x1024 .bf16) (x₆ : Vec F S1x1024 .f32)
    (E : Set ℕ) (Q : PUnit → sProp 𝕄) :
    iprop(owns (c : Thread nD τ) a₁ fullShare x₁ ∗ owns (c : Thread nD τ) a₂ fullShare x₂ ∗ owns (c : Thread nD τ) a₃ fullShare x₃ ∗ owns (c : Thread nD τ) a₄ fullShare x₄ ∗ owns (c : Thread nD τ) a₅ fullShare x₅ ∗ owns (c : Thread nD τ) a₆ fullShare x₆ ∗ (∃ d, owns (c : Thread nD τ) a₇ fullShare d)
        ∗ (iprop(owns (c : Thread nD τ) a₁ fullShare x₁ ∗ owns (c : Thread nD τ) a₂ fullShare x₂ ∗ owns (c : Thread nD τ) a₃ fullShare x₃ ∗ owns (c : Thread nD τ) a₄ fullShare x₄ ∗ owns (c : Thread nD τ) a₅ fullShare x₅ ∗ owns (c : Thread nD τ) a₆ fullShare x₆ ∗ owns (c : Thread nD τ) a₇ fullShare (k4_pay1 (row0 x₂) (row1 x₂) x₃ x₄ x₁ x₅ x₆)) -∗ Q ⟨⟩))
      ⊢ wp frame (wpE (defs₀ (F := F)) Variants.none c none) E (cc4__fin_body i a₁ h₁ a₂ h₂ a₃ h₃ a₄ h₄ a₅ h₅ a₆ h₆ a₇ h₇) Q := by
  all_goals
    simp only [cc4__fin_body_eq_skeleton]; unfold cc4__fin_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h₁.eq_unread hf1; obtain rfl := h₂.eq_unread hf2; obtain rfl := h₃.eq_unread hf3; obtain rfl := h₄.eq_unread hf4
    obtain rfl := h₅.eq_unread hf5; obtain rfl := h₆.eq_unread hf6
    have e1 : View.readAt (Elt F) a₁.view (Rect.unit (s := S512x512) ![0, 0] S512x512.size inb_S512x512_S512x512_0_0).toLoadRect (h₁.unread x₁) = x₁ := (View.readAt_full _ _ _).trans hf1
    have e2row0 : View.readAt (Elt F) a₂.view (Rect.unit (s := S2x512) ![0, 0] S1x512.size inb_S2x512_S1x512_0_0).toLoadRect (h₂.unread x₂) = row0 x₂ := congrArg (View.ld · _) hf2
    have e2row1 : View.readAt (Elt F) a₂.view (Rect.unit (s := S2x512) ![1, 0] S1x512.size inb_S2x512_S1x512_1_0).toLoadRect (h₂.unread x₂) = row1 x₂ := congrArg (View.ld · _) hf2
    have e3 : View.readAt (Elt F) a₃.view (Rect.unit (s := S1x512) ![0, 0] S1x512.size inb_S1x512_S1x512_0_0).toLoadRect (h₃.unread x₃) = x₃ := (View.readAt_full _ _ _).trans hf3
    have e4 : View.readAt (Elt F) a₄.view (Rect.unit (s := S1x512) ![0, 0] S1x512.size inb_S1x512_S1x512_0_0).toLoadRect (h₄.unread x₄) = x₄ := (View.readAt_full _ _ _).trans hf4
    have e5 : View.readAt (Elt F) a₅.view (Rect.unit (s := S512x1024) ![0, 0] S512x1024.size inb_S512x1024_S512x1024_0_0).toLoadRect (h₅.unread x₅) = x₅ := (View.readAt_full _ _ _).trans hf5
    have e6 : View.readAt (Elt F) a₆.view (Rect.unit (s := S1x1024) ![0, 0] S1x1024.size inb_S1x1024_S1x1024_0_0).toLoadRect (h₆.unread x₆) = x₆ := (View.readAt_full _ _ _).trans hf6
    sl_exec
    sl_step
    iapply Hk
    isplitl [H1]; · iexists _; isplitr; · ipureintro; exact hf1
                    iexact H1
    isplitl [H2]; · iexists _; isplitr; · ipureintro; exact hf2
                    iexact H2
    isplitl [H3]; · iexists _; isplitr; · ipureintro; exact hf3
                    iexact H3
    isplitl [H4]; · iexists _; isplitr; · ipureintro; exact hf4
                    iexact H4
    isplitl [H5]; · iexists _; isplitr; · ipureintro; exact hf5
                    iexact H5
    isplitl [H6]; · iexists _; isplitr; · ipureintro; exact hf6
                    iexact H6
    iexists _; isplitr
    swap; · iexact H7
    ipureintro
    refine (View.read_writes_full _ _ _ _ _).trans ?_
    rfl

end Cert.KernelIdeal.Layer4

end
-- ==== Proof.KernelIdeal.Data4.lean ====
/- The last dense layer's call: its proof data, and the body's obligation at every point of the grid. -/
module

public import proofs.«01_k».proof.Proof.KernelIdeal.Layer4

@[expose] public section

set_option maxRecDepth 16384

noncomputable section

namespace Cert.KernelIdeal.Layer4

open Cert.KernelIdeal Cert.KernelIdeal.Gen Cert.KernelIdeal.Call Cert.KernelIdeal.Dense
open Idealize.ShloMosaic Idealize.ShloMosaic.TcCoe
open Idealize.ShloMosaic.SparseCore.Cfg (HIx)
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The call's proof data -/

variable (V : (c : Dev nD) → (b : Ref sig .tc) → Buf (Elt F) ((c : Thread nD τ).loc b))

/-- Window `w`'s block at point `t`, read off its array. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The rows that point `t` computes. -/
def rows (c : Dev nD) (t : Fin cfg4.N) : Vec F S512x1024 .f32 := k4_pay1 (row0 (blk V c 1 t)) (row1 (blk V c 1 t)) (blk V c 2 t) (blk V c 3 t) (blk V c 0 t) (blk V c 4 t) (blk V c 5 t)

/-- The pipeline's proof data: the arrays as the call finds them; after each point each input's block, and what the
    point computes. -/
def dat (c : Dev nD) : Dat τ (Elt F) (HIx 1) ℕ UU ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => rows V c t
  Φ _ := inv spec4 c
  q _ := fullShare
  owed _ := 0
  recorded _ := low (F := F) c

theorem A_eq (c : Dev nD) (w : Fin cfg4.W) : (dat V c).A w = V c (Pipeline.arrRef spec4 w) := by dsimp only [dat]
theorem after_0 (c : Dev nD) (t : Fin cfg4.N) : (dat V c).after 0 t = blk V c 0 t := by dsimp only [dat]
theorem after_1 (c : Dev nD) (t : Fin cfg4.N) : (dat V c).after 1 t = blk V c 1 t := by dsimp only [dat]
theorem after_2 (c : Dev nD) (t : Fin cfg4.N) : (dat V c).after 2 t = blk V c 2 t := by dsimp only [dat]
theorem after_3 (c : Dev nD) (t : Fin cfg4.N) : (dat V c).after 3 t = blk V c 3 t := by dsimp only [dat]
theorem after_4 (c : Dev nD) (t : Fin cfg4.N) : (dat V c).after 4 t = blk V c 4 t := by dsimp only [dat]
theorem after_5 (c : Dev nD) (t : Fin cfg4.N) : (dat V c).after 5 t = blk V c 5 t := by dsimp only [dat]
theorem after_6 (c : Dev nD) (t : Fin cfg4.N) : (dat V c).after 6 t = rows V c t := by dsimp only [dat]

theorem before_0 (c : Dev nD) (t : Fin cfg4.N) (d) : (dat V c).before 0 t d = blk V c 0 t :=
  ((dat V c).before_in_eq_fetched 0 rfl (fun _ => rfl) (fun _ _ _ => rfl) (fun t => by rw [after_0]; unfold Dat.blockOf blk; rw [A_eq]; try rfl) t d).trans
    (by unfold Dat.fetched Dat.blockOf blk; rw [A_eq]; try rfl)
theorem before_1 (c : Dev nD) (t : Fin cfg4.N) (d) : (dat V c).before 1 t d = blk V c 1 t :=
  ((dat V c).before_in_eq_fetched 1 rfl (fun _ => rfl) (fun _ _ _ => rfl) (fun t => by rw [after_1]; unfold Dat.blockOf blk; rw [A_eq]; try rfl) t d).trans
    (by unfold Dat.fetched Dat.blockOf blk; rw [A_eq]; try rfl)
theorem before_2 (c : Dev nD) (t : Fin cfg4.N) (d) : (dat V c).before 2 t d = blk V c 2 t :=
  ((dat V c).before_in_eq_fetched 2 rfl (fun _ => rfl) (fun _ _ _ => rfl) (fun t => by rw [after_2]; unfold Dat.blockOf blk; rw [A_eq]; try rfl) t d).trans
    (by unfold Dat.fetched Dat.blockOf blk; rw [A_eq]; try rfl)
theorem before_3 (c : Dev nD) (t : Fin cfg4.N) (d) : (dat V c).before 3 t d = blk V c 3 t :=
  ((dat V c).before_in_eq_fetched 3 rfl (fun _ => rfl) (fun _ _ _ => rfl) (fun t => by rw [after_3]; unfold Dat.blockOf blk; rw [A_eq]; try rfl) t d).trans
    (by unfold Dat.fetched Dat.blockOf blk; rw [A_eq]; try rfl)
theorem before_4 (c : Dev nD) (t : Fin cfg4.N) (d) : (dat V c).before 4 t d = blk V c 4 t :=
  ((dat V c).before_in_eq_fetched 4 rfl (fun _ => rfl) (fun _ _ _ => rfl) (fun t => by rw [after_4]; unfold Dat.blockOf blk; rw [A_eq]; try rfl) t d).trans
    (by unfold Dat.fetched Dat.blockOf blk; rw [A_eq]; try rfl)
theorem before_5 (c : Dev nD) (t : Fin cfg4.N) (d) : (dat V c).before 5 t d = blk V c 5 t :=
  ((dat V c).before_in_eq_fetched 5 rfl (fun _ => rfl) (fun _ _ _ => rfl) (fun t => by rw [after_5]; unfold Dat.blockOf blk; rw [A_eq]; try rfl) t d).trans
    (by unfold Dat.fetched Dat.blockOf blk; rw [A_eq]; try rfl)

/-- What the body is called with at point `t`, and what it returns. -/
def stepPre (c : Dev nD) (t : Fin cfg4.N) : sProp 𝕄 :=
  iprop((dat V c).Φ t.castSucc ∗ (dat V c).owesAt none t.castSucc
    ∗ (∃ d, owns (c : Thread nD τ) (win4_0.stage (cfg4.slots t 0)) fullShare ((dat V c).before 0 t d))
    ∗ (∃ d, owns (c : Thread nD τ) (win4_1.stage (cfg4.slots t 1)) fullShare ((dat V c).before 1 t d))
    ∗ (∃ d, owns (c : Thread nD τ) (win4_2.stage (cfg4.slots t 2)) fullShare ((dat V c).before 2 t d))
    ∗ (∃ d, owns (c : Thread nD τ) (win4_3.stage (cfg4.slots t 3)) fullShare ((dat V c).before 3 t d))
    ∗ (∃ d, owns (c : Thread nD τ) (win4_4.stage (cfg4.slots t 4)) fullShare ((dat V c).before 4 t d))
    ∗ (∃ d, owns (c : Thread nD τ) (win4_5.stage (cfg4.slots t 5)) fullShare ((dat V c).before 5 t d))
    ∗ (∃ d, owns (c : Thread nD τ) (win4_6.stage (cfg4.slots t 6)) fullShare ((dat V c).before 6 t d)))

def stepPost (c : Dev nD) (t : Fin cfg4.N) : sProp 𝕄 :=
  iprop((dat V c).Φ t.succ ∗ (dat V c).owesAt none t.succ
    ∗ owns (c : Thread nD τ) (win4_0.stage (cfg4.slots t 0)) fullShare ((dat V c).after 0 t)
    ∗ owns (c : Thread nD τ) (win4_1.stage (cfg4.slots t 1)) fullShare ((dat V c).after 1 t)
    ∗ owns (c : Thread nD τ) (win4_2.stage (cfg4.slots t 2)) fullShare ((dat V c).after 2 t)
    ∗ owns (c : Thread nD τ) (win4_3.stage (cfg4.slots t 3)) fullShare ((dat V c).after 3 t)
    ∗ owns (c : Thread nD τ) (win4_4.stage (cfg4.slots t 4)) fullShare ((dat V c).after 4 t)
    ∗ owns (c : Thread nD τ) (win4_5.stage (cfg4.slots t 5)) fullShare ((dat V c).after 5 t)
    ∗ owns (c : Thread nD τ) (win4_6.stage (cfg4.slots t 6)) fullShare ((dat V c).after 6 t))

set_option maxHeartbeats 1600000 in
/-- The body at any point: each input's buffer holds its block, so one step's run applies. -/
theorem step_run (c : Dev nD) (t : Fin cfg4.N) :
    stepPre V c t ⊢ wp frame (wpE (defs₀ (F := F)) Variants.none c none) Set.univ (bodyAt4 t) (fun _ => stepPost V c t) := by
  unfold stepPre stepPost bodyAt4
  simp only [before_0, before_1, before_2, before_3, before_4, before_5]
  rw [show (dat V c).Φ t.succ = (dat V c).Φ t.castSucc from rfl,
    show (dat V c).owesAt none t.succ = (dat V c).owesAt none t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c (grid4.coords t) _ _ _ _ _ _ _ _ _ _ _ _ _ _ (blk V c 0 t) (blk V c 1 t) (blk V c 2 t) (blk V c 3 t) (blk V c 4 t) (blk V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg4.N) : defs₀ (F := F) .tc cfg4.body (cfg4.bodyArgs t (cfg4.slots t)) = bodyAt4 t := by
  rfl

/-- The library's body obligation, at every point. -/
theorem obligation (c : Dev nD) : BodyObligation (dat (F := F) V c) (defs₀ (F := F)) Variants.none none Set.univ := fun t => by
  rw [bigSep_W4, bigSep_W4, defs₀_row]
  exact triple_restated (step_run V c t) rfl .rfl fun _ => .rfl

end Cert.KernelIdeal.Layer4

end
-- ==== Proof.KernelIdeal.Tail.lean ====
/- The host's program after the SparseCore call: the four dense layers' calls and the host operations between them, as
   steps from one set of arrays' contents to the next. -/
module

public import proofs.«01_k».proof.Proof.KernelIdeal.Region
public import proofs.«01_k».proof.Proof.KernelIdeal.Data1
public import proofs.«01_k».proof.Proof.KernelIdeal.Data2
public import proofs.«01_k».proof.Proof.KernelIdeal.Data3
public import proofs.«01_k».proof.Proof.KernelIdeal.Data4

@[expose] public section

set_option maxRecDepth 16384

noncomputable section

namespace Cert.KernelIdeal.Dense

open Cert.KernelIdeal Cert.KernelIdeal.Gen Cert.KernelIdeal.Call
open Idealize.ShloMosaic Idealize.ShloMosaic.TcCoe
open Idealize.ShloMosaic.SparseCore.Cfg (HIx)
open Idealize.ShloMosaic.Rounds
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The host's operations between the calls -/

/-- Before the first layer: the counts as a matrix, the tables and weights padded and rounded. -/
abbrev opsA : List (HloOp τ sig (Elt F)) :=
  [ StableHlo.reshape main_v1_0 main_v2 (rfl : (.f32 : EltTy) = .f32) shapeCasts_S4194304_S4096x1024,
    StableHlo.nullary main_c_0 (constantI S_ 32 0#32),
    StableHlo.TRef.unary (.of main_c_0) main_call1.v0 (sitofp .f32),
    StableHlo.TRef.binary (StableHlo.TRef.of main_arg3 : StableHlo.TRef sig ⟨S1000x128, .f32⟩) main_call1.v0 main_call1.v1
      (fun x v => pad S1024x128 ![0, 0] ![24, 0] ![0, 0] x v pads_S1000x128_S1024x128_0240_000 h_S_),
    StableHlo.unary main_v3 main_v4 ((truncf .bf16 · bitsLt_bf16_f32) : (⟨S1024x128, .f32⟩ : BufTy).Contents (Elt F) → (⟨S1024x128, .bf16⟩ : BufTy).Contents (Elt F)),
    StableHlo.unary main_arg6 main_v5 ((truncf .bf16 · bitsLt_bf16_f32) : (⟨S512x1024, .f32⟩ : BufTy).Contents (Elt F) → (⟨S512x1024, .bf16⟩ : BufTy).Contents (Elt F)),
    StableHlo.unary main_arg10 main_v6 ((truncf .bf16 · bitsLt_bf16_f32) : (⟨S1024x1024, .f32⟩ : BufTy).Contents (Elt F) → (⟨S1024x1024, .bf16⟩ : BufTy).Contents (Elt F)),
    StableHlo.unary main_arg14 main_v7 ((truncf .bf16 · bitsLt_bf16_f32) : (⟨S1024x512, .f32⟩ : BufTy).Contents (Elt F) → (⟨S1024x512, .bf16⟩ : BufTy).Contents (Elt F)),
    StableHlo.nullary main_c_1 (constantI S_ 32 0#32),
    StableHlo.TRef.unary (.of main_c_1) main_call2.v0 (sitofp .f32),
    StableHlo.TRef.binary (StableHlo.TRef.of main_arg18 : StableHlo.TRef sig ⟨S512x1000, .f32⟩) main_call2.v0 main_call2.v1
      (fun x v => pad S512x1024 ![0, 0] ![0, 24] ![0, 0] x v pads_S512x1000_S512x1024_000_0240 h_S_),
    StableHlo.unary main_v8 main_v9 ((truncf .bf16 · bitsLt_bf16_f32) : (⟨S512x1024, .f32⟩ : BufTy).Contents (Elt F) → (⟨S512x1024, .bf16⟩ : BufTy).Contents (Elt F)),
    StableHlo.nullary main_c_2 (constantI S_ 32 0#32),
    StableHlo.TRef.unary (.of main_c_2) main_call3.v0 (sitofp .f32),
    StableHlo.TRef.binary (StableHlo.TRef.of main_arg19 : StableHlo.TRef sig ⟨S1000, .f32⟩) main_call3.v0 main_call3.v1
      (fun x v => pad S1024 ![0] ![24] ![0] x v pads_S1000_S1024_0240 h_S_),
    StableHlo.reshape main_v10 main_v11 (rfl : (.f32 : EltTy) = .f32) shapeCasts_S1024_S1x1024,
    StableHlo.reshape main_arg7 main_v12 (rfl : (.f32 : EltTy) = .f32) shapeCasts_S1024_S1x1024 ]

/-- Between the layers: each layer's vectors as rows. -/
abbrev opsB : List (HloOp τ sig (Elt F)) :=
  [ StableHlo.reshape main_arg8 main_v14 (rfl : (.f32 : EltTy) = .f32) shapeCasts_S1024_S1x1024,
    StableHlo.reshape main_arg9 main_v15 (rfl : (.f32 : EltTy) = .f32) shapeCasts_S1024_S1x1024,
    StableHlo.reshape main_arg11 main_v16 (rfl : (.f32 : EltTy) = .f32) shapeCasts_S1024_S1x1024 ]
abbrev opsC : List (HloOp τ sig (Elt F)) :=
  [ StableHlo.reshape main_arg12 main_v18 (rfl : (.f32 : EltTy) = .f32) shapeCasts_S1024_S1x1024,
    StableHlo.reshape main_arg13 main_v19 (rfl : (.f32 : EltTy) = .f32) shapeCasts_S1024_S1x1024,
    StableHlo.reshape main_arg15 main_v20 (rfl : (.f32 : EltTy) = .f32) shapeCasts_S512_S1x512 ]
abbrev opsD : List (HloOp τ sig (Elt F)) :=
  [ StableHlo.reshape main_arg16 main_v22 (rfl : (.f32 : EltTy) = .f32) shapeCasts_S512_S1x512,
    StableHlo.reshape main_arg17 main_v23 (rfl : (.f32 : EltTy) = .f32) shapeCasts_S512_S1x512 ]
/-- At the end: the padding columns cut off. -/
abbrev opsE : List (HloOp τ sig (Elt F)) :=
  [ StableHlo.unary main_v24 main_v25 ((extractStridedSlice S4096x1000 ![0, 0] · slices_S4096x1024_S4096x1000_0_0) : (⟨S4096x1024, .f32⟩ : BufTy).Contents (Elt F) → (⟨S4096x1000, .f32⟩ : BufTy).Contents (Elt F)) ]

/-- An operation that stays within the host's arrays and allocates nothing. -/
abbrev Plain (op : HloOp τ sig (Elt F)) : Prop := op.bufs ⊆ StableHlo.tcRefs τ sig ∧ op.fresh = ∅

theorem plainA : (opsA (F := F)).Forall Plain := by
  simp only [List.Forall]
  refine ⟨⟨?_, rfl⟩, ⟨?_, rfl⟩, ⟨?_, rfl⟩, ⟨?_, rfl⟩, ⟨?_, rfl⟩, ⟨?_, rfl⟩, ⟨?_, rfl⟩, ⟨?_, rfl⟩, ⟨?_, rfl⟩, ⟨?_, rfl⟩, ⟨?_, rfl⟩, ⟨?_, rfl⟩, ⟨?_, rfl⟩, ⟨?_, rfl⟩, ⟨?_, rfl⟩, ⟨?_, rfl⟩, ⟨?_, rfl⟩⟩
  all_goals first | exact StableHlo.reshape_bufs_sub .. | exact StableHlo.nullary_bufs_sub .. | exact StableHlo.unary_bufs_sub .. | exact StableHlo.binary_bufs_sub ..
theorem plainB : (opsB (F := F)).Forall Plain :=
  ⟨⟨StableHlo.reshape_bufs_sub .., rfl⟩, ⟨StableHlo.reshape_bufs_sub .., rfl⟩, ⟨StableHlo.reshape_bufs_sub .., rfl⟩⟩
theorem plainC : (opsC (F := F)).Forall Plain :=
  ⟨⟨StableHlo.reshape_bufs_sub .., rfl⟩, ⟨StableHlo.reshape_bufs_sub .., rfl⟩, ⟨StableHlo.reshape_bufs_sub .., rfl⟩⟩
theorem plainD : (opsD (F := F)).Forall Plain :=
  ⟨⟨StableHlo.reshape_bufs_sub .., rfl⟩, ⟨StableHlo.reshape_bufs_sub .., rfl⟩⟩
theorem plainE : (opsE (F := F)).Forall Plain := ⟨StableHlo.unary_bufs_sub .., rfl⟩

/-! ## The arrays' contents from step to step -/

/-- A device's arrays as a call's proof data reads them. -/
abbrev vals (W : Dev nD → Valuation τ sig (Elt F)) (c : Dev nD) (b : Ref sig .tc) : Buf (Elt F) ((c : Thread nD τ).loc b) := W c (Proc.devRef .tc b)

variable (V : Dev nD → Valuation τ sig (Elt F))

def A₁ (c : Dev nD) : Valuation τ sig (Elt F) := StableHlo.after opsA (V c)
def B₁ (c : Dev nD) : Valuation τ sig (Elt F) := Pipeline.withArrays spec1 c (A₁ V c) ((Layer1.dat (vals (A₁ V)) c).arrAt · cfg1.N)
def A₂ (c : Dev nD) : Valuation τ sig (Elt F) := StableHlo.after opsB (B₁ V c)
def B₂ (c : Dev nD) : Valuation τ sig (Elt F) := Pipeline.withArrays spec2 c (A₂ V c) ((Layer2.dat (vals (A₂ V)) c).arrAt · cfg2.N)
def A₃ (c : Dev nD) : Valuation τ sig (Elt F) := StableHlo.after opsC (B₂ V c)
def B₃ (c : Dev nD) : Valuation τ sig (Elt F) := Pipeline.withArrays spec3 c (A₃ V c) ((Layer3.dat (vals (A₃ V)) c).arrAt · cfg3.N)
def A₄ (c : Dev nD) : Valuation τ sig (Elt F) := StableHlo.after opsD (B₃ V c)
def B₄ (c : Dev nD) : Valuation τ sig (Elt F) := Pipeline.withArrays spec4 c (A₄ V c) ((Layer4.dat (vals (A₄ V)) c).arrAt · cfg4.N)
/-- At the end of the program. -/
def done (c : Dev nD) : Valuation τ sig (Elt F) := StableHlo.after opsE (B₄ V c)

/-- The proof data of the four calls, each at the contents it is entered with. -/
def family : Family (F := F)
  | ⟨0, _⟩ => fun c => Layer1.dat (vals (A₁ V)) c
  | ⟨1, _⟩ => fun c => Layer2.dat (vals (A₂ V)) c
  | ⟨2, _⟩ => fun c => Layer3.dat (vals (A₃ V)) c
  | ⟨3, _⟩ => fun c => Layer4.dat (vals (A₄ V)) c

/-! ## The steps -/

abbrev host (ops : List (HloOp τ sig (Elt F))) (h : ops.Forall Plain) (W : Dev nD → Valuation τ sig (Elt F)) :
    Pipeline.HostSeg (Name := ℕ) (U := UU) (pcfgs (F := F)) defs₀ Variants.none (K (F := F)).L (K (F := F)).lev :=
  Pipeline.HostSeg.ofOps _ _ _ _ _ (Pipeline.ucRefs τ sig) ops
    (fun op ho => Pipeline.sub_ucRefs op ((List.forall_iff_forall_mem.mp h) op ho).1)
    (fun op ho => ((List.forall_iff_forall_mem.mp h) op ho).2) W R

def call₁ : Pipeline.RegionSeg (pcfgs (F := F)) adm (family V) none defs₀ Variants.none (K (F := F)).L (K (F := F)).lev 0 :=
  region (family V) 0 launch1 (A₁ V) (fun c w => Layer1.A_eq (vals (A₁ V)) c w) (fun _ _ => rfl) (fun _ _ => rfl) (fun _ _ => rfl) (fun _ _ => rfl)
    (fun c => (Layer1.obligation (vals (A₁ V)) c).loose)
def call₂ : Pipeline.RegionSeg (pcfgs (F := F)) adm (family V) none defs₀ Variants.none (K (F := F)).L (K (F := F)).lev 1 :=
  region (family V) 1 launch2 (A₂ V) (fun c w => Layer2.A_eq (vals (A₂ V)) c w) (fun _ _ => rfl) (fun _ _ => rfl) (fun _ _ => rfl) (fun _ _ => rfl)
    (fun c => (Layer2.obligation (vals (A₂ V)) c).loose)
def call₃ : Pipeline.RegionSeg (pcfgs (F := F)) adm (family V) none defs₀ Variants.none (K (F := F)).L (K (F := F)).lev 2 :=
  region (family V) 2 launch3 (A₃ V) (fun c w => Layer3.A_eq (vals (A₃ V)) c w) (fun _ _ => rfl) (fun _ _ => rfl) (fun _ _ => rfl) (fun _ _ => rfl)
    (fun c => (Layer3.obligation (vals (A₃ V)) c).loose)
def call₄ : Pipeline.RegionSeg (pcfgs (F := F)) adm (family V) none defs₀ Variants.none (K (F := F)).L (K (F := F)).lev 3 :=
  region (family V) 3 launch4 (A₄ V) (fun c w => Layer4.A_eq (vals (A₄ V)) c w) (fun _ _ => rfl) (fun _ _ => rfl) (fun _ _ => rfl) (fun _ _ => rfl)
    (fun c => (Layer4.obligation (vals (A₄ V)) c).loose)

def steps : List (Pipeline.Seg (pcfgs (F := F)) adm (family V) none defs₀ Variants.none (K (F := F)).L (K (F := F)).lev) :=
  [.host (host opsA plainA V), .region (call₁ V), .host (host opsB plainB (B₁ V)), .region (call₂ V), .host (host opsC plainC (B₂ V)),
    .region (call₃ V), .host (host opsD plainD (B₃ V)), .region (call₄ V), .host (host opsE plainE (B₄ V))]

/-- The program after the SparseCore call. -/
def rest : Prog (TpuEff nD τ sig (Elt F) (ΛP (F := F)) .tc) PUnit :=
  Pipeline.chain [StableHlo.seq opsA, Prog.lift (.customCall (Pipeline.entry 0) ()), StableHlo.seq opsB, Prog.lift (.customCall (Pipeline.entry 1) ()),
    StableHlo.seq opsC, Prog.lift (.customCall (Pipeline.entry 2) ()), StableHlo.seq opsD, Prog.lift (.customCall (Pipeline.entry 3) ()), StableHlo.seq opsE]

theorem rest_eq : rest (F := F) = Pipeline.Seg.run (steps V) := by
  unfold rest steps; chain_rfl

/-- The host's program: the indices padded, the SparseCore call, and the rest. -/
theorem main_eq (d : Dev nD) : main (F := F) d = (do
    hlo rfl (StableHlo.nullary main_c (constantI S_ 32 0#32)) (fun _ => .ret ⟨⟩)
    fn_pad.body (.of main_arg0) (.of main_c) main_call0
    (K (F := F)).run d 0
    SparseCore.liftProg rest) := rfl

end Cert.KernelIdeal.Dense

end
-- ==== Proof.KernelIdeal.Rest.lean ====
/- The run of the host's program after the SparseCore call, its ghost state, and what it leaves of the argument arrays. -/
module

public import proofs.«01_k».proof.Proof.KernelIdeal.Tail

@[expose] public section

set_option maxRecDepth 16384

noncomputable section

namespace Cert.KernelIdeal.Dense

open Cert.KernelIdeal Cert.KernelIdeal.Gen Cert.KernelIdeal.Call
open Idealize.ShloMosaic Idealize.ShloMosaic.TcCoe
open Idealize.ShloMosaic.SparseCore.Cfg (HIx Pay)
open Idealize.ShloMosaic.Rounds
open Idealize.ShloMosaic.Pipeline (Dat Cfg Window BodyObligation ucRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The ghost state of the four calls -/

/-- Where the calls' ghost state lies. -/
abbrev right : Emb (UP × Counters) (MT nD τ sig (HIx 1) (Elt F) ℕ UU ℕ) := embR
def EP : Emb UP (MT nD τ sig (HIx 1) (Elt F) ℕ UU ℕ) := (Emb.inl : Emb UP (UP × Counters)).trans embR
instance : (EP (F := F)).LandsIn (upEmb : UEmb _ (MT nD τ sig (HIx 1) (Elt F) ℕ UU ℕ)) := by unfold EP; infer_instance

theorem pinned_inj : Function.Injective (Pipeline.cellOf (nD := nD) (τ := τ) (Pipeline.pin (pcfgs (F := F)) adm)) := cellOf_inj

/-- The launch's ghost state of the calls, and each device's share of it. -/
abbrev u₁ : UP := initOf (Pipeline.cells (nD := nD) (τ := τ) (Pipeline.pin (pcfgs (F := F)) adm) pinned_inj)
  (Pipeline.launchToks (nD := nD) (τ := τ) (Pipeline.pin (pcfgs (F := F)) adm) pinned_inj)
abbrev ghosts (d : Dev nD) : sProp 𝕄 := Pipeline.ghostOn (pcfgs (F := F)) adm EP Finset.univ d

theorem ghosts_own : (BI.own (right (F := F) (u₁ (F := F), 1)) : sProp 𝕄) ⊢ |==> bigSep Finset.univ fun d : Dev nD => ghosts (F := F) d := by
  iintro H
  ihave H := (show (BI.own (right (F := F) (u₁ (F := F), 1)) : sProp 𝕄) ⊢ BI.own (EP (F := F) (u₁ (F := F))) from .rfl) $$ H
  imod (Pipeline.fund_ghost (Pipeline.pin (pcfgs (F := F)) adm) EP pinned_inj) $$ H with ⟨Hg, Ht⟩
  imodintro
  unfold ghosts Pipeline.ghostOn Pipeline.PerCore.ghostOn
  simp only [bigSep_sep']
  isplitl [Hg]; · iexact Hg
  iexact Ht

/-! ## The run -/

theorem rest_run [∀ e, Nonempty (Elt F e)] (V : Dev nD → Valuation τ sig (Elt F)) (d : Dev nD) (κ : GSem nD τ sig → ℕ) (I : Dev nD → Feed F)
    {Φ : PUnit → sProp 𝕄} :
    iprop((K (F := F)).ctx EH (P I) κ ∗ (K (F := F)).tcSt EH d 1 ∗ boundary (SparseCore.T d) ∗ StableHlo.held (SparseCore.T d) (ucRefs τ sig) (V d)
        ∗ (∃ r, prngReg d r) ∗ ghosts (F := F) d
        ∗ (((K (F := F)).tcSt EH d 1 ∗ boundary (SparseCore.T d) ∗ StableHlo.held (SparseCore.T d) (ucRefs τ sig) (done V d)) -∗ Φ ⟨⟩))
      ⊢ wp frame (wpE ((K (F := F)).defs (D (F := F))) 𝒱 (SparseCore.T d) none) Set.univ (SparseCore.liftProg rest) Φ := by
  have e0 : (K (F := F)).Otc (N := 1) d 1 = 0 := (K (F := F)).Otc_end d (le_refl 1)
  unfold SparseCore.Cfg.tcSt SparseCore.Cfg.ctx
  rw [e0, rest_eq V]
  iintro ⟨⟨#HL, -⟩, ⟨HO, Hs⟩, Hb, Hh, Hr, HG, Hk⟩
  iapply ((K (F := F)).wp_liftProg (D (F := F)) 𝒱 (SparseCore.T d) Set.univ none (Pipeline.Seg.run (steps V)) Φ)
  iapply (Pipeline.wp_segs (pcfgs (F := F)) adm (family V) none pinned_inj EP defs₀ Variants.none (K (F := F)).L (K (F := F)).lev d
    (steps V) Finset.univ (fun c => iprop(StableHlo.held (SparseCore.T c) (ucRefs τ sig) (V c) ∗ R c))
    (fun c => iprop(StableHlo.held (SparseCore.T c) (ucRefs τ sig) (done V c) ∗ R c)) (by simp [steps]) (fun p _ => Finset.mem_univ p)
    ⟨fun _ => .rfl, fun _ => .rfl, fun _ => .rfl, fun _ => .rfl, fun _ => .rfl, fun _ => .rfl, fun _ => .rfl, fun _ => .rfl, fun _ => .rfl, fun _ => .rfl⟩)
    $$ [HO Hs Hb Hh Hr HG Hk]
  isplitl [Hs Hk]
  · iintro ⟨Hb, Hh, -, HO⟩
    iapply Hk
    isplitl [HO Hs]
    · isplitl [HO]; · iexact HO
      iexact Hs
    isplitl [Hb]; · iexact Hb
    iexact Hh
  isplitl [Hb]; · iexact Hb
  isplitl [Hh Hr HO]
  · isplitl [Hh]; · iexact Hh
    isplitl [Hr]; · iexact Hr
    iexact HO
  isplitr; · iexact HL
  iexact HG

/-! ## The argument arrays -/

abbrev args : List (Ref sig .tc) :=
  [main_arg0, main_arg1, main_arg2, main_arg3, main_arg4, main_arg5, main_arg6, main_arg7, main_arg8, main_arg9, main_arg10, main_arg11, main_arg12,
    main_arg13, main_arg14, main_arg15, main_arg16, main_arg17, main_arg18, main_arg19]

/-- The arrays that each stretch of the host's operations writes. -/
abbrev outA : List (Ref sig .tc) :=
  [main_v2, main_c_0, main_call1_v0, main_v3, main_v4, main_v5, main_v6, main_v7, main_c_1, main_call2_v0, main_v8, main_v9, main_c_2, main_call3_v0,
    main_v10, main_v11, main_v12]
abbrev outB : List (Ref sig .tc) := [main_v14, main_v15, main_v16]
abbrev outC : List (Ref sig .tc) := [main_v18, main_v19, main_v20]
abbrev outD : List (Ref sig .tc) := [main_v22, main_v23]
abbrev outE : List (Ref sig .tc) := [main_v25]

variable (V : Dev nD → Valuation τ sig (Elt F)) (c : Dev nD) {r : Ref sig .tc}

theorem A₁_of (h : r ∉ outA) : A₁ V c (Proc.devRef .tc r) = V c (Proc.devRef .tc r) :=
  StableHlo.after_of_writes_sub opsA _ (StableHlo.forall_writes_sub_of_map rfl) h
theorem A₂_of (h : r ∉ outB) : A₂ V c (Proc.devRef .tc r) = B₁ V c (Proc.devRef .tc r) :=
  StableHlo.after_of_writes_sub opsB _ (StableHlo.forall_writes_sub_of_map rfl) h
theorem A₃_of (h : r ∉ outC) : A₃ V c (Proc.devRef .tc r) = B₂ V c (Proc.devRef .tc r) :=
  StableHlo.after_of_writes_sub opsC _ (StableHlo.forall_writes_sub_of_map rfl) h
theorem A₄_of (h : r ∉ outD) : A₄ V c (Proc.devRef .tc r) = B₃ V c (Proc.devRef .tc r) :=
  StableHlo.after_of_writes_sub opsD _ (StableHlo.forall_writes_sub_of_map rfl) h
theorem done_of (h : r ∉ outE) : done V c (Proc.devRef .tc r) = B₄ V c (Proc.devRef .tc r) :=
  StableHlo.after_of_writes_sub opsE _ (StableHlo.forall_writes_sub_of_map rfl) h
theorem B₁_of (h : ∀ w, Pipeline.arrRef spec1 w ≠ r) : B₁ V c (Proc.devRef .tc r) = A₁ V c (Proc.devRef .tc r) :=
  Pipeline.withArrays_of_ne spec1 c (A₁ V c) ((Layer1.dat (vals (A₁ V)) c).arrAt · cfg1.N) r h
theorem B₂_of (h : ∀ w, Pipeline.arrRef spec2 w ≠ r) : B₂ V c (Proc.devRef .tc r) = A₂ V c (Proc.devRef .tc r) :=
  Pipeline.withArrays_of_ne spec2 c (A₂ V c) ((Layer2.dat (vals (A₂ V)) c).arrAt · cfg2.N) r h
theorem B₃_of (h : ∀ w, Pipeline.arrRef spec3 w ≠ r) : B₃ V c (Proc.devRef .tc r) = A₃ V c (Proc.devRef .tc r) :=
  Pipeline.withArrays_of_ne spec3 c (A₃ V c) ((Layer3.dat (vals (A₃ V)) c).arrAt · cfg3.N) r h
theorem B₄_of (h : ∀ w, Pipeline.arrRef spec4 w ≠ r) : B₄ V c (Proc.devRef .tc r) = A₄ V c (Proc.devRef .tc r) :=
  Pipeline.withArrays_of_ne spec4 c (A₄ V c) ((Layer4.dat (vals (A₄ V)) c).arrAt · cfg4.N) r h

/-- An argument array is written by no step and is no window's array. -/
theorem args_apart : ∀ r ∈ args, (r ∉ outA ∧ r ∉ outB ∧ r ∉ outC ∧ r ∉ outD ∧ r ∉ outE)
    ∧ (∀ w, Pipeline.arrRef spec1 w ≠ r) ∧ (∀ w, Pipeline.arrRef spec2 w ≠ r) ∧ (∀ w, Pipeline.arrRef spec3 w ≠ r) ∧ (∀ w, Pipeline.arrRef spec4 w ≠ r) :=
  ListAll.forall_mem_of_all_decide (by decide +kernel)

theorem args_mem : ∀ r ∈ args, (Proc.devRef .tc r : DevRef τ sig) ∈ ucRefs τ sig := ListAll.forall_mem_of_all_decide (by decide +kernel)

/-- An argument array's contents before the first layer, between the layers and at the end. -/
theorem arg_A₁ (h : r ∈ args) : A₁ V c (Proc.devRef .tc r) = V c (Proc.devRef .tc r) := A₁_of V c (args_apart r h).1.1
theorem arg_B₁ (h : r ∈ args) : B₁ V c (Proc.devRef .tc r) = V c (Proc.devRef .tc r) := (B₁_of V c (args_apart r h).2.1).trans (arg_A₁ V c h)
theorem arg_B₂ (h : r ∈ args) : B₂ V c (Proc.devRef .tc r) = V c (Proc.devRef .tc r) :=
  (B₂_of V c (args_apart r h).2.2.1).trans ((A₂_of V c (args_apart r h).1.2.1).trans (arg_B₁ V c h))
theorem arg_B₃ (h : r ∈ args) : B₃ V c (Proc.devRef .tc r) = V c (Proc.devRef .tc r) :=
  (B₃_of V c (args_apart r h).2.2.2.1).trans ((A₃_of V c (args_apart r h).1.2.2.1).trans (arg_B₂ V c h))
theorem arg_done (h : r ∈ args) : done V c (Proc.devRef .tc r) = V c (Proc.devRef .tc r) :=
  (done_of V c (args_apart r h).1.2.2.2.2).trans ((B₄_of V c (args_apart r h).2.2.2.2).trans ((A₄_of V c (args_apart r h).1.2.2.2.1).trans (arg_B₃ V c h)))

end Cert.KernelIdeal.Dense

end
-- ==== Proof.KernelIdeal.Run.lean ====
/- The program's run: the host pads the token indices, makes the SparseCore call and runs the dense layers; every array's
   contents at the end. -/
module

public import proofs.«01_k».proof.Proof.KernelIdeal.Host
public import proofs.«01_k».proof.Proof.KernelIdeal.Rest

@[expose] public section

set_option maxRecDepth 16384

noncomputable section

namespace Cert.KernelIdeal.Call

open Cert.KernelIdeal Cert.KernelIdeal.Gen Cert.KernelIdeal.Counts
open Cert.KernelIdeal.Dense (ghosts ghosts_own u₁)
open Idealize.ShloMosaic
open Idealize.ShloMosaic.SparseCore (S V T)
open Idealize.ShloMosaic.SparseCore.Cfg (HIx Pay)
open Idealize.ShloMosaic.Rounds
open Idealize.ShloMosaic.StableHlo (launchContents after)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## Before the call: the indices padded to 64 columns -/

abbrev opZero : HloOp τ sig (Elt F) := StableHlo.nullary main_c (constantI S_ 32 0#32)
abbrev opFill : HloOp τ sig (Elt F) := StableHlo.TRef.unary (.of main_c) main_call0.v0 id
abbrev opPad : HloOp τ sig (Elt F) := StableHlo.TRef.binary (StableHlo.TRef.of main_arg0 : StableHlo.TRef sig ⟨S4096x50, .i32⟩) main_call0.v0 main_call0.v1
  (fun x v => pad S4096x64 ![0, 0] ![0, 14] ![0, 0] x v pads_S4096x50_S4096x64_000_0140 h_S_)

/-- What the arrays hold when the call begins. -/
def padded (d : Dev nD) : Valuation τ sig (Elt F) :=
  (opPad (F := F)).result ((opFill (F := F)).result ((opZero (F := F)).result (launchContents m d)))

/-- The padded token indices. -/
abbrev tokens (x : S4096x50.Idx → BitVec 32) : S4096x64.Idx → BitVec 32 :=
  pad S4096x64 ![0, 0] ![0, 14] ![0, 0] x (constantI S_ 32 0#32 : S_.Idx → BitVec 32) pads_S4096x50_S4096x64_000_0140 h_S_

theorem padded_seq (d : Dev nD) : padded m d seqD = tokens (m ((SparseCore.T d).loc main_arg0)) := by
  unfold padded
  exact (StableHlo.binary_result' ..).trans rfl

theorem padded_ne (d : Dev nD) {r : Ref sig .tc} (h₁ : r ≠ main_c) (h₂ : r ≠ main_call0_v0) (h₃ : r ≠ main_v0) :
    padded m d (Proc.devRef .tc r) = m ((SparseCore.T d).loc r) := by
  unfold padded
  exact (StableHlo.binary_result_ne' (h := h₃) ..).trans ((StableHlo.unary_result_ne' (h := h₂) ..).trans (StableHlo.nullary_result_ne' (h := h₁) ..))

omit [FloatOps F] in
theorem unscoped_held (d : Dev nD) : (unscopedBufs d (fun b => m ((SparseCore.T d).loc b)) : sProp 𝕄)
    = StableHlo.held (SparseCore.T d) (ucRefs τ sig) (launchContents m d) := Pipeline.unscopedBufs_held d (launchContents m d)

/-! ## The launch's ghost state -/

def u₀ : UU := (initOf (K (F := F)).hsCells (K (F := F)).hsToks, u₁ (F := F), 1)

omit [FloatOps F] in
theorem none_held {J : Type} (s : Finset J) : (bigSep s fun _ => iprop(emp)) = (iprop(emp) : sProp 𝕄) := bigSep_emp_const s

theorem hu₀ (I : Dev nD → Feed F) : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (P I).x q thr) := by
  unfold u₀
  iintro Hu
  ihave H := (ownU_pair (initOf (K (F := F)).hsCells (K (F := F)).hsToks) ((u₁ (F := F), 1) : UP × Counters)) $$ Hu
  icases H with ⟨HH, HP⟩
  imod (ghosts_own (F := F)) $$ HP with HG
  imodintro
  isplitl [HH]; · iexact HH
  isplitl [HG]; · iexact HG
  rw [show (bigSep Finset.univ fun thr : Thread nD τ => bigSep Finset.univ fun q : Fin 1 => (P (F := F) I).x q thr) = bigSep Finset.univ fun _ => iprop(emp) from
    bigSep_congr fun _ _ => bigSep_univ_of_subsingleton (0 : Fin 1), none_held]
  iempintro

/-! ## The host's thread -/

/-- What the call reads on each device. -/
abbrev feed (d : Dev nD) : Feed F := feedOf (padded m d)

/-- What the arrays hold when the call is done, and when the program is. -/
abbrev mid (d : Dev nD) : Valuation τ sig (Elt F) := called (padded m d)
abbrev last (d : Dev nD) : Valuation τ sig (Elt F) := Dense.done (mid m) d

/-- What the host's thread holds at its end. -/
abbrev FIN (d : Dev nD) : sProp 𝕄 := StableHlo.held (SparseCore.T d) (ucRefs τ sig) (last m d)

theorem main_run [∀ e, Nonempty (Elt F e)] (κ : GSem nD τ sig → ℕ) (d : Dev nD) :
    iprop((K (F := F)).ctx EH (P (feed m)) κ ∗ (K (F := F)).tcSt EH d 0 ∗ (K (F := F)).tcRes m ρ d ∗ ghosts (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, Dense.main_eq]
  simp only [fn_pad.body, wp_bind, wp_pure]
  iintro ⟨#Hctx, Hst, ⟨Hb, Hh, Hts, Hr⟩, HG⟩
  iapply (StableHlo.wp_hlo_within 𝒱 (SparseCore.T d) none Set.univ (op := opZero) (S := ucRefs τ sig)
    (show ({Proc.devRef .tc main_c} : Finset (DevRef τ sig)) ⊆ ucRefs τ sig by decide) (V := launchContents m d)) $$ [Hb Hh]
  · isplitl [Hb] <;> iassumption
  iintro ⟨Hb, Hh⟩
  rw [wp_ret]; imodintro
  iapply (StableHlo.wp_hlo_within 𝒱 (SparseCore.T d) none Set.univ (op := opFill) (S := ucRefs τ sig)
    (show ({Proc.devRef .tc main_c, Proc.devRef .tc main_call0_v0} : Finset (DevRef τ sig)) ⊆ ucRefs τ sig by decide)
    (V := (opZero (F := F)).result (launchContents m d))) $$ [Hb Hh]
  · isplitl [Hb] <;> iassumption
  iintro ⟨Hb, Hh⟩
  rw [wp_ret]; imodintro
  iapply (StableHlo.wp_hlo_within 𝒱 (SparseCore.T d) none Set.univ (op := opPad) (S := ucRefs τ sig)
    (show ({Proc.devRef .tc main_arg0, Proc.devRef .tc main_call0_v0, Proc.devRef .tc main_v0} : Finset (DevRef τ sig)) ⊆ ucRefs τ sig by decide)
    (V := (opFill (F := F)).result ((opZero (F := F)).result (launchContents m d)))) $$ [Hb Hh]
  · isplitl [Hb] <;> iassumption
  iintro ⟨Hb, Hh⟩
  rw [wp_ret]; imodintro; imodintro
  iapply (call_run (F := F) (fun d => padded m d) κ d) $$ [Hst Hh Hb Hts Hr HG]
  isplitr; · iexact Hctx
  isplitl [Hst]; · iexact Hst
  isplitl [Hh]; · iexact Hh
  iintro ⟨Hst, Hh⟩
  iapply (Dense.rest_run (mid m) d κ (feed m)) $$ [Hst Hh Hb Hts Hr HG]
  isplitr; · iexact Hctx
  isplitl [Hst]; · iexact Hst
  isplitl [Hb]; · iexact Hb
  isplitl [Hh]; · iexact Hh
  isplitl [Hr]; · iexists (ρ d); iexact Hr
  isplitl [HG]; · iexact HG
  iintro ⟨Hst, Hb, Hh⟩
  isplitl [Hst]; · iexact Hst
  isplitl [Hh]; · iexact Hh
  isplitl [Hb] <;> iassumption

/-- What the run leaves in the arrays of device `d`. -/
def ends (d : Dev nD) (s' : Phys nD τ sig (Elt F)) : Prop :=
  ∀ b ∈ ucRefs τ sig, s'.mem.mem (d, b) = last m d b

theorem fin_run (d : Dev nD) (s' : Phys nD τ sig (Elt F)) : iprop(FIN m d ∗ SI s') ⊢ (⌜ends m d s'⌝ : sProp 𝕄) := by
  unfold FIN StableHlo.held
  iintro ⟨H, HSI⟩
  ihave %h := (SI_pointsTo_bufs_agree (qs := fun _ => fullShare) (ucRefs τ sig)) $$ [HSI H]
  · isplitl [HSI]; · iexact HSI
    iexact H
  ipureintro; exact h

/-! ## The run -/

/-- Every array at its final contents, every semaphore at zero. -/
def Ends : PUnit × MemSt nD τ sig (Elt F) → Prop := fun r =>
  (∀ d : Dev nD, ∀ b ∈ ucRefs τ sig, r.2.mem (d, b) = last m d b) ∧ r.2.sem = fun _ => 0

theorem run [∀ e, Nonempty (Elt F e)] (hI : ∀ d, (feed m d).Ok) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (feed m)) (A := ∅) facts v₀
    (fun q hq => match q with | 0 => nomatch hq)
    (fun q _ => match q with | 0 => tileObl (feed m) hI)
    (fun q _ => match q with | 0 => SparseCore.Cfg.VecSplit.of_plain (vecSplit (feed m)))
    m ρ main (fun d => ghosts (F := F) d) (FIN m) (u₀ (F := F)) (sep_elim_left.trans (hu₀ (feed m))) (main_run m ρ) (ends m) (fin_run m) (Ends m)
    (fun _ h hz => ⟨h, hz⟩)

/-! ## The run's arrays, read -/

theorem uc (r : Ref sig .tc) (h : (Proc.devRef .tc r : DevRef τ sig) ∈ ucRefs τ sig) {x : PUnit × MemSt nD τ sig (Elt F)} (hx : Ends m x) (d : Dev nD) :
    x.2.mem ((SparseCore.T d).loc r) = last m d (Proc.devRef .tc r) := hx.1 d _ h

theorem args_ne : ∀ r ∈ Dense.args, (r ≠ main_c ∧ r ≠ main_call0_v0 ∧ r ≠ main_v0) ∧ (Proc.devRef .tc r : DevRef τ sig) ≠ hD
    ∧ (Proc.devRef .tc r : DevRef τ sig) ≠ pD ∧ (Proc.devRef .tc r : DevRef τ sig) ≠ dD := ListAll.forall_mem_of_all_decide (by decide +kernel)

/-- An argument array's contents after the call are those at launch. -/
theorem mid_arg (d : Dev nD) {r : Ref sig .tc} (h : r ∈ Dense.args) : mid m d (Proc.devRef .tc r) = m ((SparseCore.T d).loc r) := by
  obtain ⟨⟨h₁, h₂, h₃⟩, h₄, h₅, h₆⟩ := args_ne r h
  rw [mid, called_ne _ h₄ h₅ h₆, padded_ne m d h₁ h₂ h₃]

/-- An argument array is as at launch at the end. -/
theorem kept (d : Dev nD) {r : Ref sig .tc} (h : r ∈ Dense.args) {x : PUnit × MemSt nD τ sig (Elt F)} (hx : Ends m x) :
    x.2.mem ((SparseCore.T d).loc r) = m ((SparseCore.T d).loc r) :=
  (uc m r (Dense.args_mem r h) hx d).trans ((Dense.arg_done (mid m) d h).trans (mid_arg m d h))

/-- The call's results, as the layers read them. -/
theorem mid_results (d : Dev nD) :
    mid m d hD = countsOf (F := F) (tokens (m ((SparseCore.T d).loc main_arg0)))
    ∧ mid m d pD = rows20 (m ((SparseCore.T d).loc main_arg4)) (m ((SparseCore.T d).loc main_arg1))
    ∧ mid m d dD = rows2 (m ((SparseCore.T d).loc main_arg5)) (m ((SparseCore.T d).loc main_arg2)) := by
  refine ⟨(called_h _).trans (congrArg _ (padded_seq m d)), (called_p _).trans ?_, (called_d _).trans ?_⟩
  · exact congrArg₂ rows20 (padded_ne m d (r := main_arg4) (by decide) (by decide) (by decide)) (padded_ne m d (r := main_arg1) (by decide) (by decide) (by decide))
  · exact congrArg₂ rows2 (padded_ne m d (r := main_arg5) (by decide) (by decide) (by decide)) (padded_ne m d (r := main_arg2) (by decide) (by decide) (by decide))

end Cert.KernelIdeal.Call

end
-- ==== Proof.KernelIdeal.Frame.lean ====
/- The ranges that the call needs, from the arguments', and the argument arrays at the end. -/
module

public import proofs.«01_k».proof.Proof.KernelIdeal.Run

@[expose] public section

set_option maxRecDepth 16384

noncomputable section

namespace Cert.KernelIdeal.Call

open Cert.KernelIdeal Cert.KernelIdeal.Gen Cert.KernelIdeal.Counts
open Idealize.ShloMosaic
open Idealize.ShloMosaic.SparseCore (S V T)
open Idealize.ShloMosaic.SparseCore.Cfg (HIx Pay)
open Idealize.ShloMosaic.Rounds
open Idealize.ShloMosaic.StableHlo (launchContents after)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

omit [FloatOps F] in
/-- A padded token is a token or zero. -/
theorem tokens_lt (x : S4096x50.Idx → BitVec 32) (n : Nat) (hn : 0 < n) (h : ∀ i, (x i).toNat < n) (j : S4096x64.Idx) : (tokens x j).toNat < n := by
  show (pad S4096x64 ![0, 0] ![0, 14] ![0, 0] x (constantI S_ 32 0#32 : S_.Idx → BitVec 32) pads_S4096x50_S4096x64_000_0140 h_S_ j).toNat < n
  unfold pad
  split
  · exact h _
  · exact hn

/-- The ranges, as what the call reads. -/
theorem feed_ok (d : Dev nD) (h₁ : ∀ i, (m ((SparseCore.T d).loc main_arg0) i : BitVec 32).toNat < 1000)
    (h₂ : ∀ i, (m ((SparseCore.T d).loc main_arg1) i : BitVec 32).toNat < 20)
    (h₃ : ∀ i, (m ((SparseCore.T d).loc main_arg2) i : BitVec 32).toNat < 2) : (feed m d).Ok := by
  refine ⟨fun j => ?_, fun j => ?_, fun j => ?_⟩
  · show (padded m d seqD j).toNat < 1024
    rw [padded_seq]
    exact (tokens_lt _ 1000 (by decide) h₁ j).trans (by decide)
  · show (padded m d posD j).toNat < 20
    have e : padded m d posD = m ((SparseCore.T d).loc main_arg1) := padded_ne m d (r := main_arg1) (by decide) (by decide) (by decide)
    rw [e]
    exact h₂ j
  · show (padded m d sideD j).toNat < 2
    have e : padded m d sideD = m ((SparseCore.T d).loc main_arg2) := padded_ne m d (r := main_arg2) (by decide) (by decide) (by decide)
    rw [e]
    exact h₃ j

/-- Every argument array is as at launch at the end. -/
theorem kept_args {x : PUnit × MemSt nD τ sig (Elt F)} (hx : Ends m x) (d : Dev nD) :
    x.2.mem ((SparseCore.T d).loc main_arg0) = m ((SparseCore.T d).loc main_arg0)
    ∧ x.2.mem ((SparseCore.T d).loc main_arg1) = m ((SparseCore.T d).loc main_arg1)
    ∧ x.2.mem ((SparseCore.T d).loc main_arg2) = m ((SparseCore.T d).loc main_arg2)
    ∧ x.2.mem ((SparseCore.T d).loc main_arg3) = m ((SparseCore.T d).loc main_arg3)
    ∧ x.2.mem ((SparseCore.T d).loc main_arg4) = m ((SparseCore.T d).loc main_arg4)
    ∧ x.2.mem ((SparseCore.T d).loc main_arg5) = m ((SparseCore.T d).loc main_arg5)
    ∧ x.2.mem ((SparseCore.T d).loc main_arg6) = m ((SparseCore.T d).loc main_arg6)
    ∧ x.2.mem ((SparseCore.T d).loc main_arg7) = m ((SparseCore.T d).loc main_arg7)
    ∧ x.2.mem ((SparseCore.T d).loc main_arg8) = m ((SparseCore.T d).loc main_arg8)
    ∧ x.2.mem ((SparseCore.T d).loc main_arg9) = m ((SparseCore.T d).loc main_arg9)
    ∧ x.2.mem ((SparseCore.T d).loc main_arg10) = m ((SparseCore.T d).loc main_arg10)
    ∧ x.2.mem ((SparseCore.T d).loc main_arg11) = m ((SparseCore.T d).loc main_arg11)
    ∧ x.2.mem ((SparseCore.T d).loc main_arg12) = m ((SparseCore.T d).loc main_arg12)
    ∧ x.2.mem ((SparseCore.T d).loc main_arg13) = m ((SparseCore.T d).loc main_arg13)
    ∧ x.2.mem ((SparseCore.T d).loc main_arg14) = m ((SparseCore.T d).loc main_arg14)
    ∧ x.2.mem ((SparseCore.T d).loc main_arg15) = m ((SparseCore.T d).loc main_arg15)
    ∧ x.2.mem ((SparseCore.T d).loc main_arg16) = m ((SparseCore.T d).loc main_arg16)
    ∧ x.2.mem ((SparseCore.T d).loc main_arg17) = m ((SparseCore.T d).loc main_arg17)
    ∧ x.2.mem ((SparseCore.T d).loc main_arg18) = m ((SparseCore.T d).loc main_arg18)
    ∧ x.2.mem ((SparseCore.T d).loc main_arg19) = m ((SparseCore.T d).loc main_arg19) :=
  ⟨kept m d (by simp) hx, kept m d (by simp) hx, kept m d (by simp) hx, kept m d (by simp) hx, kept m d (by simp) hx, kept m d (by simp) hx, kept m d (by simp) hx, kept m d (by simp) hx, kept m d (by simp) hx, kept m d (by simp) hx, kept m d (by simp) hx, kept m d (by simp) hx, kept m d (by simp) hx, kept m d (by simp) hx, kept m d (by simp) hx, kept m d (by simp) hx, kept m d (by simp) hx, kept m d (by simp) hx, kept m d (by simp) hx, kept m d (by simp) hx⟩

end Cert.KernelIdeal.Call

end
-- ==== Proof.Take.lean ====
/- `jnp.take` along the rows of a table, as the reference states it — negative indices wrapped, indices out of range
   answered by a fill value — is the plain row of the table where every index is in range. -/
module

public import Idealize.ShloMosaic.Lib.Routing.Ops
public import Idealize.ShloMosaic.Lib.ReduceAll
public import Idealize.ShloMosaic.Lib.Pointwise

@[expose] public section

set_option maxRecDepth 16384

noncomputable section

namespace Cert.Take

open Idealize.ShloMosaic

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- A word that is at least 0 and less than `n`, both signed, is less than `n` as a natural number. -/
theorem lt_of_signed {n : Nat} (hn : n < 2 ^ 31) (v : BitVec 32)
    (h : IntOp.andi (IntOp.cmpi .sge v 0#32) (IntOp.cmpi .slt v (BitVec.ofNat 32 n)) = 1#1) : v.toNat < n := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

/-- And the other way: a word below `n` passes both signed tests, the second one written `≤ n − 1`. -/
theorem signed_of_lt {n : Nat} (hn : n < 2 ^ 31) (v : BitVec 32) (h : v.toNat < n) :
    IntOp.andi (IntOp.cmpi .sge v 0#32) (IntOp.cmpi .sle v (BitVec.ofNat 32 (n - 1))) = 1#1 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod]
  omega

/-- No index is negative, so none is wrapped. -/
theorem not_wrapped {s : Shape} (ix z n : IVec s 32) (hz : ∀ i, z i = 0#32) (h : ∀ i, (ix i).toNat < 2 ^ 31) :
    select (cmpi .slt ix z) (addi ix n) ix = ix := by
  funext i
  refine if_neg ?_
  show ¬ IntOp.cmpi .slt (ix i) (z i) = 1#1
  rw [hz i]
  have := h i
  simp only [IntOp.cmpi, ofBool_eq_one, BitVec.slt_eq_decide, decide_eq_true_eq, BitVec.toInt_eq_toNat_cond, BitVec.toNat_ofNat,
    Nat.reducePow, Nat.reduceMod]
  omega

/-- Every index is in range, so the test of the range answers yes everywhere. -/
theorem all_in {s t u : Shape} {axes : List (Fin s.rank)} {n : Nat} (hn : n < 2 ^ 31) (col lo hi : IVec s 32) (one : IVec u 1)
    (hlo : ∀ i, lo i = 0#32) (hhi : ∀ i, hi i = BitVec.ofNat 32 (n - 1)) (hone : ∀ i, one i = 1#1) (h : ∀ i, (col i).toNat < n)
    (hr : s.ReducesTo axes t) (hu : 0 < u.numel) :
    Host.reduce IntOp.andi (andi (cmpi .sge col lo) (cmpi .sle col hi)) one hr hu = fun _ => 1#1 := by
  funext j
  refine Host.reduce_andi_one _ _ _ _ _ (hone _) fun i => ?_
  show IntOp.andi (IntOp.cmpi .sge (col i) (lo i)) (IntOp.cmpi .sle (col i) (hi i)) = 1#1
  rw [hlo i, hhi i]
  exact signed_of_lt hn _ (h i)

/-- The whole of `jnp.take` on a table of `nb` rows: entry `(c, y)` is the table's entry at the row that `ix` names. -/
theorem take_row {α : Type} {nb B n : Nat} (hnb : nb < 2 ^ 31) (d : GatherDims (Routing.shape2 nb B) (Routing.shape2 n 1) (Routing.shape2 n B))
    (hoff : d.offsetDims = [1]) (hcoll : d.collapsedSliceDims = [0]) (hob : d.operandBatchingDims = []) (hsim : d.startIndexMap = [0])
    (hivd : d.indexVectorDim = 1) (x : (Routing.shape2 nb B).Idx → α) (nan : (Routing.shape2 n B).Idx → α)
    (ix z m : IVec ⟨1, ![n]⟩ 32) (hz : ∀ i, z i = 0#32) (lo hi : IVec (Routing.shape2 n 1) 32) (one : IVec ⟨0, ![]⟩ 1)
    (hlo : ∀ i, lo i = 0#32) (hhi : ∀ i, hi i = BitVec.ofNat 32 (nb - 1)) (hone : ∀ i, one i = 1#1)
    (hix : ∀ i, (ix i).toNat < nb)
    (hc : (⟨1, ![n]⟩ : Shape).BroadcastsInDim (Routing.shape2 n 1) ![0]) (hm : (⟨1, ![n]⟩ : Shape).BroadcastsInDim (Routing.shape2 n B) ![0])
    (hr : (Routing.shape2 n 1).ReducesTo [1] ⟨1, ![n]⟩) (hu : 0 < (⟨0, ![]⟩ : Shape).numel) (c : Fin n) (y : Fin B) (b : Fin nb)
    (hb : (ix (ValueIdx.ix1 c)).toNat = b.val) :
    select (broadcastInDim (Routing.shape2 n B) ![0] hm (Host.reduce IntOp.andi
        (andi (cmpi .sge (broadcastInDim (Routing.shape2 n 1) ![0] hc (select (cmpi .slt ix z) (addi ix m) ix)) lo)
          (cmpi .sle (broadcastInDim (Routing.shape2 n 1) ![0] hc (select (cmpi .slt ix z) (addi ix m) ix)) hi)) one hr hu))
      (Host.gather d x (broadcastInDim (Routing.shape2 n 1) ![0] hc (select (cmpi .slt ix z) (addi ix m) ix))) nan (ValueIdx.ix2 c y)
      = x (ValueIdx.ix2 b y) := by
  rw [not_wrapped ix z m hz (fun i => (hix i).trans hnb), all_in hnb (broadcastInDim (Routing.shape2 n 1) ![0] hc ix) lo hi one hlo hhi hone (fun i => hix _) hr hu]
  refine Eq.trans (if_pos (e := nan (ValueIdx.ix2 c y)) (show (1#1 : BitVec 1) = 1#1 from rfl)) (Routing.gather_row d hoff hcoll hob hsim hivd x _ c y b ?_ hnb)
  refine Eq.trans (congrArg ix ?_) (BitVec.eq_of_toNat_eq (hb.trans ?_))
  · funext a
    match a with
    | 0 =>
      refine Fin.ext ?_
      show (dite _ _ _ : Fin _).val = c.val
      split
      · next h1 => have := c.isLt; have h1 : n = 1 := h1; show 0 = c.val; omega
      · rfl
  · rw [BitVec.toNat_ofNat, Nat.mod_eq_of_lt]
    have := b.isLt
    omega

end Cert.Take

end
-- ==== Proof.Value.Consts.lean ====
/- The numbers that the layers' constant words stand for. -/
module

public import Idealize.ShloMosaic.Lib.IdealHost

@[expose] public section

noncomputable section

namespace Cert.Consts

open Idealize.ShloMosaic

/-- The number of rows. -/
theorem rows : Ideal.ofBits .f32 0x45800000#32 = ((4096 : ℝ) : EReal) := by
  simp [Ideal.ofBits, Ideal.ieee, -EReal.coe_mul]; norm_num

/-- One part of the number of rows. -/
theorem part : Ideal.ofBits .f32 0x39800000#32 = (((1 : ℝ) / 4096 : ℝ) : EReal) := by
  simp [Ideal.ofBits, Ideal.ieee, -EReal.coe_mul]; norm_num

/-- The number of tokens in a row of the kernel's. -/
theorem slots : Ideal.ofBits .f32 0x42800000#32 = ((64 : ℝ) : EReal) := by
  simp [Ideal.ofBits, Ideal.ieee, -EReal.coe_mul]; norm_num

/-- The small number that is added to a variance. -/
theorem small : Ideal.ofBits .f32 0x3727C5AC#32 = (((10995116 : ℝ) / 1099511627776 : ℝ) : EReal) := by
  simp [Ideal.ofBits, Ideal.ieee, -EReal.coe_mul]; norm_num

/-- Infinity. -/
theorem inf : Ideal.ofBits .f32 0x7F800000#32 = (⊤ : EReal) := by
  simp [Ideal.ofBits, Ideal.ieee]

end Cert.Consts

end
-- ==== Proof.Ranges.lean ====
/- What the preconditions say: every token below 1000, every position below 20 and every side below 2; and the second also
   that the padding row of the champions' table is zero and that the arrays it names are finite. -/
module

public import proofs.«01_k».proof.Proof.Gen.Pre_in_range
public import proofs.«01_k».proof.Proof.Gen.Pre_usable
public import proofs.«01_k».proof.Proof.Take
public import proofs.«01_k».proof.Proof.Value.Consts

@[expose] public section

set_option maxRecDepth 16384

noncomputable section

namespace Cert.Ranges

open Idealize.ShloMosaic

instance : Subsingleton Pre_in_range.S_.Idx := ⟨fun a b => funext fun k => k.elim0⟩
instance : Subsingleton Pre_usable.S_.Idx := ⟨fun a b => funext fun k => k.elim0⟩

theorem of_range {F : FTy → Type} [FloatOps F] (x0 : IVec Pre_in_range.S4096x50 32) (x1 : IVec Pre_in_range.S4096 32) (x2 : IVec Pre_in_range.S4096 32) (x3 : FVec F Pre_in_range.S1000x128 .f32) (x4 : FVec F Pre_in_range.S20x128 .f32) (x5 : FVec F Pre_in_range.S2x128 .f32) (x6 : FVec F Pre_in_range.S512x1024 .f32) (x7 : FVec F Pre_in_range.S1024 .f32) (x8 : FVec F Pre_in_range.S1024 .f32) (x9 : FVec F Pre_in_range.S1024 .f32) (x10 : FVec F Pre_in_range.S1024x1024 .f32) (x11 : FVec F Pre_in_range.S1024 .f32) (x12 : FVec F Pre_in_range.S1024 .f32) (x13 : FVec F Pre_in_range.S1024 .f32) (x14 : FVec F Pre_in_range.S1024x512 .f32) (x15 : FVec F Pre_in_range.S512 .f32) (x16 : FVec F Pre_in_range.S512 .f32) (x17 : FVec F Pre_in_range.S512 .f32) (x18 : FVec F Pre_in_range.S512x1000 .f32) (x19 : FVec F Pre_in_range.S1000 .f32)
    (h : Pre_in_range.fn x0 x1 x2 x3 x4 x5 x6 x7 x8 x9 x10 x11 x12 x13 x14 x15 x16 x17 x18 x19 = fun _ => 1#1) :
    (∀ i, (x0 i).toNat < 1000) ∧ (∀ i, (x1 i).toNat < 20) ∧ ∀ i, (x2 i).toNat < 2 := by
  have e := congrFun h (Shape.Idx.first (s := Pre_in_range.S_) (by decide))
  obtain ⟨e, e₃⟩ := IntOp.andi_eq_one.1 e
  obtain ⟨e₁, e₂⟩ := IntOp.andi_eq_one.1 e
  refine ⟨fun i => ?_, fun i => ?_, fun i => ?_⟩
  · exact Take.lt_of_signed (by decide) _ (Host.reduce_andi_all _ _ _ _ _ e₁ i)
  · exact Take.lt_of_signed (by decide) _ (Host.reduce_andi_all _ _ _ _ _ e₂ i)
  · exact Take.lt_of_signed (by decide) _ (Host.reduce_andi_all _ _ _ _ _ e₃ i)

/-- An array of real numbers. -/
abbrev Finite {s : Shape} (x : s.Idx → EReal) : Prop := ∀ i, ∃ r : ℝ, x i = (r : EReal)

/-- A value whose magnitude is below infinity is a real number. -/
theorem finite_of {x : EReal} (h : (FloatOps.cmpf (F := Ideal) (φ := .f32) .olt (FloatOps.absf (F := Ideal) (φ := .f32) x) (FloatOps.ofBits (F := Ideal) .f32 0x7F800000#32) : BitVec 1) = 1#1) :
    ∃ r : ℝ, x = (r : EReal) := by
  have h' : max x (-x) < (⊤ : EReal) := by
    rw [Ideal.cmpf_def, Ideal.absf_def, Ideal.ofBits_def, Consts.inf] at h
    exact of_decide_eq_true ((Take.ofBool_eq_one _).1 h)
  refine ⟨x.toReal, (EReal.coe_toReal (fun e => ?_) (fun e => ?_)).symm⟩
  · rw [e] at h'
    exact absurd h' (by simp)
  · rw [e] at h'
    exact absurd h' (by simp)

theorem of_usable (x0 : IVec Pre_usable.S4096x50 32) (x1 : IVec Pre_usable.S4096 32) (x2 : IVec Pre_usable.S4096 32) (x3 : FVec Ideal Pre_usable.S1000x128 .f32) (x4 : FVec Ideal Pre_usable.S20x128 .f32) (x5 : FVec Ideal Pre_usable.S2x128 .f32) (x6 : FVec Ideal Pre_usable.S512x1024 .f32) (x7 : FVec Ideal Pre_usable.S1024 .f32) (x8 : FVec Ideal Pre_usable.S1024 .f32) (x9 : FVec Ideal Pre_usable.S1024 .f32) (x10 : FVec Ideal Pre_usable.S1024x1024 .f32) (x11 : FVec Ideal Pre_usable.S1024 .f32) (x12 : FVec Ideal Pre_usable.S1024 .f32) (x13 : FVec Ideal Pre_usable.S1024 .f32) (x14 : FVec Ideal Pre_usable.S1024x512 .f32) (x15 : FVec Ideal Pre_usable.S512 .f32) (x16 : FVec Ideal Pre_usable.S512 .f32) (x17 : FVec Ideal Pre_usable.S512 .f32) (x18 : FVec Ideal Pre_usable.S512x1000 .f32) (x19 : FVec Ideal Pre_usable.S1000 .f32)
    (h : Pre_usable.fn x0 x1 x2 x3 x4 x5 x6 x7 x8 x9 x10 x11 x12 x13 x14 x15 x16 x17 x18 x19 = fun _ => 1#1) :
    ((∀ i, (x0 i).toNat < 1000) ∧ (∀ i, (x1 i).toNat < 20) ∧ ∀ i, (x2 i).toNat < 2) ∧ (∀ e : Fin 128, x3 (ix2 0 e) = (0 : EReal))
      ∧ Finite x3 ∧ Finite x4 ∧ Finite x5 ∧ Finite x6 ∧ Finite x7 ∧ Finite x8 ∧ Finite x9 ∧ Finite x10 ∧ Finite x11 ∧ Finite x12 ∧ Finite x13 ∧ Finite x14 ∧ Finite x15 ∧ Finite x16 := by
  have e := congrFun h (Shape.Idx.first (s := Pre_usable.S_) (by decide))
  obtain ⟨e, e16⟩ := IntOp.andi_eq_one.1 e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, z⟩ := IntOp.andi_eq_one.1 e
  obtain ⟨e, s₃⟩ := IntOp.andi_eq_one.1 e
  obtain ⟨s₁, s₂⟩ := IntOp.andi_eq_one.1 e
  refine ⟨⟨fun i => ?_, fun i => ?_, fun i => ?_⟩, fun e => ?_, fun i => finite_of (Host.reduce_andi_all _ _ _ _ _ e3 i), fun i => finite_of (Host.reduce_andi_all _ _ _ _ _ e4 i), fun i => finite_of (Host.reduce_andi_all _ _ _ _ _ e5 i), fun i => finite_of (Host.reduce_andi_all _ _ _ _ _ e6 i), fun i => finite_of (Host.reduce_andi_all _ _ _ _ _ e7 i), fun i => finite_of (Host.reduce_andi_all _ _ _ _ _ e8 i), fun i => finite_of (Host.reduce_andi_all _ _ _ _ _ e9 i), fun i => finite_of (Host.reduce_andi_all _ _ _ _ _ e10 i), fun i => finite_of (Host.reduce_andi_all _ _ _ _ _ e11 i), fun i => finite_of (Host.reduce_andi_all _ _ _ _ _ e12 i), fun i => finite_of (Host.reduce_andi_all _ _ _ _ _ e13 i), fun i => finite_of (Host.reduce_andi_all _ _ _ _ _ e14 i), fun i => finite_of (Host.reduce_andi_all _ _ _ _ _ e15 i), fun i => finite_of (Host.reduce_andi_all _ _ _ _ _ e16 i)⟩
  · exact Take.lt_of_signed (by decide) _ (Host.reduce_andi_all _ _ _ _ _ s₁ i)
  · exact Take.lt_of_signed (by decide) _ (Host.reduce_andi_all _ _ _ _ _ s₂ i)
  · exact Take.lt_of_signed (by decide) _ (Host.reduce_andi_all _ _ _ _ _ s₃ i)
  · have z := Host.reduce_andi_all _ _ _ _ _ z (ix1 e)
    have e' := of_decide_eq_true ((Take.ofBool_eq_one _).1 z)
    refine Eq.trans ?_ (e'.trans Ideal.ofBits_zero_f32)
    pointwise

end Cert.Ranges

end
-- ==== Proof.Value.Steps.lean ====
/- The layers' operands, read off the arrays: what the host's operations between the calls leave for each call. -/
module

public import proofs.«01_k».proof.Proof.KernelIdeal.Rest

@[expose] public section

set_option maxRecDepth 16384

noncomputable section

namespace Cert.KernelIdeal.Dense

open Cert.KernelIdeal Cert.KernelIdeal.Gen Cert.KernelIdeal.Call
open Idealize.ShloMosaic Idealize.ShloMosaic.TcCoe Idealize.SL.Sem

variable (V : Dev nD → Valuation τ sig (Elt Ideal)) (c : Dev nD)

/-! ## Before the first layer -/

/-- The counts as a matrix. -/
theorem a_v2 : @Eq (FVec Ideal S4096x1024 .f32) (vals (A₁ V) c main_v2)
    (shapeCast S4096x1024 (show FVec Ideal S4194304 .f32 from vals V c main_v1_0) shapeCasts_S4194304_S4096x1024) := by
  unfold vals A₁
  after_results
  rfl
/-- The token vectors, rows of zeros after them. -/
theorem a_v4 : @Eq (FVec Ideal S1024x128 .bf16) (vals (A₁ V) c main_v4)
    (truncf .bf16 (pad S1024x128 ![0, 0] ![24, 0] ![0, 0] (show FVec Ideal S1000x128 .f32 from vals V c main_arg3) (sitofp (F := Ideal) .f32 (constantI S_ 32 0#32))
        pads_S1000x128_S1024x128_0240_000 h_S_) bitsLt_bf16_f32) := by
  unfold vals A₁
  after_results
  rfl
theorem a_v5 : @Eq (FVec Ideal S512x1024 .bf16) (vals (A₁ V) c main_v5)
    (truncf .bf16 (show FVec Ideal S512x1024 .f32 from vals V c main_arg6) bitsLt_bf16_f32) := by
  unfold vals A₁
  after_results
theorem a_v6 : @Eq (FVec Ideal S1024x1024 .bf16) (vals (A₁ V) c main_v6)
    (truncf .bf16 (show FVec Ideal S1024x1024 .f32 from vals V c main_arg10) bitsLt_bf16_f32) := by
  unfold vals A₁
  after_results
theorem a_v7 : @Eq (FVec Ideal S1024x512 .bf16) (vals (A₁ V) c main_v7)
    (truncf .bf16 (show FVec Ideal S1024x512 .f32 from vals V c main_arg14) bitsLt_bf16_f32) := by
  unfold vals A₁
  after_results
/-- The output weights, columns of zeros after them. -/
theorem a_v9 : @Eq (FVec Ideal S512x1024 .bf16) (vals (A₁ V) c main_v9)
    (truncf .bf16 (pad S512x1024 ![0, 0] ![0, 24] ![0, 0] (show FVec Ideal S512x1000 .f32 from vals V c main_arg18) (sitofp (F := Ideal) .f32 (constantI S_ 32 0#32))
        pads_S512x1000_S512x1024_000_0240 h_S_) bitsLt_bf16_f32) := by
  unfold vals A₁
  after_results
  rfl
theorem a_v11 : @Eq (FVec Ideal S1x1024 .f32) (vals (A₁ V) c main_v11)
    (shapeCast S1x1024 (pad S1024 ![0] ![24] ![0] (show FVec Ideal S1000 .f32 from vals V c main_arg19) (sitofp (F := Ideal) .f32 (constantI S_ 32 0#32))
        pads_S1000_S1024_0240 h_S_) shapeCasts_S1024_S1x1024) := by
  unfold vals A₁
  after_results
  rfl
theorem a_v12 : @Eq (FVec Ideal S1x1024 .f32) (vals (A₁ V) c main_v12)
    (shapeCast S1x1024 (show FVec Ideal S1024 .f32 from vals V c main_arg7) shapeCasts_S1024_S1x1024) := by
  unfold vals A₁
  after_results
  rfl

/-! ## Between the layers: each vector as a row -/

theorem a_v14 : @Eq (FVec Ideal S1x1024 .f32) (vals (A₂ V) c main_v14)
    (shapeCast S1x1024 (show FVec Ideal S1024 .f32 from vals V c main_arg8) shapeCasts_S1024_S1x1024) := by
  rw [show vals V c main_arg8 = vals (B₁ V) c main_arg8 from (arg_B₁ V c (r := main_arg8) (by decide)).symm]
  unfold vals A₂
  after_results
  rfl
theorem a_v15 : @Eq (FVec Ideal S1x1024 .f32) (vals (A₂ V) c main_v15)
    (shapeCast S1x1024 (show FVec Ideal S1024 .f32 from vals V c main_arg9) shapeCasts_S1024_S1x1024) := by
  rw [show vals V c main_arg9 = vals (B₁ V) c main_arg9 from (arg_B₁ V c (r := main_arg9) (by decide)).symm]
  unfold vals A₂
  after_results
  rfl
theorem a_v16 : @Eq (FVec Ideal S1x1024 .f32) (vals (A₂ V) c main_v16)
    (shapeCast S1x1024 (show FVec Ideal S1024 .f32 from vals V c main_arg11) shapeCasts_S1024_S1x1024) := by
  rw [show vals V c main_arg11 = vals (B₁ V) c main_arg11 from (arg_B₁ V c (r := main_arg11) (by decide)).symm]
  unfold vals A₂
  after_results
  rfl
theorem a_v18 : @Eq (FVec Ideal S1x1024 .f32) (vals (A₃ V) c main_v18)
    (shapeCast S1x1024 (show FVec Ideal S1024 .f32 from vals V c main_arg12) shapeCasts_S1024_S1x1024) := by
  rw [show vals V c main_arg12 = vals (B₂ V) c main_arg12 from (arg_B₂ V c (r := main_arg12) (by decide)).symm]
  unfold vals A₃
  after_results
  rfl
theorem a_v19 : @Eq (FVec Ideal S1x1024 .f32) (vals (A₃ V) c main_v19)
    (shapeCast S1x1024 (show FVec Ideal S1024 .f32 from vals V c main_arg13) shapeCasts_S1024_S1x1024) := by
  rw [show vals V c main_arg13 = vals (B₂ V) c main_arg13 from (arg_B₂ V c (r := main_arg13) (by decide)).symm]
  unfold vals A₃
  after_results
  rfl
theorem a_v20 : @Eq (FVec Ideal S1x512 .f32) (vals (A₃ V) c main_v20)
    (shapeCast S1x512 (show FVec Ideal S512 .f32 from vals V c main_arg15) shapeCasts_S512_S1x512) := by
  rw [show vals V c main_arg15 = vals (B₂ V) c main_arg15 from (arg_B₂ V c (r := main_arg15) (by decide)).symm]
  unfold vals A₃
  after_results
  rfl
theorem a_v22 : @Eq (FVec Ideal S1x512 .f32) (vals (A₄ V) c main_v22)
    (shapeCast S1x512 (show FVec Ideal S512 .f32 from vals V c main_arg16) shapeCasts_S512_S1x512) := by
  rw [show vals V c main_arg16 = vals (B₃ V) c main_arg16 from (arg_B₃ V c (r := main_arg16) (by decide)).symm]
  unfold vals A₄
  after_results
  rfl
theorem a_v23 : @Eq (FVec Ideal S1x512 .f32) (vals (A₄ V) c main_v23)
    (shapeCast S1x512 (show FVec Ideal S512 .f32 from vals V c main_arg17) shapeCasts_S512_S1x512) := by
  rw [show vals V c main_arg17 = vals (B₃ V) c main_arg17 from (arg_B₃ V c (r := main_arg17) (by decide)).symm]
  unfold vals A₄
  after_results
  rfl

end Cert.KernelIdeal.Dense

end
-- ==== Proof.Value.Reads.lean ====
/- The layers' operands, read at one entry. -/
module

public import proofs.«01_k».proof.Proof.Value.Steps
public import Idealize.ShloMosaic.Lib.Pointwise

@[expose] public section

set_option maxRecDepth 16384

noncomputable section

namespace Cert.KernelIdeal.Dense

open Cert.KernelIdeal Cert.KernelIdeal.Gen Cert.KernelIdeal.Call
open Idealize.ShloMosaic Idealize.ShloMosaic.TcCoe Idealize.SL.Sem

/-! ## Reshapes and paddings at an entry -/

theorem zero_word : (FloatOps.sitofp (F := Ideal) .f32 (0#32 : BitVec 32) : EReal) = 0 := by
  show ((((0#32 : BitVec 32).toInt : ℤ) : ℝ) : EReal) = 0
  simp

theorem matrix_at (x : FVec Ideal S4194304 .f32) (r : Fin 4096) (v : Fin 1024) :
    shapeCast S4096x1024 x shapeCasts_S4194304_S4096x1024 (ix2 r v) = x (ix1 ⟨1024 * r.val + v.val, by omega⟩) := by
  pointwise
  refine congrArg x (congrArg ix1 (Fin.ext ?_))
  show r.val * 1024 + v.val = 1024 * r.val + v.val
  omega
theorem row1024_at (x : FVec Ideal S1024 .f32) (j : Fin 1024) : shapeCast S1x1024 x shapeCasts_S1024_S1x1024 (ix2 0 j) = x (ix1 j) := by
  pointwise
theorem row512_at (x : FVec Ideal S512 .f32) (j : Fin 512) : shapeCast S1x512 x shapeCasts_S512_S1x512 (ix2 0 j) = x (ix1 j) := by
  pointwise
theorem padded_rows_at (x : FVec Ideal S1000x128 .f32) (v : Fin 1024) (e : Fin 128) :
    truncf .bf16 (pad S1024x128 ![0, 0] ![24, 0] ![0, 0] x (sitofp (F := Ideal) .f32 (constantI S_ 32 0#32)) pads_S1000x128_S1024x128_0240_000 h_S_)
      bitsLt_bf16_f32 (ix2 v e) = if h : v.val < 1000 then x (ix2 ⟨v.val, h⟩ e) else 0 := by
  pointwise
  exact congrArg (fun z : EReal => if h : v.val < 1000 then (x (ix2 ⟨v.val, h⟩ e) : EReal) else z) zero_word
theorem padded_columns_at (x : FVec Ideal S512x1000 .f32) (k : Fin 512) (j : Fin 1000) :
    truncf .bf16 (pad S512x1024 ![0, 0] ![0, 24] ![0, 0] x (sitofp (F := Ideal) .f32 (constantI S_ 32 0#32)) pads_S512x1000_S512x1024_000_0240 h_S_)
      bitsLt_bf16_f32 (ix2 k ⟨j.val, by omega⟩) = x (ix2 k j) := by
  pointwise
theorem padded_row_at (x : FVec Ideal S1000 .f32) (j : Fin 1000) :
    shapeCast S1x1024 (pad S1024 ![0] ![24] ![0] x (sitofp (F := Ideal) .f32 (constantI S_ 32 0#32)) pads_S1000_S1024_0240 h_S_)
      shapeCasts_S1024_S1x1024 (ix2 0 ⟨j.val, by omega⟩) = x (ix1 j) := by
  pointwise

end Cert.KernelIdeal.Dense

end
-- ==== Proof.Value.Pays.lean ====
/- The bodies of the four dense layers, read at one entry: each payload over the extended reals as the layer's formula. -/
module

public import proofs.«01_k».proof.Proof.Gen.KernelIdeal.Skeleton
public import Idealize.ShloMosaic.Lib.Pointwise

@[expose] public section

set_option maxRecDepth 16384

noncomputable section

namespace Cert.KernelIdeal.Pays

open Cert.KernelIdeal Cert.KernelIdeal.Gen
open Idealize.ShloMosaic

/-- The mean of a column, from its sum. -/
def mean (s : EReal) : EReal := s * Ideal.ofBits .f32 0x39800000#32
/-- The factor of a column: its weight over its standard deviation, from its sum and its sum of squares. -/
def factor (s q g : EReal) : EReal :=
  g * Ideal.rsqrt (q * Ideal.ofBits .f32 0x39800000#32 - mean s * mean s + Ideal.ofBits .f32 0x3727C5AC#32)
/-- One entry normalized as the kernel does it: the entry times the factor, plus one offset for the column. -/
def affine (s q g be h : EReal) : EReal := h * factor s q g + (be - mean s * factor s q g)
/-- One entry of a dense layer before its activation. -/
def dense {n : ℕ} (x w : Fin n → EReal) (b : EReal) : EReal := ∑ k, x k * w k + b
/-- The first layer's input: the sum of the row's vectors, that sum over the row's length, and the two looked-up vectors. -/
def feature (s : Fin 128 → EReal) (n : EReal) (p q : Fin 128 → EReal) (k : Fin 512) : EReal :=
  if h : k.val < 128 then s ⟨k.val, h⟩
  else if h : k.val - 128 < 128 then Ideal.div (s ⟨k.val - 128, h⟩) n
  else if h : k.val - 128 - 128 < 128 then p ⟨k.val - 128 - 128, h⟩
  else q ⟨k.val - 128 - 128 - 128, by omega⟩

theorem rows1 (cnt : FVec Ideal S512x1024 .f32) (cw : FVec Ideal S1024x128 .bf16) (z : FVec Ideal S512x1 .f32)
    (p q : FVec Ideal S512x128 .f32) (W : FVec Ideal S512x1024 .bf16) (b : FVec Ideal S1x1024 .f32) (r : Fin 512) (j : Fin 1024) :
    k1_pay3 (F := Ideal) cnt cw z p q W b (ix2 r j)
      = max (dense (feature (fun e => ∑ v : Fin 1024, cnt (ix2 r v) * cw (ix2 v e)) (max (Ideal.ofBits .f32 0x42800000#32 - z (ix2 r 0)) 1)
          (fun e => p (ix2 r e)) (fun e => q (ix2 r e))) (fun k => W (ix2 k j)) (b (ix2 0 j))) 0 := by
  pointwise [k1_pay3, dense, feature]

theorem rows2 (m0 m1 g be : FVec Ideal S1x1024 .f32) (h : FVec Ideal S512x1024 .bf16) (W : FVec Ideal S1024x1024 .bf16)
    (b : FVec Ideal S1x1024 .f32) (r : Fin 512) (j : Fin 1024) :
    k2_pay3 (F := Ideal) m0 m1 g be h W b (ix2 r j)
      = max (dense (fun k => affine (m0 (ix2 0 k)) (m1 (ix2 0 k)) (g (ix2 0 k)) (be (ix2 0 k)) (h (ix2 r k))) (fun k => W (ix2 k j)) (b (ix2 0 j))) 0 := by
  pointwise [k2_pay3, dense, affine, factor, mean]

theorem rows3 (m0 m1 g be : FVec Ideal S1x1024 .f32) (h : FVec Ideal S512x1024 .bf16) (W : FVec Ideal S1024x512 .bf16)
    (b : FVec Ideal S1x512 .f32) (r : Fin 512) (j : Fin 512) :
    k3_pay3 (F := Ideal) m0 m1 g be h W b (ix2 r j)
      = max (dense (fun k => affine (m0 (ix2 0 k)) (m1 (ix2 0 k)) (g (ix2 0 k)) (be (ix2 0 k)) (h (ix2 r k))) (fun k => W (ix2 k j)) (b (ix2 0 j))) 0 := by
  pointwise [k3_pay3, dense, affine, factor, mean]

theorem rows4 (m0 m1 g be : FVec Ideal S1x512 .f32) (h : FVec Ideal S512x512 .bf16) (W : FVec Ideal S512x1024 .bf16)
    (b : FVec Ideal S1x1024 .f32) (r : Fin 512) (j : Fin 1024) :
    k4_pay1 (F := Ideal) m0 m1 g be h W b (ix2 r j)
      = dense (fun k => affine (m0 (ix2 0 k)) (m1 (ix2 0 k)) (g (ix2 0 k)) (be (ix2 0 k)) (h (ix2 r k))) (fun k => W (ix2 k j)) (b (ix2 0 j)) := by
  pointwise [k4_pay1, dense, affine, factor, mean]

/-- A layer's sums after a step: the running ones plus the step's own, row 0 of the entries and row 1 of their squares. -/
theorem sums1 (x : FVec Ideal S512x1024 .f32) (y : FVec Ideal S2x1024 .f32) (j : Fin 1024) :
    k1_pay2 (F := Ideal) x y (ix2 0 j) = y (ix2 0 j) + ∑ r : Fin 512, x (ix2 r j)
      ∧ k1_pay2 (F := Ideal) x y (ix2 1 j) = y (ix2 1 j) + ∑ r : Fin 512, x (ix2 r j) * x (ix2 r j) := by
  constructor <;> pointwise [k1_pay2]
theorem sums2 (x : FVec Ideal S512x1024 .bf16) (y : FVec Ideal S2x1024 .f32) (j : Fin 1024) :
    k2_pay2 (F := Ideal) x y (ix2 0 j) = y (ix2 0 j) + ∑ r : Fin 512, x (ix2 r j)
      ∧ k2_pay2 (F := Ideal) x y (ix2 1 j) = y (ix2 1 j) + ∑ r : Fin 512, x (ix2 r j) * x (ix2 r j) := by
  constructor <;> pointwise [k2_pay2]
theorem sums3 (x : FVec Ideal S512x512 .bf16) (y : FVec Ideal S2x512 .f32) (j : Fin 512) :
    k3_pay2 (F := Ideal) x y (ix2 0 j) = y (ix2 0 j) + ∑ r : Fin 512, x (ix2 r j)
      ∧ k3_pay2 (F := Ideal) x y (ix2 1 j) = y (ix2 1 j) + ∑ r : Fin 512, x (ix2 r j) * x (ix2 r j) := by
  constructor <;> pointwise [k3_pay2]

/-- The sums start at zero. -/
theorem start1 (i : Fin 2) (j : Fin 1024) : k1_pay1 (F := Ideal) (ix2 i j) = 0 := by pointwise [k1_pay1]
theorem start2 (i : Fin 2) (j : Fin 1024) : k2_pay1 (F := Ideal) (ix2 i j) = 0 := by pointwise [k2_pay1]
theorem start3 (i : Fin 2) (j : Fin 512) : k3_pay1 (F := Ideal) (ix2 i j) = 0 := by pointwise [k3_pay1]

end Cert.KernelIdeal.Pays

end
-- ==== Proof.Value.Out1.lean ====
/- The first dense layer's call over the extended reals: its rows and its column sums after the call, from the arrays it
   is entered with. -/
module

public import proofs.«01_k».proof.Proof.KernelIdeal.Data1
public import proofs.«01_k».proof.Proof.Value.Pays

@[expose] public section

set_option maxRecDepth 16384

noncomputable section

namespace Cert.KernelIdeal.Layer1

open Cert.KernelIdeal Cert.KernelIdeal.Gen Cert.KernelIdeal.Pays
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx : ∀ t : Fin cfg1.N, win1_0.index t = ![t.val, 0] ∧ win1_1.index t = ![t.val, 0] ∧ win1_2.index t = ![t.val, 0] ∧ win1_3.index t = ![0, 0]
    ∧ win1_4.index t = ![0, 0] ∧ win1_5.index t = ![0, 0] ∧ win1_6.index t = ![t.val, 0] ∧ win1_7.index t = ![0, 0] :=
  (by decide +kernel : ∀ t : Fin grid1.N, _)

/-- The layer's entry `(r, j)`, from its operands. -/
def entry (cnt : FVec Ideal S4096x1024 .f32) (cw : FVec Ideal S1024x128 .bf16) (p q : FVec Ideal S4096x128 .f32)
    (W : FVec Ideal S512x1024 .bf16) (b : FVec Ideal S1x1024 .f32) (r : Fin 4096) (j : Fin 1024) : EReal :=
  max (dense (feature (fun e => ∑ v : Fin 1024, cnt (ix2 r v) * cw (ix2 v e)) (max (Ideal.ofBits .f32 0x42800000#32 - cnt (ix2 r 0)) 1)
    (fun e => p (ix2 r e)) (fun e => q (ix2 r e))) (fun k => W (ix2 k j)) (b (ix2 0 j))) 0

abbrev val (r : Fin 4096) (j : Fin 1024) : EReal :=
  entry (V c main_v2) (V c main_v4) (V c main_v1_1) (V c main_v1_2) (V c main_v5) (V c main_v12) r j

theorem col0_at (x : FVec Ideal S512x1024 .f32) (r : Fin 512) : (col0 (F := Ideal) x : FVec Ideal S512x1 .f32) (ix2 r 0) = x (ix2 r 0) := by
  refine congrArg x ?_
  funext a
  match a with
  | 0 => exact Fin.ext (by show 0 + 1 * r.val = r.val; omega)
  | 1 => rfl

/-- One step's entry, the count of token 0 read off the counts. -/
theorem pay_at (cnt : FVec Ideal S512x1024 .f32) (cw : FVec Ideal S1024x128 .bf16) (p q : FVec Ideal S512x128 .f32)
    (W : FVec Ideal S512x1024 .bf16) (b : FVec Ideal S1x1024 .f32) (r : Fin 512) (j : Fin 1024) :
    k1_pay3 (F := Ideal) cnt cw (col0 (F := Ideal) cnt) p q W b (ix2 r j)
      = max (dense (feature (fun e => ∑ v : Fin 1024, cnt (ix2 r v) * cw (ix2 v e)) (max (Ideal.ofBits .f32 0x42800000#32 - cnt (ix2 r 0)) 1)
          (fun e => p (ix2 r e)) (fun e => q (ix2 r e))) (fun k => W (ix2 k j)) (b (ix2 0 j))) 0 := by
  rw [rows1]
  exact congrArg (fun z => max (dense (feature (fun e => ∑ v : Fin 1024, cnt (ix2 r v) * cw (ix2 v e)) (max (Ideal.ofBits .f32 0x42800000#32 - z) 1)
          (fun e => p (ix2 r e)) (fun e => q (ix2 r e))) (fun k => W (ix2 k j)) (b (ix2 0 j))) 0) (col0_at cnt r)

theorem blk0_at (t : Fin cfg1.N) (r : Fin 512) (k : Fin 1024) (h : t.val * 512 + r.val < 4096) :
    (blk V c 0 t : FVec Ideal S512x1024 .f32) (ix2 r k) = (V c main_v2 : FVec Ideal S4096x1024 .f32) (ix2 ⟨t.val * 512 + r.val, h⟩ k) := by
  blk_ext [blk, idx t]
theorem blk1_at (t : Fin cfg1.N) (r : Fin 512) (k : Fin 128) (h : t.val * 512 + r.val < 4096) :
    (blk V c 1 t : FVec Ideal S512x128 .f32) (ix2 r k) = (V c main_v1_1 : FVec Ideal S4096x128 .f32) (ix2 ⟨t.val * 512 + r.val, h⟩ k) := by
  blk_ext [blk, idx t]
theorem blk2_at (t : Fin cfg1.N) (r : Fin 512) (k : Fin 128) (h : t.val * 512 + r.val < 4096) :
    (blk V c 2 t : FVec Ideal S512x128 .f32) (ix2 r k) = (V c main_v1_2 : FVec Ideal S4096x128 .f32) (ix2 ⟨t.val * 512 + r.val, h⟩ k) := by
  blk_ext [blk, idx t]
theorem blk3 (t : Fin cfg1.N) : blk V c 3 t = V c main_v4 := by blk_ext! [blk, idx t]
theorem blk4 (t : Fin cfg1.N) : blk V c 4 t = V c main_v5 := by blk_ext! [blk, idx t]
theorem blk5 (t : Fin cfg1.N) : blk V c 5 t = V c main_v12 := by blk_ext! [blk, idx t]

theorem rows_at (t : Fin cfg1.N) (r : Fin 512) (j : Fin 1024) (h : t.val * 512 + r.val < 4096) :
    (rows V c t : FVec Ideal S512x1024 .bf16) (ix2 r j) = val V c ⟨t.val * 512 + r.val, h⟩ j := by
  unfold rows
  rw [blk3, blk4, blk5]
  refine (pay_at _ _ _ _ _ _ r j).trans ?_
  simp only [blk0_at V c t r _ h, blk1_at V c t r _ h, blk2_at V c t r _ h]
  rfl

theorem rows_of (t : Fin cfg1.N) (y : S512x1024.Idx) (i : S4096x1024.Idx) (h₀ : (i 0).val = t.val * 512 + (y 0).val) (h₁ : (i 1).val = (y 1).val) :
    (rows V c t : FVec Ideal S512x1024 .bf16) y = val V c (i 0) (i 1) := by
  have h : t.val * 512 + (y 0).val < 4096 := h₀ ▸ (i 0).isLt
  have e := rows_at V c t (y 0) (y 1) h
  refine (Eq.trans ?_ e).trans (congrArg₂ (val V c) (Fin.ext h₀.symm) (Fin.ext h₁.symm))
  refine congrArg (rows V c t : FVec Ideal S512x1024 .bf16) ?_
  funext a
  match a with
  | 0 => rfl
  | 1 => rfl

/-- The layer's rows after the call. -/
theorem final_rows : (dat V c).arrAt 6 cfg1.N = (fun i => val V c (i 0) (i 1) : FVec Ideal S4096x1024 .bf16) := by
  refine (dat V c).arrAt_eq_of_covers 6 _ (by decide +kernel) fun t _ y => ?_
  blk_simp
  rw [after_6]
  refine rows_of V c t y ((win1_6.blk t).view.emb y) ?_ ?_
  all_goals blk_simp [idx t]

/-- The column sums after point `n`: over the rows of the points up to it. -/
theorem sums_at (j : Fin 1024) (n : ℕ) :
    (sums V c n : FVec Ideal S2x1024 .f32) (ix2 0 j) = ∑ t ∈ Finset.range (n + 1), ∑ r : Fin 512, (rows V c (pt t) : FVec Ideal S512x1024 .bf16) (ix2 r j)
      ∧ (sums V c n : FVec Ideal S2x1024 .f32) (ix2 1 j) = ∑ t ∈ Finset.range (n + 1), ∑ r : Fin 512,
          (rows V c (pt t) : FVec Ideal S512x1024 .bf16) (ix2 r j) * (rows V c (pt t) : FVec Ideal S512x1024 .bf16) (ix2 r j) := by
  induction n with
  | zero =>
    have e := sums1 (extf .f32 (rows V c (pt 0)) bitsLt_bf16_f32) (k1_pay1 (F := Ideal)) j
    rw [start1, start1, zero_add, zero_add] at e
    rw [zero_add, Finset.sum_range_one, Finset.sum_range_one]
    exact e
  | succ n ih =>
    have e := sums1 (extf .f32 (rows V c (pt (n + 1))) bitsLt_bf16_f32) (sums V c n) j
    rw [ih.1, ih.2] at e
    rw [Finset.sum_range_succ _ (n + 1), Finset.sum_range_succ _ (n + 1)]
    exact e

theorem total (f : Fin 4096 → EReal) : ∑ t ∈ Finset.range 8, ∑ r : Fin 512, f ⟨(t * 512 + r.val) % 4096, Nat.mod_lt _ (by decide)⟩ = ∑ r : Fin 4096, f r := by
  rw [Finset.sum_range]
  refine Fin.sum_mul_add_congr fun t r hl => ?_
  exact congrArg f (Fin.ext (Nat.mod_eq_of_lt hl))

/-- The column sums at the end, over all the rows. -/
theorem sums_of (i : S2x1024.Idx) : (sums V c (pt 7).val : FVec Ideal S2x1024 .f32) i
    = if (i 0).val = 0 then ∑ r : Fin 4096, val V c r (i 1) else ∑ r : Fin 4096, val V c r (i 1) * val V c r (i 1) := by
  have e := sums_at V c (i 1) 7
  have hr : ∀ t, t ∈ Finset.range 8 → ∀ r : Fin 512, (rows V c (pt t) : FVec Ideal S512x1024 .bf16) (ix2 r (i 1))
      = val V c ⟨(t * 512 + r.val) % 4096, Nat.mod_lt _ (by decide)⟩ (i 1) := fun t ht r => by
    have ht' := Finset.mem_range.mp ht
    have hp : (pt t).val = t := Nat.mod_eq_of_lt ht'
    have hlt : (pt t).val * 512 + r.val < 4096 := by omega
    rw [rows_at V c (pt t) r (i 1) hlt]
    refine congrArg (val V c · (i 1)) (Fin.ext ?_)
    show (pt t).val * 512 + r.val = (t * 512 + r.val) % 4096
    omega
  rw [Finset.sum_congr rfl fun t ht => Finset.sum_congr rfl fun r _ => hr t ht r,
    Finset.sum_congr rfl fun t ht => Finset.sum_congr rfl fun r _ => congrArg (fun x => x * x) (hr t ht r),
    total fun r => val V c r (i 1), total fun r => val V c r (i 1) * val V c r (i 1)] at e
  have hi : (i 0).val < 2 := (i 0).isLt
  by_cases h0 : (i 0).val = 0
  · rw [if_pos h0]
    refine Eq.trans (congrArg _ ?_) e.1
    funext a
    match a with
    | 0 => exact Fin.ext h0
    | 1 => rfl
  · rw [if_neg h0]
    refine Eq.trans (congrArg _ ?_) e.2
    funext a
    match a with
    | 0 => exact Fin.ext (by show (i 0).val = 1; omega)
    | 1 => rfl

/-- The layer's column sums after the call: row 0 of the entries, row 1 of their squares. -/
theorem final_sums : (dat V c).arrAt 7 cfg1.N
    = (fun i => if (i 0).val = 0 then ∑ r : Fin 4096, val V c r (i 1) else ∑ r : Fin 4096, val V c r (i 1) * val V c r (i 1) : FVec Ideal S2x1024 .f32) := by
  refine (dat V c).arrAt_eq_of_after_last 7 (pt 7) (by decide +kernel) _ fun j => ?_
  blk_simp
  rw [after_7]
  exact sums_of V c j

end Cert.KernelIdeal.Layer1

end
-- ==== Proof.Value.Out2.lean ====
/- The second dense layer's call over the extended reals: its rows and its column sums after the call, from the arrays it
   is entered with. -/
module

public import proofs.«01_k».proof.Proof.KernelIdeal.Data2
public import proofs.«01_k».proof.Proof.Value.Pays

@[expose] public section

set_option maxRecDepth 16384

noncomputable section

namespace Cert.KernelIdeal.Layer2

open Cert.KernelIdeal Cert.KernelIdeal.Gen Cert.KernelIdeal.Pays
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx : ∀ t : Fin cfg2.N, win2_0.index t = ![t.val, 0] ∧ win2_1.index t = ![0, 0] ∧ win2_2.index t = ![0, 0] ∧ win2_3.index t = ![0, 0]
    ∧ win2_4.index t = ![0, 0] ∧ win2_5.index t = ![0, 0] ∧ win2_6.index t = ![t.val, 0] ∧ win2_7.index t = ![0, 0] :=
  (by decide +kernel : ∀ t : Fin grid2.N, _)

/-- The layer's entry `(r, j)`, from its operands. -/
def entry (h : FVec Ideal S4096x1024 .bf16) (st : FVec Ideal S2x1024 .f32) (g be : FVec Ideal S1x1024 .f32)
    (W : FVec Ideal S1024x1024 .bf16) (b : FVec Ideal S1x1024 .f32) (r : Fin 4096) (j : Fin 1024) : EReal :=
  max (dense (fun k => affine (st (ix2 0 k)) (st (ix2 1 k)) (g (ix2 0 k)) (be (ix2 0 k)) (h (ix2 r k))) (fun k => W (ix2 k j)) (b (ix2 0 j))) 0

abbrev val (r : Fin 4096) (j : Fin 1024) : EReal :=
  entry (V c main_v13_0) (V c main_v13_1) (V c main_v14) (V c main_v15) (V c main_v6) (V c main_v16) r j

theorem row0_at (x : FVec Ideal S2x1024 .f32) (k : Fin 1024) : (row0 (F := Ideal) x : FVec Ideal S1x1024 .f32) (ix2 0 k) = x (ix2 0 k) := by
  refine congrArg x ?_
  funext a
  match a with
  | 0 => rfl
  | 1 => exact Fin.ext (by show 0 + 1 * k.val = k.val; omega)
theorem row1_at (x : FVec Ideal S2x1024 .f32) (k : Fin 1024) : (row1 (F := Ideal) x : FVec Ideal S1x1024 .f32) (ix2 0 k) = x (ix2 1 k) := by
  refine congrArg x ?_
  funext a
  match a with
  | 0 => rfl
  | 1 => exact Fin.ext (by show 0 + 1 * k.val = k.val; omega)

/-- One step's entry, the two rows of sums read off their array. -/
theorem pay_at (st : FVec Ideal S2x1024 .f32) (g be : FVec Ideal S1x1024 .f32) (h : FVec Ideal S512x1024 .bf16) (W : FVec Ideal S1024x1024 .bf16)
    (b : FVec Ideal S1x1024 .f32) (r : Fin 512) (j : Fin 1024) :
    k2_pay3 (F := Ideal) (row0 (F := Ideal) st) (row1 (F := Ideal) st) g be h W b (ix2 r j)
      = max (dense (fun k => affine (st (ix2 0 k)) (st (ix2 1 k)) (g (ix2 0 k)) (be (ix2 0 k)) (h (ix2 r k))) (fun k => W (ix2 k j)) (b (ix2 0 j))) 0 := by
  rw [rows2]
  refine congrArg (max · (0 : EReal)) (congrArg (· + (b (ix2 0 j) : EReal)) (Finset.sum_congr rfl fun k _ => ?_))
  exact congrArg₂ (fun a q => affine a q (g (ix2 0 k)) (be (ix2 0 k)) (h (ix2 r k)) * (W (ix2 k j) : EReal)) (row0_at st k) (row1_at st k)

theorem blk0_at (t : Fin cfg2.N) (r : Fin 512) (k : Fin 1024) (h : t.val * 512 + r.val < 4096) :
    (blk V c 0 t : FVec Ideal S512x1024 .bf16) (ix2 r k) = (V c main_v13_0 : FVec Ideal S4096x1024 .bf16) (ix2 ⟨t.val * 512 + r.val, h⟩ k) := by
  blk_ext [blk, idx t]
theorem blk1 (t : Fin cfg2.N) : blk V c 1 t = V c main_v13_1 := by blk_ext! [blk, idx t]
theorem blk2 (t : Fin cfg2.N) : blk V c 2 t = V c main_v14 := by blk_ext! [blk, idx t]
theorem blk3 (t : Fin cfg2.N) : blk V c 3 t = V c main_v15 := by blk_ext! [blk, idx t]
theorem blk4 (t : Fin cfg2.N) : blk V c 4 t = V c main_v6 := by blk_ext! [blk, idx t]
theorem blk5 (t : Fin cfg2.N) : blk V c 5 t = V c main_v16 := by blk_ext! [blk, idx t]

theorem rows_at (t : Fin cfg2.N) (r : Fin 512) (j : Fin 1024) (h : t.val * 512 + r.val < 4096) :
    (rows V c t : FVec Ideal S512x1024 .bf16) (ix2 r j) = val V c ⟨t.val * 512 + r.val, h⟩ j := by
  unfold rows
  rw [blk1, blk2, blk3, blk4, blk5]
  refine (pay_at _ _ _ _ _ _ r j).trans ?_
  simp only [blk0_at V c t r _ h]
  rfl

theorem rows_of (t : Fin cfg2.N) (y : S512x1024.Idx) (i : S4096x1024.Idx) (h₀ : (i 0).val = t.val * 512 + (y 0).val) (h₁ : (i 1).val = (y 1).val) :
    (rows V c t : FVec Ideal S512x1024 .bf16) y = val V c (i 0) (i 1) := by
  have h : t.val * 512 + (y 0).val < 4096 := h₀ ▸ (i 0).isLt
  have e := rows_at V c t (y 0) (y 1) h
  refine (Eq.trans ?_ e).trans (congrArg₂ (val V c) (Fin.ext h₀.symm) (Fin.ext h₁.symm))
  refine congrArg (rows V c t : FVec Ideal S512x1024 .bf16) ?_
  funext a
  match a with
  | 0 => rfl
  | 1 => rfl

/-- The layer's rows after the call. -/
theorem final_rows : (dat V c).arrAt 6 cfg2.N = (fun i => val V c (i 0) (i 1) : FVec Ideal S4096x1024 .bf16) := by
  refine (dat V c).arrAt_eq_of_covers 6 _ (by decide +kernel) fun t _ y => ?_
  blk_simp
  rw [after_6]
  refine rows_of V c t y ((win2_6.blk t).view.emb y) ?_ ?_
  all_goals blk_simp [idx t]

/-- The column sums after point `n`: over the rows of the points up to it. -/
theorem sums_at (j : Fin 1024) (n : ℕ) :
    (sums V c n : FVec Ideal S2x1024 .f32) (ix2 0 j) = ∑ t ∈ Finset.range (n + 1), ∑ r : Fin 512, (rows V c (pt t) : FVec Ideal S512x1024 .bf16) (ix2 r j)
      ∧ (sums V c n : FVec Ideal S2x1024 .f32) (ix2 1 j) = ∑ t ∈ Finset.range (n + 1), ∑ r : Fin 512,
          (rows V c (pt t) : FVec Ideal S512x1024 .bf16) (ix2 r j) * (rows V c (pt t) : FVec Ideal S512x1024 .bf16) (ix2 r j) := by
  induction n with
  | zero =>
    have e := sums2 (rows V c (pt 0)) (k2_pay1 (F := Ideal)) j
    rw [start2, start2, zero_add, zero_add] at e
    rw [zero_add, Finset.sum_range_one, Finset.sum_range_one]
    exact e
  | succ n ih =>
    have e := sums2 (rows V c (pt (n + 1))) (sums V c n) j
    rw [ih.1, ih.2] at e
    rw [Finset.sum_range_succ _ (n + 1), Finset.sum_range_succ _ (n + 1)]
    exact e

theorem total (f : Fin 4096 → EReal) : ∑ t ∈ Finset.range 8, ∑ r : Fin 512, f ⟨(t * 512 + r.val) % 4096, Nat.mod_lt _ (by decide)⟩ = ∑ r : Fin 4096, f r := by
  rw [Finset.sum_range]
  refine Fin.sum_mul_add_congr fun t r hl => ?_
  exact congrArg f (Fin.ext (Nat.mod_eq_of_lt hl))

/-- The column sums at the end, over all the rows. -/
theorem sums_of (i : S2x1024.Idx) : (sums V c (pt 7).val : FVec Ideal S2x1024 .f32) i
    = if (i 0).val = 0 then ∑ r : Fin 4096, val V c r (i 1) else ∑ r : Fin 4096, val V c r (i 1) * val V c r (i 1) := by
  have e := sums_at V c (i 1) 7
  have hr : ∀ t, t ∈ Finset.range 8 → ∀ r : Fin 512, (rows V c (pt t) : FVec Ideal S512x1024 .bf16) (ix2 r (i 1))
      = val V c ⟨(t * 512 + r.val) % 4096, Nat.mod_lt _ (by decide)⟩ (i 1) := fun t ht r => by
    have ht' := Finset.mem_range.mp ht
    have hp : (pt t).val = t := Nat.mod_eq_of_lt ht'
    have hlt : (pt t).val * 512 + r.val < 4096 := by omega
    rw [rows_at V c (pt t) r (i 1) hlt]
    refine congrArg (val V c · (i 1)) (Fin.ext ?_)
    show (pt t).val * 512 + r.val = (t * 512 + r.val) % 4096
    omega
  rw [Finset.sum_congr rfl fun t ht => Finset.sum_congr rfl fun r _ => hr t ht r,
    Finset.sum_congr rfl fun t ht => Finset.sum_congr rfl fun r _ => congrArg (fun x => x * x) (hr t ht r),
    total fun r => val V c r (i 1), total fun r => val V c r (i 1) * val V c r (i 1)] at e
  have hi : (i 0).val < 2 := (i 0).isLt
  by_cases h0 : (i 0).val = 0
  · rw [if_pos h0]
    refine Eq.trans (congrArg _ ?_) e.1
    funext a
    match a with
    | 0 => exact Fin.ext h0
    | 1 => rfl
  · rw [if_neg h0]
    refine Eq.trans (congrArg _ ?_) e.2
    funext a
    match a with
    | 0 => exact Fin.ext (by show (i 0).val = 1; omega)
    | 1 => rfl

/-- The layer's column sums after the call: row 0 of the entries, row 1 of their squares. -/
theorem final_sums : (dat V c).arrAt 7 cfg2.N
    = (fun i => if (i 0).val = 0 then ∑ r : Fin 4096, val V c r (i 1) else ∑ r : Fin 4096, val V c r (i 1) * val V c r (i 1) : FVec Ideal S2x1024 .f32) := by
  refine (dat V c).arrAt_eq_of_after_last 7 (pt 7) (by decide +kernel) _ fun j => ?_
  blk_simp
  rw [after_7]
  exact sums_of V c j

end Cert.KernelIdeal.Layer2

end
-- ==== Proof.Value.Out3.lean ====
/- The third dense layer's call over the extended reals: its rows and its column sums after the call, from the arrays it
   is entered with. -/
module

public import proofs.«01_k».proof.Proof.KernelIdeal.Data3
public import proofs.«01_k».proof.Proof.Value.Pays

@[expose] public section

set_option maxRecDepth 16384

noncomputable section

namespace Cert.KernelIdeal.Layer3

open Cert.KernelIdeal Cert.KernelIdeal.Gen Cert.KernelIdeal.Pays
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx : ∀ t : Fin cfg3.N, win3_0.index t = ![t.val, 0] ∧ win3_1.index t = ![0, 0] ∧ win3_2.index t = ![0, 0] ∧ win3_3.index t = ![0, 0]
    ∧ win3_4.index t = ![0, 0] ∧ win3_5.index t = ![0, 0] ∧ win3_6.index t = ![t.val, 0] ∧ win3_7.index t = ![0, 0] :=
  (by decide +kernel : ∀ t : Fin grid3.N, _)

/-- The layer's entry `(r, j)`, from its operands. -/
def entry (h : FVec Ideal S4096x1024 .bf16) (st : FVec Ideal S2x1024 .f32) (g be : FVec Ideal S1x1024 .f32)
    (W : FVec Ideal S1024x512 .bf16) (b : FVec Ideal S1x512 .f32) (r : Fin 4096) (j : Fin 512) : EReal :=
  max (dense (fun k => affine (st (ix2 0 k)) (st (ix2 1 k)) (g (ix2 0 k)) (be (ix2 0 k)) (h (ix2 r k))) (fun k => W (ix2 k j)) (b (ix2 0 j))) 0

abbrev val (r : Fin 4096) (j : Fin 512) : EReal :=
  entry (V c main_v17_0) (V c main_v17_1) (V c main_v18) (V c main_v19) (V c main_v7) (V c main_v20) r j

theorem row0_at (x : FVec Ideal S2x1024 .f32) (k : Fin 1024) : (row0 (F := Ideal) x : FVec Ideal S1x1024 .f32) (ix2 0 k) = x (ix2 0 k) := by
  refine congrArg x ?_
  funext a
  match a with
  | 0 => rfl
  | 1 => exact Fin.ext (by show 0 + 1 * k.val = k.val; omega)
theorem row1_at (x : FVec Ideal S2x1024 .f32) (k : Fin 1024) : (row1 (F := Ideal) x : FVec Ideal S1x1024 .f32) (ix2 0 k) = x (ix2 1 k) := by
  refine congrArg x ?_
  funext a
  match a with
  | 0 => rfl
  | 1 => exact Fin.ext (by show 0 + 1 * k.val = k.val; omega)

/-- One step's entry, the two rows of sums read off their array. -/
theorem pay_at (st : FVec Ideal S2x1024 .f32) (g be : FVec Ideal S1x1024 .f32) (h : FVec Ideal S512x1024 .bf16) (W : FVec Ideal S1024x512 .bf16)
    (b : FVec Ideal S1x512 .f32) (r : Fin 512) (j : Fin 512) :
    k3_pay3 (F := Ideal) (row0 (F := Ideal) st) (row1 (F := Ideal) st) g be h W b (ix2 r j)
      = max (dense (fun k => affine (st (ix2 0 k)) (st (ix2 1 k)) (g (ix2 0 k)) (be (ix2 0 k)) (h (ix2 r k))) (fun k => W (ix2 k j)) (b (ix2 0 j))) 0 := by
  rw [rows3]
  refine congrArg (max · (0 : EReal)) (congrArg (· + (b (ix2 0 j) : EReal)) (Finset.sum_congr rfl fun k _ => ?_))
  exact congrArg₂ (fun a q => affine a q (g (ix2 0 k)) (be (ix2 0 k)) (h (ix2 r k)) * (W (ix2 k j) : EReal)) (row0_at st k) (row1_at st k)

theorem blk0_at (t : Fin cfg3.N) (r : Fin 512) (k : Fin 1024) (h : t.val * 512 + r.val < 4096) :
    (blk V c 0 t : FVec Ideal S512x1024 .bf16) (ix2 r k) = (V c main_v17_0 : FVec Ideal S4096x1024 .bf16) (ix2 ⟨t.val * 512 + r.val, h⟩ k) := by
  blk_ext [blk, idx t]
theorem blk1 (t : Fin cfg3.N) : blk V c 1 t = V c main_v17_1 := by blk_ext! [blk, idx t]
theorem blk2 (t : Fin cfg3.N) : blk V c 2 t = V c main_v18 := by blk_ext! [blk, idx t]
theorem blk3 (t : Fin cfg3.N) : blk V c 3 t = V c main_v19 := by blk_ext! [blk, idx t]
theorem blk4 (t : Fin cfg3.N) : blk V c 4 t = V c main_v7 := by blk_ext! [blk, idx t]
theorem blk5 (t : Fin cfg3.N) : blk V c 5 t = V c main_v20 := by blk_ext! [blk, idx t]

theorem rows_at (t : Fin cfg3.N) (r : Fin 512) (j : Fin 512) (h : t.val * 512 + r.val < 4096) :
    (rows V c t : FVec Ideal S512x512 .bf16) (ix2 r j) = val V c ⟨t.val * 512 + r.val, h⟩ j := by
  unfold rows
  rw [blk1, blk2, blk3, blk4, blk5]
  refine (pay_at _ _ _ _ _ _ r j).trans ?_
  simp only [blk0_at V c t r _ h]
  rfl

theorem rows_of (t : Fin cfg3.N) (y : S512x512.Idx) (i : S4096x512.Idx) (h₀ : (i 0).val = t.val * 512 + (y 0).val) (h₁ : (i 1).val = (y 1).val) :
    (rows V c t : FVec Ideal S512x512 .bf16) y = val V c (i 0) (i 1) := by
  have h : t.val * 512 + (y 0).val < 4096 := h₀ ▸ (i 0).isLt
  have e := rows_at V c t (y 0) (y 1) h
  refine (Eq.trans ?_ e).trans (congrArg₂ (val V c) (Fin.ext h₀.symm) (Fin.ext h₁.symm))
  refine congrArg (rows V c t : FVec Ideal S512x512 .bf16) ?_
  funext a
  match a with
  | 0 => rfl
  | 1 => rfl

/-- The layer's rows after the call. -/
theorem final_rows : (dat V c).arrAt 6 cfg3.N = (fun i => val V c (i 0) (i 1) : FVec Ideal S4096x512 .bf16) := by
  refine (dat V c).arrAt_eq_of_covers 6 _ (by decide +kernel) fun t _ y => ?_
  blk_simp
  rw [after_6]
  refine rows_of V c t y ((win3_6.blk t).view.emb y) ?_ ?_
  all_goals blk_simp [idx t]

/-- The column sums after point `n`: over the rows of the points up to it. -/
theorem sums_at (j : Fin 512) (n : ℕ) :
    (sums V c n : FVec Ideal S2x512 .f32) (ix2 0 j) = ∑ t ∈ Finset.range (n + 1), ∑ r : Fin 512, (rows V c (pt t) : FVec Ideal S512x512 .bf16) (ix2 r j)
      ∧ (sums V c n : FVec Ideal S2x512 .f32) (ix2 1 j) = ∑ t ∈ Finset.range (n + 1), ∑ r : Fin 512,
          (rows V c (pt t) : FVec Ideal S512x512 .bf16) (ix2 r j) * (rows V c (pt t) : FVec Ideal S512x512 .bf16) (ix2 r j) := by
  induction n with
  | zero =>
    have e := sums3 (rows V c (pt 0)) (k3_pay1 (F := Ideal)) j
    rw [start3, start3, zero_add, zero_add] at e
    rw [zero_add, Finset.sum_range_one, Finset.sum_range_one]
    exact e
  | succ n ih =>
    have e := sums3 (rows V c (pt (n + 1))) (sums V c n) j
    rw [ih.1, ih.2] at e
    rw [Finset.sum_range_succ _ (n + 1), Finset.sum_range_succ _ (n + 1)]
    exact e

theorem total (f : Fin 4096 → EReal) : ∑ t ∈ Finset.range 8, ∑ r : Fin 512, f ⟨(t * 512 + r.val) % 4096, Nat.mod_lt _ (by decide)⟩ = ∑ r : Fin 4096, f r := by
  rw [Finset.sum_range]
  refine Fin.sum_mul_add_congr fun t r hl => ?_
  exact congrArg f (Fin.ext (Nat.mod_eq_of_lt hl))

/-- The column sums at the end, over all the rows. -/
theorem sums_of (i : S2x512.Idx) : (sums V c (pt 7).val : FVec Ideal S2x512 .f32) i
    = if (i 0).val = 0 then ∑ r : Fin 4096, val V c r (i 1) else ∑ r : Fin 4096, val V c r (i 1) * val V c r (i 1) := by
  have e := sums_at V c (i 1) 7
  have hr : ∀ t, t ∈ Finset.range 8 → ∀ r : Fin 512, (rows V c (pt t) : FVec Ideal S512x512 .bf16) (ix2 r (i 1))
      = val V c ⟨(t * 512 + r.val) % 4096, Nat.mod_lt _ (by decide)⟩ (i 1) := fun t ht r => by
    have ht' := Finset.mem_range.mp ht
    have hp : (pt t).val = t := Nat.mod_eq_of_lt ht'
    have hlt : (pt t).val * 512 + r.val < 4096 := by omega
    rw [rows_at V c (pt t) r (i 1) hlt]
    refine congrArg (val V c · (i 1)) (Fin.ext ?_)
    show (pt t).val * 512 + r.val = (t * 512 + r.val) % 4096
    omega
  rw [Finset.sum_congr rfl fun t ht => Finset.sum_congr rfl fun r _ => hr t ht r,
    Finset.sum_congr rfl fun t ht => Finset.sum_congr rfl fun r _ => congrArg (fun x => x * x) (hr t ht r),
    total fun r => val V c r (i 1), total fun r => val V c r (i 1) * val V c r (i 1)] at e
  have hi : (i 0).val < 2 := (i 0).isLt
  by_cases h0 : (i 0).val = 0
  · rw [if_pos h0]
    refine Eq.trans (congrArg _ ?_) e.1
    funext a
    match a with
    | 0 => exact Fin.ext h0
    | 1 => rfl
  · rw [if_neg h0]
    refine Eq.trans (congrArg _ ?_) e.2
    funext a
    match a with
    | 0 => exact Fin.ext (by show (i 0).val = 1; omega)
    | 1 => rfl

/-- The layer's column sums after the call: row 0 of the entries, row 1 of their squares. -/
theorem final_sums : (dat V c).arrAt 7 cfg3.N
    = (fun i => if (i 0).val = 0 then ∑ r : Fin 4096, val V c r (i 1) else ∑ r : Fin 4096, val V c r (i 1) * val V c r (i 1) : FVec Ideal S2x512 .f32) := by
  refine (dat V c).arrAt_eq_of_after_last 7 (pt 7) (by decide +kernel) _ fun j => ?_
  blk_simp
  rw [after_7]
  exact sums_of V c j

end Cert.KernelIdeal.Layer3

end
-- ==== Proof.Value.Out4.lean ====
/- The fourth dense layer's call over the extended reals: its rows after the call, from the arrays it
   is entered with. -/
module

public import proofs.«01_k».proof.Proof.KernelIdeal.Data4
public import proofs.«01_k».proof.Proof.Value.Pays

@[expose] public section

set_option maxRecDepth 16384

noncomputable section

namespace Cert.KernelIdeal.Layer4

open Cert.KernelIdeal Cert.KernelIdeal.Gen Cert.KernelIdeal.Pays
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx : ∀ t : Fin cfg4.N, win4_0.index t = ![t.val, 0] ∧ win4_1.index t = ![0, 0] ∧ win4_2.index t = ![0, 0] ∧ win4_3.index t = ![0, 0]
    ∧ win4_4.index t = ![0, 0] ∧ win4_5.index t = ![0, 0] ∧ win4_6.index t = ![t.val, 0] :=
  (by decide +kernel : ∀ t : Fin grid4.N, _)

/-- The layer's entry `(r, j)`, from its operands. -/
def entry (h : FVec Ideal S4096x512 .bf16) (st : FVec Ideal S2x512 .f32) (g be : FVec Ideal S1x512 .f32)
    (W : FVec Ideal S512x1024 .bf16) (b : FVec Ideal S1x1024 .f32) (r : Fin 4096) (j : Fin 1024) : EReal :=
  (dense (fun k => affine (st (ix2 0 k)) (st (ix2 1 k)) (g (ix2 0 k)) (be (ix2 0 k)) (h (ix2 r k))) (fun k => W (ix2 k j)) (b (ix2 0 j)))

abbrev val (r : Fin 4096) (j : Fin 1024) : EReal :=
  entry (V c main_v21_0) (V c main_v21_1) (V c main_v22) (V c main_v23) (V c main_v9) (V c main_v11) r j

theorem row0_at (x : FVec Ideal S2x512 .f32) (k : Fin 512) : (row0 (F := Ideal) x : FVec Ideal S1x512 .f32) (ix2 0 k) = x (ix2 0 k) := by
  refine congrArg x ?_
  funext a
  match a with
  | 0 => rfl
  | 1 => exact Fin.ext (by show 0 + 1 * k.val = k.val; omega)
theorem row1_at (x : FVec Ideal S2x512 .f32) (k : Fin 512) : (row1 (F := Ideal) x : FVec Ideal S1x512 .f32) (ix2 0 k) = x (ix2 1 k) := by
  refine congrArg x ?_
  funext a
  match a with
  | 0 => rfl
  | 1 => exact Fin.ext (by show 0 + 1 * k.val = k.val; omega)

/-- One step's entry, the two rows of sums read off their array. -/
theorem pay_at (st : FVec Ideal S2x512 .f32) (g be : FVec Ideal S1x512 .f32) (h : FVec Ideal S512x512 .bf16) (W : FVec Ideal S512x1024 .bf16)
    (b : FVec Ideal S1x1024 .f32) (r : Fin 512) (j : Fin 1024) :
    k4_pay1 (F := Ideal) (row0 (F := Ideal) st) (row1 (F := Ideal) st) g be h W b (ix2 r j)
      = (dense (fun k => affine (st (ix2 0 k)) (st (ix2 1 k)) (g (ix2 0 k)) (be (ix2 0 k)) (h (ix2 r k))) (fun k => W (ix2 k j)) (b (ix2 0 j))) := by
  rw [rows4]
  refine congrArg (· + (b (ix2 0 j) : EReal)) (Finset.sum_congr rfl fun k _ => ?_)
  exact congrArg₂ (fun a q => affine a q (g (ix2 0 k)) (be (ix2 0 k)) (h (ix2 r k)) * (W (ix2 k j) : EReal)) (row0_at st k) (row1_at st k)

theorem blk0_at (t : Fin cfg4.N) (r : Fin 512) (k : Fin 512) (h : t.val * 512 + r.val < 4096) :
    (blk V c 0 t : FVec Ideal S512x512 .bf16) (ix2 r k) = (V c main_v21_0 : FVec Ideal S4096x512 .bf16) (ix2 ⟨t.val * 512 + r.val, h⟩ k) := by
  blk_ext [blk, idx t]
theorem blk1 (t : Fin cfg4.N) : blk V c 1 t = V c main_v21_1 := by blk_ext! [blk, idx t]
theorem blk2 (t : Fin cfg4.N) : blk V c 2 t = V c main_v22 := by blk_ext! [blk, idx t]
theorem blk3 (t : Fin cfg4.N) : blk V c 3 t = V c main_v23 := by blk_ext! [blk, idx t]
theorem blk4 (t : Fin cfg4.N) : blk V c 4 t = V c main_v9 := by blk_ext! [blk, idx t]
theorem blk5 (t : Fin cfg4.N) : blk V c 5 t = V c main_v11 := by blk_ext! [blk, idx t]

theorem rows_at (t : Fin cfg4.N) (r : Fin 512) (j : Fin 1024) (h : t.val * 512 + r.val < 4096) :
    (rows V c t : FVec Ideal S512x1024 .f32) (ix2 r j) = val V c ⟨t.val * 512 + r.val, h⟩ j := by
  unfold rows
  rw [blk1, blk2, blk3, blk4, blk5]
  refine (pay_at _ _ _ _ _ _ r j).trans ?_
  simp only [blk0_at V c t r _ h]
  rfl

theorem rows_of (t : Fin cfg4.N) (y : S512x1024.Idx) (i : S4096x1024.Idx) (h₀ : (i 0).val = t.val * 512 + (y 0).val) (h₁ : (i 1).val = (y 1).val) :
    (rows V c t : FVec Ideal S512x1024 .f32) y = val V c (i 0) (i 1) := by
  have h : t.val * 512 + (y 0).val < 4096 := h₀ ▸ (i 0).isLt
  have e := rows_at V c t (y 0) (y 1) h
  refine (Eq.trans ?_ e).trans (congrArg₂ (val V c) (Fin.ext h₀.symm) (Fin.ext h₁.symm))
  refine congrArg (rows V c t : FVec Ideal S512x1024 .f32) ?_
  funext a
  match a with
  | 0 => rfl
  | 1 => rfl

/-- The layer's rows after the call. -/
theorem final_rows : (dat V c).arrAt 6 cfg4.N = (fun i => val V c (i 0) (i 1) : FVec Ideal S4096x1024 .f32) := by
  refine (dat V c).arrAt_eq_of_covers 6 _ (by decide +kernel) fun t _ y => ?_
  blk_simp
  rw [after_6]
  refine rows_of V c t y ((win4_6.blk t).view.emb y) ?_ ?_
  all_goals blk_simp [idx t]

end Cert.KernelIdeal.Layer4

end
-- ==== Proof.Value.Final.lean ====
/- The whole program's result over the extended reals, entry by entry: the four layers' formulas, one on top of the other. -/
module

public import proofs.«01_k».proof.Proof.Value.Reads
public import proofs.«01_k».proof.Proof.Value.Out1
public import proofs.«01_k».proof.Proof.Value.Out2
public import proofs.«01_k».proof.Proof.Value.Out3
public import proofs.«01_k».proof.Proof.Value.Out4

@[expose] public section

set_option maxRecDepth 16384

noncomputable section

namespace Cert.KernelIdeal.Dense

open Cert.KernelIdeal Cert.KernelIdeal.Gen Cert.KernelIdeal.Call Cert.KernelIdeal.Pays
open Idealize.ShloMosaic Idealize.ShloMosaic.TcCoe Idealize.SL.Sem

/-- A dense layer on the columns of `h`, normalized over the rows. -/
def layer {n k : ℕ} (h : Fin 4096 → Fin n → EReal) (g be : Fin n → EReal) (W : Fin n → Fin k → EReal) (b : Fin k → EReal)
    (r : Fin 4096) (j : Fin k) : EReal :=
  dense (fun l => affine (∑ i, h i l) (∑ i, h i l * h i l) (g l) (be l) (h r l)) (fun l => W l j) (b j)

variable (V : Dev nD → Valuation τ sig (Elt Ideal)) (c : Dev nD)

/-! ## The arrays before the first layer, read at their entries -/

abbrev cnt (r : Fin 4096) (v : Fin 1024) : EReal := (vals V c main_v1_0 : FVec Ideal S4194304 .f32) (ix1 ⟨1024 * r.val + v.val, by omega⟩)
abbrev tok (v : Fin 1024) (e : Fin 128) : EReal := if h : v.val < 1000 then (vals V c main_arg3 : FVec Ideal S1000x128 .f32) (ix2 ⟨v.val, h⟩ e) else 0
abbrev mat {a b : ℕ} (x : (⟨2, ![a, b]⟩ : Shape).Idx → EReal) (i : Fin a) (j : Fin b) : EReal := x (ix2 i j)
abbrev vec {a : ℕ} (x : (⟨1, ![a]⟩ : Shape).Idx → EReal) (i : Fin a) : EReal := x (ix1 i)

/-- The first layer's rows. -/
def H₁ (r : Fin 4096) (j : Fin 1024) : EReal :=
  max (dense (feature (fun e => ∑ v : Fin 1024, cnt V c r v * tok V c v e) (max (Ideal.ofBits .f32 0x42800000#32 - cnt V c r 0) 1)
    (mat (vals V c main_v1_1 : FVec Ideal S4096x128 .f32) r) (mat (vals V c main_v1_2 : FVec Ideal S4096x128 .f32) r))
    (fun k => mat (vals V c main_arg6 : FVec Ideal S512x1024 .f32) k j) (vec (vals V c main_arg7 : FVec Ideal S1024 .f32) j)) 0
/-- The second and the third layer's rows. -/
def H₂ (r : Fin 4096) (j : Fin 1024) : EReal :=
  max (layer (H₁ V c) (vec (vals V c main_arg8 : FVec Ideal S1024 .f32)) (vec (vals V c main_arg9 : FVec Ideal S1024 .f32))
    (mat (vals V c main_arg10 : FVec Ideal S1024x1024 .f32)) (vec (vals V c main_arg11 : FVec Ideal S1024 .f32)) r j) 0
def H₃ (r : Fin 4096) (j : Fin 512) : EReal :=
  max (layer (H₂ V c) (vec (vals V c main_arg12 : FVec Ideal S1024 .f32)) (vec (vals V c main_arg13 : FVec Ideal S1024 .f32))
    (mat (vals V c main_arg14 : FVec Ideal S1024x512 .f32)) (vec (vals V c main_arg15 : FVec Ideal S512 .f32)) r j) 0
/-- The result. -/
def H₄ (r : Fin 4096) (j : Fin 1000) : EReal :=
  layer (H₃ V c) (vec (vals V c main_arg16 : FVec Ideal S512 .f32)) (vec (vals V c main_arg17 : FVec Ideal S512 .f32))
    (mat (vals V c main_arg18 : FVec Ideal S512x1000 .f32)) (vec (vals V c main_arg19 : FVec Ideal S1000 .f32)) r j

/-! ## The first layer -/

theorem val₁ (r : Fin 4096) (j : Fin 1024) : Layer1.val (vals (A₁ V)) c r j = H₁ V c r j := by
  unfold Layer1.val
  rw [a_v2, a_v4, a_v5, a_v12, show vals (A₁ V) c main_v1_1 = vals V c main_v1_1 from A₁_of V c (by decide),
    show vals (A₁ V) c main_v1_2 = vals V c main_v1_2 from A₁_of V c (by decide)]
  unfold Layer1.entry
  simp only [matrix_at, padded_rows_at, row1024_at]
  rfl

theorem b₁_rows : vals (B₁ V) c main_v13_0 = (fun i => H₁ V c (i 0) (i 1) : FVec Ideal S4096x1024 .bf16) :=
  (Pipeline.withArrays_arr spec1 launch1.win.arr_inj c (A₁ V c) ((Layer1.dat (vals (A₁ V)) c).arrAt · cfg1.N) 6).trans
    ((Layer1.final_rows (vals (A₁ V)) c).trans (funext fun i => val₁ V c (i 0) (i 1)))
theorem b₁_sums : vals (B₁ V) c main_v13_1
    = (fun i => if (i 0).val = 0 then ∑ r : Fin 4096, H₁ V c r (i 1) else ∑ r : Fin 4096, H₁ V c r (i 1) * H₁ V c r (i 1) : FVec Ideal S2x1024 .f32) := by
  refine (Pipeline.withArrays_arr spec1 launch1.win.arr_inj c (A₁ V c) ((Layer1.dat (vals (A₁ V)) c).arrAt · cfg1.N) 7).trans
    ((Layer1.final_sums (vals (A₁ V)) c).trans ?_)
  rw [show Layer1.val (vals (A₁ V)) c = H₁ V c from funext fun r => funext fun j => val₁ V c r j]

/-! ## The second layer -/

theorem val₂ (r : Fin 4096) (j : Fin 1024) : Layer2.val (vals (A₂ V)) c r j = H₂ V c r j := by
  unfold Layer2.val
  rw [a_v14, a_v15, a_v16, show vals (A₂ V) c main_v13_0 = vals (B₁ V) c main_v13_0 from A₂_of V c (by decide),
    show vals (A₂ V) c main_v13_1 = vals (B₁ V) c main_v13_1 from A₂_of V c (by decide), b₁_rows, b₁_sums,
    show vals (A₂ V) c main_v6 = vals (A₁ V) c main_v6 from (A₂_of V c (by decide)).trans (B₁_of V c (by decide)), a_v6]
  unfold Layer2.entry
  simp only [row1024_at]
  rfl

theorem b₂_rows : vals (B₂ V) c main_v17_0 = (fun i => H₂ V c (i 0) (i 1) : FVec Ideal S4096x1024 .bf16) :=
  (Pipeline.withArrays_arr spec2 launch2.win.arr_inj c (A₂ V c) ((Layer2.dat (vals (A₂ V)) c).arrAt · cfg2.N) 6).trans
    ((Layer2.final_rows (vals (A₂ V)) c).trans (funext fun i => val₂ V c (i 0) (i 1)))
theorem b₂_sums : vals (B₂ V) c main_v17_1
    = (fun i => if (i 0).val = 0 then ∑ r : Fin 4096, H₂ V c r (i 1) else ∑ r : Fin 4096, H₂ V c r (i 1) * H₂ V c r (i 1) : FVec Ideal S2x1024 .f32) := by
  refine (Pipeline.withArrays_arr spec2 launch2.win.arr_inj c (A₂ V c) ((Layer2.dat (vals (A₂ V)) c).arrAt · cfg2.N) 7).trans
    ((Layer2.final_sums (vals (A₂ V)) c).trans ?_)
  rw [show Layer2.val (vals (A₂ V)) c = H₂ V c from funext fun r => funext fun j => val₂ V c r j]

/-! ## The third layer -/

theorem val₃ (r : Fin 4096) (j : Fin 512) : Layer3.val (vals (A₃ V)) c r j = H₃ V c r j := by
  unfold Layer3.val
  rw [a_v18, a_v19, a_v20, show vals (A₃ V) c main_v17_0 = vals (B₂ V) c main_v17_0 from A₃_of V c (by decide),
    show vals (A₃ V) c main_v17_1 = vals (B₂ V) c main_v17_1 from A₃_of V c (by decide), b₂_rows, b₂_sums,
    show vals (A₃ V) c main_v7 = vals (A₁ V) c main_v7 from (A₃_of V c (by decide)).trans ((B₂_of V c (by decide)).trans
      ((A₂_of V c (by decide)).trans (B₁_of V c (by decide)))), a_v7]
  unfold Layer3.entry
  simp only [row1024_at, row512_at]
  rfl

theorem b₃_rows : vals (B₃ V) c main_v21_0 = (fun i => H₃ V c (i 0) (i 1) : FVec Ideal S4096x512 .bf16) :=
  (Pipeline.withArrays_arr spec3 launch3.win.arr_inj c (A₃ V c) ((Layer3.dat (vals (A₃ V)) c).arrAt · cfg3.N) 6).trans
    ((Layer3.final_rows (vals (A₃ V)) c).trans (funext fun i => val₃ V c (i 0) (i 1)))
theorem b₃_sums : vals (B₃ V) c main_v21_1
    = (fun i => if (i 0).val = 0 then ∑ r : Fin 4096, H₃ V c r (i 1) else ∑ r : Fin 4096, H₃ V c r (i 1) * H₃ V c r (i 1) : FVec Ideal S2x512 .f32) := by
  refine (Pipeline.withArrays_arr spec3 launch3.win.arr_inj c (A₃ V c) ((Layer3.dat (vals (A₃ V)) c).arrAt · cfg3.N) 7).trans
    ((Layer3.final_sums (vals (A₃ V)) c).trans ?_)
  rw [show Layer3.val (vals (A₃ V)) c = H₃ V c from funext fun r => funext fun j => val₃ V c r j]

/-! ## The fourth layer -/

theorem val₄ (r : Fin 4096) (j : Fin 1000) : Layer4.val (vals (A₄ V)) c r ⟨j.val, by omega⟩ = H₄ V c r j := by
  unfold Layer4.val
  rw [a_v22, a_v23, show vals (A₄ V) c main_v21_0 = vals (B₃ V) c main_v21_0 from A₄_of V c (by decide),
    show vals (A₄ V) c main_v21_1 = vals (B₃ V) c main_v21_1 from A₄_of V c (by decide), b₃_rows, b₃_sums,
    show vals (A₄ V) c main_v9 = vals (A₁ V) c main_v9 from (A₄_of V c (by decide)).trans ((B₃_of V c (by decide)).trans ((A₃_of V c (by decide)).trans
      ((B₂_of V c (by decide)).trans ((A₂_of V c (by decide)).trans (B₁_of V c (by decide)))))), a_v9,
    show vals (A₄ V) c main_v11 = vals (A₁ V) c main_v11 from (A₄_of V c (by decide)).trans ((B₃_of V c (by decide)).trans ((A₃_of V c (by decide)).trans
      ((B₂_of V c (by decide)).trans ((A₂_of V c (by decide)).trans (B₁_of V c (by decide)))))), a_v11]
  unfold Layer4.entry
  simp only [padded_columns_at, padded_row_at, row512_at]
  rfl

theorem b₄_rows : vals (B₄ V) c main_v24 = (fun i => Layer4.val (vals (A₄ V)) c (i 0) (i 1) : FVec Ideal S4096x1024 .f32) :=
  (Pipeline.withArrays_arr spec4 launch4.win.arr_inj c (A₄ V c) ((Layer4.dat (vals (A₄ V)) c).arrAt · cfg4.N) 6).trans (Layer4.final_rows (vals (A₄ V)) c)

/-- The program's result. -/
theorem result (r : Fin 4096) (j : Fin 1000) : (vals (done V) c main_v25 : FVec Ideal S4096x1000 .f32) (ix2 r j) = H₄ V c r j := by
  have e : @Eq (FVec Ideal S4096x1000 .f32) (vals (done V) c main_v25)
      (extractStridedSlice S4096x1000 ![0, 0] (show FVec Ideal S4096x1024 .f32 from vals (B₄ V) c main_v24) slices_S4096x1024_S4096x1000_0_0) := by
    unfold vals done
    after_results
    all_goals rfl
  rw [e, b₄_rows, ← val₄]
  refine congrArg₂ (Layer4.val (vals (A₄ V)) c) (Fin.ext ?_) (Fin.ext ?_)
  · show 0 + r.val = r.val
    omega
  · show 0 + j.val = j.val
    omega

end Cert.KernelIdeal.Dense

end
-- ==== Proof.Same.lean ====
/- The rows that the positions and the sides name are the reference's. -/
module

public import proofs.«01_k».proof.Proof.KernelIdeal.Common
public import proofs.«01_k».proof.Proof.Gen.ReferenceIdeal.Run
public import proofs.«01_k».proof.Proof.Take

@[expose] public section

set_option maxRecDepth 16384

noncomputable section

namespace Cert.Same

open Cert.ReferenceIdeal Cert.ReferenceIdeal.Gen
open Cert.KernelIdeal.Call (rows20 rows2 rowOf)
open Idealize.ShloMosaic

/-- The rows that the positions name. -/
theorem positions (w : S20x128.Idx → EReal) (ix : IVec S4096 32) (hix : ∀ i, (ix i).toNat < 20) (nan : S4096x128.Idx → EReal)
    (z m : IVec S4096 32) (hz : ∀ i, z i = 0#32) (lo hi : IVec S4096x1 32) (one : IVec S_ 1) (hlo : ∀ i, lo i = 0#32)
    (hhi : ∀ i, hi i = 19#32) (hone : ∀ i, one i = 1#1) :
    select (broadcastInDim S4096x128 ![0] bcast_S4096_S4096x128_0 (Host.reduce IntOp.andi
        (andi (cmpi .sge (broadcastInDim S4096x1 ![0] bcast_S4096_S4096x1_0 (select (cmpi .slt ix z) (addi ix m) ix)) lo)
          (cmpi .sle (broadcastInDim S4096x1 ![0] bcast_S4096_S4096x1_0 (select (cmpi .slt ix z) (addi ix m) ix)) hi)) one reducesTo_S4096x1_S4096_d1 h_S_))
      (Host.gather gather_S20x128_S4096x1_S4096x128_1_0_n_n_0_1_1128 w
        (broadcastInDim S4096x1 ![0] bcast_S4096_S4096x1_0 (select (cmpi .slt ix z) (addi ix m) ix))) nan
      = rows20 (F := Ideal) w ix := by
  funext j
  have hj : j = ValueIdx.ix2 (j 0) (j 1) := funext fun a => match a with | 0 => rfl | 1 => rfl
  have e := Take.take_row (α := EReal) (nb := 20) (B := 128) (n := 4096) (by decide) gather_S20x128_S4096x1_S4096x128_1_0_n_n_0_1_1128 rfl rfl rfl rfl rfl
    w nan ix z m hz lo hi one hlo hhi hone hix bcast_S4096_S4096x1_0 bcast_S4096_S4096x128_0 reducesTo_S4096x1_S4096_d1 h_S_ (j 0) (j 1)
    ⟨(ix (rowOf j)).toNat % 20, Nat.mod_lt _ (by decide)⟩ (by
      have h : (ValueIdx.ix1 (j 0) : S4096.Idx) = rowOf j := funext fun a => match a with | 0 => rfl
      rw [h]; exact (Nat.mod_eq_of_lt (hix _)).symm)
  refine (congrArg _ hj).trans (e.trans (congrArg w (funext fun a => ?_)))
  match a with
  | 0 => rfl
  | 1 => rfl

/-- The rows that the sides name. -/
theorem sides (w : S2x128.Idx → EReal) (ix : IVec S4096 32) (hix : ∀ i, (ix i).toNat < 2) (nan : S4096x128.Idx → EReal)
    (z m : IVec S4096 32) (hz : ∀ i, z i = 0#32) (lo hi : IVec S4096x1 32) (one : IVec S_ 1) (hlo : ∀ i, lo i = 0#32)
    (hhi : ∀ i, hi i = 1#32) (hone : ∀ i, one i = 1#1) :
    select (broadcastInDim S4096x128 ![0] bcast_S4096_S4096x128_0 (Host.reduce IntOp.andi
        (andi (cmpi .sge (broadcastInDim S4096x1 ![0] bcast_S4096_S4096x1_0 (select (cmpi .slt ix z) (addi ix m) ix)) lo)
          (cmpi .sle (broadcastInDim S4096x1 ![0] bcast_S4096_S4096x1_0 (select (cmpi .slt ix z) (addi ix m) ix)) hi)) one reducesTo_S4096x1_S4096_d1 h_S_))
      (Host.gather gather_S2x128_S4096x1_S4096x128_1_0_n_n_0_1_1128 w
        (broadcastInDim S4096x1 ![0] bcast_S4096_S4096x1_0 (select (cmpi .slt ix z) (addi ix m) ix))) nan
      = rows2 (F := Ideal) w ix := by
  funext j
  have hj : j = ValueIdx.ix2 (j 0) (j 1) := funext fun a => match a with | 0 => rfl | 1 => rfl
  have e := Take.take_row (α := EReal) (nb := 2) (B := 128) (n := 4096) (by decide) gather_S2x128_S4096x1_S4096x128_1_0_n_n_0_1_1128 rfl rfl rfl rfl rfl
    w nan ix z m hz lo hi one hlo hhi hone hix bcast_S4096_S4096x1_0 bcast_S4096_S4096x128_0 reducesTo_S4096x1_S4096_d1 h_S_ (j 0) (j 1)
    ⟨(ix (rowOf j)).toNat % 2, Nat.mod_lt _ (by decide)⟩ (by
      have h : (ValueIdx.ix1 (j 0) : S4096.Idx) = rowOf j := funext fun a => match a with | 0 => rfl
      rw [h]; exact (Nat.mod_eq_of_lt (hix _)).symm)
  refine (congrArg _ hj).trans (e.trans (congrArg w (funext fun a => ?_)))
  match a with
  | 0 => rfl
  | 1 => rfl

/-- A row of the names' table, for every name of every row of names: where the names hold `b` at `(c, l)`, entry
    `(c, l, y)` of the result is the table's entry `(b, y)`. -/
theorem gather_names {α : Type} (x : S1000x128.Idx → α) (ix : IVec S4096x50x1 32) (c : Fin 4096) (l : Fin 50) (y : Fin 128) (b : Fin 1000)
    (hb : ix (ix3 c l (0 : Fin 1)) = BitVec.ofNat 32 b.val) :
    Host.gather gather_S1000x128_S4096x50x1_S4096x50x128_2_0_n_n_0_2_1128 x ix (ix3 c l y) = x (ix2 b y) := by
  unfold Host.gather
  refine congrArg x (funext fun a => Fin.ext ?_)
  match a with
  | ⟨0, _⟩ =>
    show GatherDims.start _ (ix3 c l y) ix 0 + GatherDims.batchCoord _ (ix3 c l y) 0 + GatherDims.offCoord _ (ix3 c l y) 0 = b.val
    rw [GatherDims.batchCoord_eq_zero _ _ _ (by decide), GatherDims.offCoord_eq_zero _ _ _ (by decide)]
    simp only [Nat.add_zero]
    unfold GatherDims.start
    rw [dif_pos (by decide)]
    have hs : GatherDims.siIdx gather_S1000x128_S4096x50x1_S4096x50x128_2_0_n_n_0_2_1128 (ix3 c l y) ⟨0, by decide⟩ = ix3 c l (0 : Fin 1) := by
      funext b'
      match b' with
      | ⟨0, _⟩ => rfl
      | ⟨1, _⟩ => rfl
      | ⟨2, _⟩ => rfl
    have hbl := b.isLt
    refine (congrArg (fun q => min (ix q).toInt.toNat (1000 - 1)) hs).trans ?_
    rw [hb, StableHlo.Predicate.toInt_ofNat_small _ (by omega)]
    show min ((b.val : Int)).toNat (1000 - 1) = b.val
    omega
  | ⟨1, _⟩ =>
    show GatherDims.start _ (ix3 c l y) ix 1 + GatherDims.batchCoord _ (ix3 c l y) 1 + GatherDims.offCoord _ (ix3 c l y) 1 = y.val
    rw [GatherDims.batchCoord_eq_zero _ _ _ (by decide), Nat.add_zero]
    unfold GatherDims.start GatherDims.offCoord
    rw [dif_neg (by decide), dif_pos (by decide), Nat.zero_add]
    rfl

/-- The rows that the names name. -/
theorem names (w : S1000x128.Idx → EReal) (ix : IVec S4096x50 32) (hix : ∀ i, (ix i).toNat < 1000) (nan : S4096x50x128.Idx → EReal)
    (z m : IVec S4096x50 32) (hz : ∀ i, z i = 0#32) (lo hi : IVec S4096x50x1 32) (one : IVec S_ 1) (hlo : ∀ i, lo i = 0#32)
    (hhi : ∀ i, hi i = 999#32) (hone : ∀ i, one i = 1#1) (c : Fin 4096) (l : Fin 50) (y : Fin 128) :
    select (broadcastInDim S4096x50x128 ![0, 1] bcast_S4096x50_S4096x50x128_0_1 (Host.reduce IntOp.andi
        (andi (cmpi .sge (broadcastInDim S4096x50x1 ![0, 1] bcast_S4096x50_S4096x50x1_0_1 (select (cmpi .slt ix z) (addi ix m) ix)) lo)
          (cmpi .sle (broadcastInDim S4096x50x1 ![0, 1] bcast_S4096x50_S4096x50x1_0_1 (select (cmpi .slt ix z) (addi ix m) ix)) hi)) one reducesTo_S4096x50x1_S4096x50_d2 h_S_))
      (Host.gather gather_S1000x128_S4096x50x1_S4096x50x128_2_0_n_n_0_2_1128 w
        (broadcastInDim S4096x50x1 ![0, 1] bcast_S4096x50_S4096x50x1_0_1 (select (cmpi .slt ix z) (addi ix m) ix))) nan (ix3 c l y)
      = w (ix2 ⟨(ix (ix2 c l)).toNat, hix _⟩ y) := by
  rw [Take.not_wrapped ix z m hz (fun i => (hix i).trans (by decide)),
    Take.all_in (n := 1000) (by decide) (broadcastInDim S4096x50x1 ![0, 1] bcast_S4096x50_S4096x50x1_0_1 ix) lo hi one hlo hhi hone (fun i => hix _)
      reducesTo_S4096x50x1_S4096x50_d2 h_S_]
  refine Eq.trans (if_pos (e := nan (ix3 c l y)) (show (1#1 : BitVec 1) = 1#1 from rfl)) (gather_names w _ c l y ⟨(ix (ix2 c l)).toNat, hix _⟩ ?_)
  have h : broadcastInDim S4096x50x1 ![0, 1] bcast_S4096x50_S4096x50x1_0_1 ix (ix3 c l (0 : Fin 1)) = ix (ix2 c l) := by pointwise
  rw [h]
  exact BitVec.eq_of_toNat_eq (by rw [BitVec.toNat_ofNat, Nat.mod_eq_of_lt]; exact (ix (ix2 c l)).isLt)

end Cert.Same

end
-- ==== Proof.Value.Ref.lean ====
/- The reference's result, read at one entry. -/
module

public import proofs.«01_k».proof.Proof.Gen.ReferenceIdeal.Run
public import proofs.«01_k».proof.Proof.Value.Pays
public import proofs.«01_k».proof.Proof.Same
public import proofs.«01_k».proof.Proof.Value.Consts
public import Idealize.ShloMosaic.Lib.Pointwise

@[expose] public section

set_option maxRecDepth 16384

noncomputable section

namespace Cert.ReferenceIdeal.Reads

open Cert.ReferenceIdeal Cert.ReferenceIdeal.Gen Cert.ReferenceIdeal.Value
open Cert.KernelIdeal.Pays (dense feature)
open Idealize.ShloMosaic Idealize.ShloMosaic.TcCoe

/-- The number of rows. -/
abbrev count : EReal := Ideal.ofBits .f32 0x45800000#32

theorem count_eq : count = ((4096 : ℝ) : EReal) := by
  exact Cert.Consts.rows

theorem sub_zero_word : count - FloatOps.sitofp (F := Ideal) .f32 (0#32 : BitVec 32) = count := by
  rw [show (FloatOps.sitofp (F := Ideal) .f32 (0#32 : BitVec 32) : EReal) = 0 from by
    show ((((0#32 : BitVec 32).toInt : ℤ) : ℝ) : EReal) = 0
    simp, sub_zero]

theorem count_pos : 0 < count := by
  rw [count_eq]
  exact_mod_cast (by norm_num : (0 : ℝ) < 4096)

/-- A column's mean, its variance, and an entry normalized over its column. -/
def avg (h : Fin 4096 → EReal) : EReal := Ideal.div (∑ i, h i) count
def spread (h : Fin 4096 → EReal) : EReal := Ideal.div (∑ i, (h i - avg h) * (h i - avg h)) count
def normal (h : Fin 4096 → EReal) (g be x : EReal) : EReal :=
  Ideal.div (g * (x - avg h)) (Ideal.sqrt (spread h + Ideal.ofBits .f32 0x3727C5AC#32)) + be

/-- A dense layer on the columns of `h`, normalized over the rows. -/
def layer {n k : ℕ} (h : Fin 4096 → Fin n → EReal) (g be : Fin n → EReal) (W : Fin n → Fin k → EReal) (b : Fin k → EReal)
    (r : Fin 4096) (j : Fin k) : EReal :=
  dense (fun l => normal (fun i => h i l) (g l) (be l) (h r l)) (fun l => W l j) (b j)

variable (V : Valuation τ sig (Elt Ideal))

theorem v43_at (X : FVec Ideal S4096x1024 .f32) (hX : res_main_v19 V = X) (r : Fin 4096) (j : Fin 1024) :
    @Eq EReal (res_main_v43 V (ix2 r j)) (max (layer (fun i l => X (ix2 i l)) (fun l => V (Proc.devRef .tc main_arg8) (ix1 l))
      (fun l => V (Proc.devRef .tc main_arg9) (ix1 l)) (fun l k => V (Proc.devRef .tc main_arg10) (ix2 l k))
      (fun k => V (Proc.devRef .tc main_arg11) (ix1 k)) r j) 0) := by
  unfold res_main_v43 res_main_call5_v5 res_main_call5_v8
  rw [hX]
  pointwise
  rw [sub_zero_word]
  simp only [if_pos count_pos]
  rfl

theorem v67_at (X : FVec Ideal S4096x1024 .f32) (hX : res_main_v43 V = X) (r : Fin 4096) (j : Fin 512) :
    @Eq EReal (res_main_v67 V (ix2 r j)) (max (layer (fun i l => X (ix2 i l)) (fun l => V (Proc.devRef .tc main_arg12) (ix1 l))
      (fun l => V (Proc.devRef .tc main_arg13) (ix1 l)) (fun l k => V (Proc.devRef .tc main_arg14) (ix2 l k))
      (fun k => V (Proc.devRef .tc main_arg15) (ix1 k)) r j) 0) := by
  unfold res_main_v67 res_main_call7_v5 res_main_call7_v8
  rw [hX]
  pointwise
  rw [sub_zero_word]
  simp only [if_pos count_pos]
  rfl

theorem v19_at (S : FVec Ideal S4096x128 .f32) (hS : res_main_v7 V = S)
    (h₁ : ∀ i, ((V (Proc.devRef .tc main_arg1) : IVec S4096 32) i).toNat < 20) (h₂ : ∀ i, ((V (Proc.devRef .tc main_arg2) : IVec S4096 32) i).toNat < 2)
    (r : Fin 4096) (j : Fin 1024) :
    @Eq EReal (res_main_v19 V (ix2 r j)) (max (dense (feature (fun e => S (ix2 r e)) (max (Ideal.ofBits .f32 0x3F800000#32)
        (∑ l : Fin 50, FloatOps.uitofp (F := Ideal) .f32 (IntOp.cmpi .ne (V (Proc.devRef .tc main_arg0) (ix2 r l)) 0#32)))
        (fun e => Cert.KernelIdeal.Call.rows20 (F := Ideal) (V (Proc.devRef .tc main_arg4)) (V (Proc.devRef .tc main_arg1)) (ix2 r e))
        (fun e => Cert.KernelIdeal.Call.rows2 (F := Ideal) (V (Proc.devRef .tc main_arg5)) (V (Proc.devRef .tc main_arg2)) (ix2 r e)))
      (fun k => V (Proc.devRef .tc main_arg6) (ix2 k j)) (V (Proc.devRef .tc main_arg7) (ix1 j))) 0) := by
  unfold res_main_v19 res_main_call2_v5 res_main_call3_v5 res_main_v4
  rw [hS, Same.positions _ _ h₁, Same.sides _ _ h₂]
  · pointwise
    simp only [id, constant, Ideal.ofBits_def, Ideal.ofBits_one_f32]
    rfl
  all_goals (intro i; rfl)

theorem v7_at (h₀ : ∀ i, ((V (Proc.devRef .tc main_arg0) : IVec S4096x50 32) i).toNat < 1000) (r : Fin 4096) (e : Fin 128) :
    @Eq EReal (res_main_v7 V (ix2 r e)) (∑ l : Fin 50, (show FVec Ideal S1000x128 .f32 from V (Proc.devRef .tc main_arg3)) (ix2 ⟨(V (Proc.devRef .tc main_arg0) (ix2 r l)).toNat, h₀ _⟩ e)
  * FloatOps.uitofp (F := Ideal) .f32 (IntOp.cmpi .ne (V (Proc.devRef .tc main_arg0) (ix2 r l)) 0#32)) := by
  unfold res_main_v7 res_main_v4 res_main_call0_v5
  generalize hT : select (broadcastInDim S4096x50x128 _ bcast_S4096x50_S4096x50x128_0_1 _) _ _ = T
  have hT' : ∀ l, T (ix3 r l e) = (show FVec Ideal S1000x128 .f32 from V (Proc.devRef .tc main_arg3)) (ix2 ⟨(V (Proc.devRef .tc main_arg0) (ix2 r l)).toNat, h₀ _⟩ e) := by
    intro l
    rw [← hT]
    refine Same.names _ _ h₀ _ _ _ ?_ _ _ _ ?_ ?_ ?_ r l e
    all_goals (intro i; rfl)
  pointwise
  exact Finset.sum_congr rfl fun l _ => congrArg (· * _) (hT' l)

theorem out_at (X : FVec Ideal S4096x512 .f32) (hX : res_main_v67 V = X) (r : Fin 4096) (j : Fin 1000) :
    @Eq EReal (val2 V (Proc.devRef .tc main_v90) (ix2 r j)) (layer (fun i l => X (ix2 i l)) (fun l => V (Proc.devRef .tc main_arg16) (ix1 l))
      (fun l => V (Proc.devRef .tc main_arg17) (ix1 l)) (fun l k => V (Proc.devRef .tc main_arg18) (ix2 l k))
      (fun k => V (Proc.devRef .tc main_arg19) (ix1 k)) r j) := by
  rw [val2_main_v90]
  unfold res_main_call9_v5 res_main_call9_v8
  rw [hX]
  pointwise
  rw [sub_zero_word]
  simp only [if_pos count_pos]
  rfl

end Cert.ReferenceIdeal.Reads

end
-- ==== Proof.Value.Norm.lean ====
/- The two ways of normalizing a column agree where the column and its weight are real numbers: an entry times the column's
   factor plus the column's offset, and the weighted distance to the mean over the standard deviation, plus the shift. -/
module

public import proofs.«01_k».proof.Proof.Value.Ref

@[expose] public section

noncomputable section

namespace Cert.Norm

open Cert.KernelIdeal.Pays (dense affine factor mean feature)
open Cert.ReferenceIdeal.Reads (avg spread normal)
open Idealize.ShloMosaic

/-- A real number. -/
abbrev IsReal (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max_zero {x : EReal} (hx : IsReal x) : IsReal (max x 0) := by
  rcases max_choice x 0 with h | h <;> rw [h]
  · exact hx
  · exact ⟨0, rfl⟩

theorem IsReal.dense {n : ℕ} {x w : Fin n → EReal} {b : EReal} (hx : ∀ k, IsReal (x k)) (hw : ∀ k, IsReal (w k)) (hb : IsReal b) :
    IsReal (dense x w b) :=
  (IsReal.sum fun k => (hx k).mul (hw k)).add hb

/-- The variance as the mean of the squares less the square of the mean. -/
theorem variance (h : Fin 4096 → ℝ) :
    (∑ i, h i * h i) * (1 / 4096) - ((∑ i, h i) * (1 / 4096)) * ((∑ i, h i) * (1 / 4096))
      = (∑ i, (h i - (∑ k, h k) * (1 / 4096)) * (h i - (∑ k, h k) * (1 / 4096))) * (1 / 4096) := by
  generalize hs : (∑ i, h i) = s
  have e : (∑ i, (h i - s * (1 / 4096)) * (h i - s * (1 / 4096)))
      = (∑ i, h i * h i) - 2 * (s * (1 / 4096)) * (∑ i, h i) + 4096 * ((s * (1 / 4096)) * (s * (1 / 4096))) := by
    have : ∀ i, (h i - s * (1 / 4096)) * (h i - s * (1 / 4096)) = h i * h i - 2 * (s * (1 / 4096)) * h i + (s * (1 / 4096)) * (s * (1 / 4096)) := fun i => by ring
    rw [Finset.sum_congr rfl fun i _ => this i, Finset.sum_add_distrib, Finset.sum_sub_distrib, ← Finset.mul_sum, Finset.sum_const,
      Finset.card_univ, Fintype.card_fin, nsmul_eq_mul]
    norm_num
  rw [e, hs]
  ring

/-- Division by the number of rows is a product with one part of it. -/
theorem div_rows (x : ℝ) : Ideal.div (x : EReal) (Ideal.ofBits .f32 0x45800000#32) = ((x * (1 / 4096) : ℝ) : EReal) := by
  rw [Consts.rows, Ideal.div_coe (by norm_num), ← EReal.coe_mul]

/-- A column of real numbers has a real mean and a positive real deviation, the same in the two ways of finding them. -/
theorem column (h : Fin 4096 → ℝ) : ∃ mu d : ℝ, 0 < d ∧ avg (fun i => (h i : EReal)) = mu
    ∧ Ideal.sqrt (spread (fun i => (h i : EReal)) + Ideal.ofBits .f32 0x3727C5AC#32) = d ∧ mean (∑ i, (h i : EReal)) = mu
    ∧ ∀ g : ℝ, factor (∑ i, (h i : EReal)) (∑ i, (h i : EReal) * (h i : EReal)) g = ((g * d⁻¹ : ℝ) : EReal) := by
  have hv := variance h
  have hs := coe_sum Finset.univ h
  have hq : (∑ i, (h i : EReal) * (h i : EReal)) = ((∑ i, h i * h i : ℝ) : EReal) := by
    rw [coe_sum]
    exact Finset.sum_congr rfl fun i _ => (EReal.coe_mul _ _).symm
  have ha : avg (fun i => (h i : EReal)) = (((∑ i, h i) * (1 / 4096) : ℝ) : EReal) := by
    unfold avg
    rw [← hs]
    exact div_rows _
  have hd : spread (fun i => (h i : EReal))
      = (((∑ i, (h i - (∑ k, h k) * (1 / 4096)) * (h i - (∑ k, h k) * (1 / 4096))) * (1 / 4096) : ℝ) : EReal) := by
    unfold spread
    rw [ha, ← div_rows (∑ i, (h i - (∑ k, h k) * (1 / 4096)) * (h i - (∑ k, h k) * (1 / 4096))), coe_sum]
    simp only [EReal.coe_mul, EReal.coe_sub]
  have hn : 0 ≤ (∑ i, (h i - (∑ k, h k) * (1 / 4096)) * (h i - (∑ k, h k) * (1 / 4096))) * (1 / 4096) :=
    mul_nonneg (Finset.sum_nonneg fun i _ => mul_self_nonneg _) (by norm_num)
  have hm : mean (∑ i, (h i : EReal)) = (((∑ i, h i) * (1 / 4096) : ℝ) : EReal) := by
    unfold mean
    rw [← hs, Consts.part, ← EReal.coe_mul]
  generalize (∑ i, h i) * (1 / 4096) = mu at *
  generalize (∑ i, (h i - mu) * (h i - mu)) * (1 / 4096) = v at *
  have hp : 0 < v + 10995116 / 1099511627776 := by positivity
  refine ⟨mu, Real.sqrt (v + 10995116 / 1099511627776), Real.sqrt_pos.2 hp, ha, ?_, hm, fun g => ?_⟩
  · rw [hd, Consts.small, ← EReal.coe_add, Ideal.sqrt_coe, if_neg (not_lt.2 hp.le)]
  · unfold factor
    rw [hm, hq, Consts.part, Consts.small, ← EReal.coe_mul, ← EReal.coe_mul, ← EReal.coe_sub, hv, ← EReal.coe_add, Ideal.rsqrt_coe,
      if_neg (not_lt.2 hp.le), if_neg hp.ne', ← EReal.coe_mul]

/-- One entry normalized in the two ways. -/
theorem affine_eq_normal (h : Fin 4096 → ℝ) (g : ℝ) (be : EReal) (r : Fin 4096) :
    affine (∑ i, (h i : EReal)) (∑ i, (h i : EReal) * (h i : EReal)) g be (h r) = normal (fun i => (h i : EReal)) g be (h r) := by
  obtain ⟨mu, d, hp, ha, hd, hm, hf⟩ := column h
  unfold affine normal
  rw [hf, hm, ha, hd, Ideal.div_coe hp.ne', ← EReal.coe_sub, ← EReal.coe_mul,
    ← EReal.coe_mul, ← EReal.coe_mul, ← EReal.coe_mul, sub_eq_add_neg, ← EReal.coe_neg, add_comm be, ← add_assoc, ← EReal.coe_add]
  refine congrArg (fun x : ℝ => (x : EReal) + be) ?_
  field_simp
  ring

/-- A normalized layer in the two ways. -/
theorem layer_eq {n k : ℕ} (h : Fin 4096 → Fin n → EReal) (g be : Fin n → EReal) (W : Fin n → Fin k → EReal) (b : Fin k → EReal)
    (hh : ∀ i l, IsReal (h i l)) (hg : ∀ l, IsReal (g l)) (r : Fin 4096) (j : Fin k) :
    dense (fun l => affine (∑ i, h i l) (∑ i, h i l * h i l) (g l) (be l) (h r l)) (fun l => W l j) (b j)
      = Cert.ReferenceIdeal.Reads.layer h g be W b r j := by
  unfold Cert.ReferenceIdeal.Reads.layer
  refine congrArg (fun x => dense x _ _) (funext fun l => ?_)
  choose h' hh' using fun i => hh i l
  obtain ⟨g', hg'⟩ := hg l
  have e := affine_eq_normal h' g' (be l) r
  rw [hg', hh' r, show (fun i => h i l) = fun i => (h' i : EReal) from funext hh',
    Finset.sum_congr rfl fun i _ => show h i l * h i l = (h' i : EReal) * (h' i : EReal) by rw [hh' i]]
  exact e

/-- A normalized entry is a real number where all it is made of is. -/
theorem IsReal.normal {h : Fin 4096 → EReal} {g be : EReal} (hh : ∀ i, IsReal (h i)) (hg : IsReal g) (hb : IsReal be) (r : Fin 4096) :
    IsReal (normal h g be (h r)) := by
  choose h' hh' using hh
  obtain ⟨g', rfl⟩ := hg
  obtain ⟨mu, d, hp, ha, hd, -, -⟩ := column h'
  rw [hh' r, show h = fun i => (h' i : EReal) from funext hh']
  unfold Cert.ReferenceIdeal.Reads.normal
  rw [ha, hd, Ideal.div_coe hp.ne', ← EReal.coe_sub, ← EReal.coe_mul, ← EReal.coe_mul]
  exact IsReal.add ⟨_, rfl⟩ hb

/-- A normalized layer's entry is a real number where all it is made of is. -/
theorem IsReal.layer {n k : ℕ} {h : Fin 4096 → Fin n → EReal} {g be : Fin n → EReal} {W : Fin n → Fin k → EReal} {b : Fin k → EReal}
    (hh : ∀ i l, IsReal (h i l)) (hg : ∀ l, IsReal (g l)) (hbe : ∀ l, IsReal (be l)) (hW : ∀ l j, IsReal (W l j)) (hb : ∀ j, IsReal (b j))
    (r : Fin 4096) (j : Fin k) : IsReal (Cert.ReferenceIdeal.Reads.layer h g be W b r j) :=
  IsReal.dense (fun l => IsReal.normal (fun i => hh i l) (hg l) (hbe l) r) (fun l => hW l j) (hb j)

/-- The first layer's input is made of real numbers where the row's vectors are. -/
theorem IsReal.feature {s p q : Fin 128 → EReal} {n : ℝ} (hs : ∀ e, IsReal (s e)) (hn : n ≠ 0) (hp : ∀ e, IsReal (p e)) (hq : ∀ e, IsReal (q e))
    (k : Fin 512) : IsReal (feature s n p q k) := by
  unfold Cert.KernelIdeal.Pays.feature
  split
  · exact hs _
  split
  · rw [Ideal.div_coe hn]
    exact (hs _).mul ⟨_, rfl⟩
  split
  · exact hp _
  · exact hq _

end Cert.Norm

end
-- ==== Proof.Tally.lean ====
/- The token counts over the extended reals: entry (row, token) of the flat result is the number of columns of that row
   that hold the token. -/
module

public import proofs.«01_k».proof.Proof.KernelIdeal.Common
public import Idealize.ShloMosaic.Lib.IdealHost
public import Idealize.ShloMosaic.PureOps.Ideal.Laws

@[expose] public section

set_option maxRecDepth 16384

noncomputable section

namespace Cert.KernelIdeal.Tally

open Cert.KernelIdeal Cert.KernelIdeal.Counts Cert.KernelIdeal.Call
open Idealize.ShloMosaic

/-- One scatter adds to a count one for each lane that names its position. -/
theorem bumpAt_sum (v : IVec S16 32) (j : S8192.Idx) (c : EReal) :
    bumpAt (F := Ideal) (one (F := Ideal)) v j c = c + ∑ k : Fin 16, if names v j k then (1 : EReal) else 0 := by
  have h : ∀ (l : List (Fin 16)) (c : EReal), l.foldl (fun g k => if names v j k then FloatOps.idxAddf (F := Ideal) (φ := .f32) g (one (F := Ideal)) else g) c
      = c + (l.map fun k => if names v j k then (1 : EReal) else 0).sum := by
    intro l
    induction l with
    | nil => intro c; simp
    | cons k l ih =>
      intro c
      rw [List.foldl_cons, ih, List.map_cons, List.sum_cons, ← add_assoc]
      congr 1
      by_cases hk : names v j k
      · rw [if_pos hk, if_pos hk]
        show c + (one (F := Ideal) : EReal) = c + 1
        congr 1
        exact Ideal.ofBits_one_f32
      · rw [if_neg hk, if_neg hk, add_zero]
  rw [Fin.sum_univ_def]
  exact h _ c

/-- The table after `n` scatters counts the lanes of all of them. -/
theorem hist_sum (q : S8x64.Idx → BitVec 32) (n : Nat) (j : S8192.Idx) :
    hist (F := Ideal) q n j = ∑ i ∈ Finset.range n, ∑ k : Fin 16, if names (lanes q i) j k then (1 : EReal) else 0 := by
  induction n with
  | zero =>
    rw [Finset.range_zero, Finset.sum_empty]
    exact Ideal.ofBits_zero_f32
  | succ n ih =>
    rw [Finset.sum_range_succ, ← ih]
    exact bumpAt_sum _ _ _

/-- Of 32 terms in groups of four, only group `r` is not zero. -/
theorem sum_group (g : Nat → EReal) (r : Nat) (hr : r < 8) :
    (∑ i ∈ Finset.range 32, if i / 4 = r then g (i % 4) else 0) = ∑ c ∈ Finset.range 4, g c := by
  rw [show (32 : Nat) = 8 * 4 from rfl, Finset.sum_range (n := 8 * 4)]
  rw [← finProdFinEquiv.sum_comp, Fintype.sum_prod_type]
  rw [Finset.sum_eq_single (⟨r, hr⟩ : Fin 8)]
  · rw [Finset.sum_range]
    refine Finset.sum_congr rfl fun c _ => ?_
    have h1 : (finProdFinEquiv ((⟨r, hr⟩ : Fin 8), c)).val = c.val + 4 * r := rfl
    rw [h1, if_pos (by omega), show (c.val + 4 * r) % 4 = c.val by omega]
  · intro b _ hb
    refine Finset.sum_eq_zero fun c _ => ?_
    have h1 : (finProdFinEquiv (b, c)).val = c.val + 4 * b.val := rfl
    rw [h1, if_neg]
    intro e
    exact hb (Fin.ext (by show b.val = r; omega))
  · intro h; exact absurd (Finset.mem_univ _) h

/-- Four groups of sixteen are sixty-four. -/
theorem sum_columns (g : Nat → EReal) : (∑ c ∈ Finset.range 4, ∑ k : Fin 16, g (16 * c + k.val)) = ∑ k : Fin 64, g k.val := by
  rw [Finset.sum_range, ← Fintype.sum_prod_type' (f := fun (c : Fin 4) (k : Fin 16) => g (16 * c.val + k.val))]
  rw [show (64 : Nat) = 4 * 16 from rfl, ← finProdFinEquiv.sum_comp]
  refine Finset.sum_congr rfl fun x _ => congrArg g ?_
  show 16 * x.1.val + x.2.val = x.2.val + 16 * x.1.val
  omega

/-- Column `k` of row `b`. -/
def cell (b : Fin 4096) (k : Fin 64) : S4096x64.Idx := fun a => match a with | 0 => b | 1 => k

/-- Row `b`, token `v`, in the flat result. -/
def flat (b : Fin 4096) (v : Fin 1024) : S4194304.Idx := fun a => match a with
  | 0 => ⟨1024 * b.val + v.val, by show 1024 * b.val + v.val < 4194304; have := b.isLt; have := v.isLt; omega⟩

/-- The number of columns of row `b` that hold the token `v`. -/
def tally (f : S4096x64.Idx → BitVec 32) (b : Fin 4096) (v : Fin 1024) : EReal :=
  ∑ k : Fin 64, if (f (cell b k)).toNat = v.val then 1 else 0

theorem countsOf_flat (f : S4096x64.Idx → BitVec 32) (hf : ∀ j, (f j).toNat < 1024) (b : Fin 4096) (v : Fin 1024) :
    countsOf (F := Ideal) f (flat b v) = tally f b v := by
  have hb := b.isLt
  have hv := v.isLt
  show hist (F := Ideal) (chunk f ((1024 * b.val + v.val) / 8192)) 32 (inChunk (flat b v)) = _
  rw [hist_sum]
  let g : Nat → EReal := fun k => if (f (cell b ⟨k % 64, Nat.mod_lt _ (by decide)⟩)).toNat = v.val then 1 else 0
  have key : ∀ i ∈ Finset.range 32, (∑ k : Fin 16, if names (lanes (chunk f ((1024 * b.val + v.val) / 8192)) i) (inChunk (flat b v)) k then (1 : EReal) else 0)
      = if i / 4 = b.val % 8 then (∑ k : Fin 16, g (16 * (i % 4) + k.val)) else 0 := by
    intro i hi
    have hi : i < 32 := Finset.mem_range.1 hi
    have hn : ∀ k : Fin 16, names (lanes (chunk f ((1024 * b.val + v.val) / 8192)) i) (inChunk (flat b v)) k
        ↔ i / 4 = b.val % 8 ∧ (f (cell b ⟨(16 * (i % 4) + k.val) % 64, Nat.mod_lt _ (by decide)⟩)).toNat = v.val := by
      intro k
      have hk := k.isLt
      have hx := hf (fun a => match a with
        | 0 => ⟨(8 * ((1024 * b.val + v.val) / 8192) + i / 4 % 8) % 4096, Nat.mod_lt _ (by decide)⟩
        | 1 => ⟨(16 * (i % 4) + k.val) % 64, Nat.mod_lt _ (by decide)⟩ : S4096x64.Idx)
      have e : chunk f ((1024 * b.val + v.val) / 8192) (place i (Shape.ofLane k)) = f (fun a => match a with
        | 0 => ⟨(8 * ((1024 * b.val + v.val) / 8192) + i / 4 % 8) % 4096, Nat.mod_lt _ (by decide)⟩
        | 1 => ⟨(16 * (i % 4) + k.val) % 64, Nat.mod_lt _ (by decide)⟩ : S4096x64.Idx) := by
        refine congrArg f (funext fun a => ?_)
        match a with
        | 0 => rfl
        | 1 =>
          refine Fin.ext ?_
          show 16 * (i % 4) + k.val = (16 * (i % 4) + k.val) % 64
          omega
      have e2 : i / 4 = b.val % 8 → (fun a => match a with
        | 0 => ⟨(8 * ((1024 * b.val + v.val) / 8192) + i / 4 % 8) % 4096, Nat.mod_lt _ (by decide)⟩
        | 1 => ⟨(16 * (i % 4) + k.val) % 64, Nat.mod_lt _ (by decide)⟩ : S4096x64.Idx) = cell b ⟨(16 * (i % 4) + k.val) % 64, Nat.mod_lt _ (by decide)⟩ := by
        intro hr
        funext a
        match a with
        | 0 =>
          refine Fin.ext ?_
          show (8 * ((1024 * b.val + v.val) / 8192) + i / 4 % 8) % 4096 = b.val
          omega
        | 1 => rfl
      have e3 : names (lanes (chunk f ((1024 * b.val + v.val) / 8192)) i) (inChunk (flat b v)) k
          ↔ (chunk f ((1024 * b.val + v.val) / 8192) (place i (Shape.ofLane k))).toNat + 1024 * (i / 4) = (1024 * b.val + v.val) % 8192 := by
        unfold names lanes
        rw [BitVec.toNat_add, BitVec.toNat_ofNat, e]
        show _ = (1024 * b.val + v.val) % 8192 ↔ _
        generalize (f _).toNat = t at hx ⊢
        rw [Nat.mod_eq_of_lt (a := 1024 * (i / 4)) (by omega), Nat.mod_eq_of_lt (by omega)]
      rw [e3, e]
      constructor
      · intro h
        have hr : i / 4 = b.val % 8 := by
          generalize (f _).toNat = t at hx h
          omega
        refine ⟨hr, ?_⟩
        rw [e2 hr] at h hx
        generalize (f _).toNat = t at hx h ⊢
        omega
      · rintro ⟨hr, h⟩
        rw [e2 hr]
        generalize (f _).toNat = t at h ⊢
        omega
    by_cases hr : i / 4 = b.val % 8
    · rw [if_pos hr]
      refine Finset.sum_congr rfl fun k _ => ?_
      show (if _ then (1 : EReal) else 0) = if _ then 1 else 0
      simp only [hn k, hr, true_and]
    · rw [if_neg hr]
      refine Finset.sum_eq_zero fun k _ => ?_
      rw [if_neg fun h => hr ((hn k).1 h).1]
  rw [Finset.sum_congr rfl key, sum_group (fun c => ∑ k : Fin 16, g (16 * c + k.val)) _ (Nat.mod_lt _ (by decide)), sum_columns]
  refine Finset.sum_congr rfl fun k _ => ?_
  show (if (f (cell b ⟨k.val % 64, _⟩)).toNat = v.val then (1 : EReal) else 0) = _
  rw [show (⟨k.val % 64, Nat.mod_lt _ (by decide)⟩ : Fin 64) = k from Fin.ext (Nat.mod_eq_of_lt k.isLt)]

end Cert.KernelIdeal.Tally

end
-- ==== Proof.Value.Names.lean ====
/- A row's names: the kernel's weighted sum over the table's rows, the weights being how often each name comes up among the
   row's 64 tokens, is the reference's sum over the row's 50 names, the padding name left out. -/
module

public import proofs.«01_k».proof.Proof.Value.Norm
public import proofs.«01_k».proof.Proof.KernelIdeal.Run
public import proofs.«01_k».proof.Proof.Tally

@[expose] public section

noncomputable section

namespace Cert.Names

open Cert.KernelIdeal Cert.KernelIdeal.Gen
open Cert.KernelIdeal.Call (tokens)
open Cert.KernelIdeal.Tally (tally cell)
open Cert.Norm (IsReal coe_sum)
open Idealize.ShloMosaic

/-- A row's tokens: its 50 names, then 14 padding names. -/
theorem tokens_at (x : S4096x50.Idx → BitVec 32) (b : Fin 4096) (k : Fin 64) :
    tokens x (cell b k) = if h : k.val < 50 then x (ix2 b ⟨k.val, h⟩) else 0#32 := by
  have hc : cell b k = ix2 b k := funext fun a => match a with | 0 => rfl | 1 => rfl
  rw [hc]
  pointwise

/-- A sum over a row's 64 tokens: the sum over its 50 names, and 14 times the padding name's. -/
theorem sum_tokens (x : S4096x50.Idx → BitVec 32) (b : Fin 4096) (f : BitVec 32 → ℝ) :
    (∑ k : Fin 64, f (tokens x (cell b k))) = (∑ l : Fin 50, f (x (ix2 b l))) + 14 * f 0#32 := by
  simp only [tokens_at]
  rw [show (64 : ℕ) = 50 + 14 from rfl, Fin.sum_univ_add]
  refine congrArg₂ (· + ·) (Finset.sum_congr rfl fun l _ => ?_) ?_
  · exact congrArg f (dif_pos l.isLt)
  · rw [Finset.sum_congr rfl fun l _ => congrArg f (dif_neg (show ¬ (Fin.natAdd 50 l).val < 50 from by simp))]
    simp

/-- How often a name comes up, as a real number. -/
theorem tally_real (f : S4096x64.Idx → BitVec 32) (b : Fin 4096) (v : Fin 1024) :
    tally f b v = ((∑ k : Fin 64, if (f (cell b k)).toNat = v.val then (1 : ℝ) else 0 : ℝ) : EReal) := by
  unfold tally
  rw [coe_sum]
  exact Finset.sum_congr rfl fun k _ => by split <;> simp

/-- The sum over the table's rows, each as often as it comes up, is the sum over the row's tokens. -/
theorem weighted (f : S4096x64.Idx → BitVec 32) (hf : ∀ j, (f j).toNat < 1024) (b : Fin 4096) (t : Fin 1024 → ℝ) :
    (∑ v : Fin 1024, tally f b v * (t v : EReal)) = ((∑ k : Fin 64, t ⟨(f (cell b k)).toNat, hf _⟩ : ℝ) : EReal) := by
  simp only [tally_real]
  rw [Finset.sum_congr rfl fun v _ => (EReal.coe_mul _ (t v)).symm, ← coe_sum]
  refine congrArg _ ?_
  simp only [Finset.sum_mul, ite_mul, one_mul, zero_mul]
  rw [Finset.sum_comm]
  refine Finset.sum_congr rfl fun k _ => ?_
  rw [Finset.sum_eq_single (⟨(f (cell b k)).toNat, hf _⟩ : Fin 1024)]
  · exact if_pos rfl
  · intro v _ hv
    exact if_neg fun e => hv (Fin.ext e.symm)
  · intro h
    exact absurd (Finset.mem_univ _) h

/-- Whether a name is not the padding name, as the number that the reference multiplies by. -/
theorem mask_at (w : BitVec 32) : (FloatOps.uitofp (F := Ideal) .f32 (IntOp.cmpi .ne w 0#32) : EReal) = ((if w = 0#32 then (0 : ℝ) else 1 : ℝ) : EReal) := by
  show ((((IntOp.cmpi .ne w 0#32).toNat : ℝ)) : EReal) = _
  by_cases h : w = 0#32
  · rw [if_pos h, h]
    simp [IntOp.cmpi]
  · rw [if_neg h]
    simp [IntOp.cmpi, h]

/-- A row's length: the 64 tokens less the padding names. -/
theorem length (x : S4096x50.Idx → BitVec 32) (b : Fin 4096) :
    Ideal.ofBits .f32 0x42800000#32 - tally (tokens x) b 0
      = ∑ l : Fin 50, (FloatOps.uitofp (F := Ideal) .f32 (IntOp.cmpi .ne (x (ix2 b l)) 0#32) : EReal) := by
  have e := sum_tokens x b fun w => if w.toNat = 0 then (1 : ℝ) else 0
  rw [Consts.slots, tally_real, Finset.sum_congr rfl fun l _ => mask_at (x (ix2 b l)), ← coe_sum, ← EReal.coe_sub]
  refine congrArg _ ?_
  refine (congrArg (fun s => (64 : ℝ) - s) e).trans ?_
  rw [Finset.sum_congr rfl fun l _ => show (if (x (ix2 b l)).toNat = 0 then (1 : ℝ) else 0) = 1 - (if x (ix2 b l) = 0#32 then (0 : ℝ) else 1) from ?_]
  · rw [Finset.sum_sub_distrib]
    simp
    ring
  · by_cases h : x (ix2 b l) = 0#32
    · simp [h]
    · rw [if_neg h, if_neg fun e : (x (ix2 b l)).toNat = 0 => h (BitVec.eq_of_toNat_eq e)]
      norm_num

/-- The sum of a row's vectors, in the two ways. -/
theorem vectors (x : S4096x50.Idx → BitVec 32) (hx : ∀ i, (x i).toNat < 1000) (hf : ∀ j, (tokens x j).toNat < 1024)
    (w : S1000x128.Idx → EReal) (hw : ∀ i, IsReal (w i)) (hz : ∀ e : Fin 128, w (ix2 0 e) = 0) (b : Fin 4096) (e : Fin 128) :
    (∑ v : Fin 1024, tally (tokens x) b v * (if h : v.val < 1000 then w (ix2 ⟨v.val, h⟩ e) else 0))
      = ∑ l : Fin 50, w (ix2 ⟨(x (ix2 b l)).toNat, hx _⟩ e) * (FloatOps.uitofp (F := Ideal) .f32 (IntOp.cmpi .ne (x (ix2 b l)) 0#32) : EReal) := by
  choose w' hw' using hw
  obtain ⟨t, ht'⟩ : ∃ t : ℕ → ℝ, ∀ v, t v = if h : v < 1000 then w' (ix2 ⟨v, h⟩ e) else 0 := ⟨_, fun _ => rfl⟩
  have ht : ∀ v : Fin 1024, (if h : v.val < 1000 then w (ix2 ⟨v.val, h⟩ e) else 0) = (t v.val : EReal) := fun v => by
    rw [ht']
    by_cases h : v.val < 1000
    · rw [dif_pos h, dif_pos h, hw']
    · rw [dif_neg h, dif_neg h, EReal.coe_zero]
  have h0 : t 0 = 0 := by
    have := hz e
    rw [hw'] at this
    exact (ht' 0).trans ((dif_pos (by decide : 0 < 1000)).trans (EReal.coe_eq_zero.1 this))
  rw [Finset.sum_congr rfl fun v _ => by rw [ht v], weighted (tokens x) hf b fun v => t v.val, sum_tokens x b fun q => t q.toNat,
    show t (0#32).toNat = 0 from h0, mul_zero, add_zero, coe_sum]
  refine Finset.sum_congr rfl fun l _ => ?_
  rw [mask_at, hw', ← EReal.coe_mul]
  refine congrArg _ ?_
  rw [ht', dif_pos (hx _)]
  by_cases h : x (ix2 b l) = 0#32
  · rw [if_pos h, mul_zero]
    have h0' := (ht' 0).symm.trans h0
    rw [dif_pos (by decide)] at h0'
    refine Eq.trans (congrArg w' ?_) h0'
    refine congrArg (fun q : Fin 1000 => (ix2 q e : S1000x128.Idx)) (Fin.ext ?_)
    show (x (ix2 b l)).toNat = 0
    rw [h]
    rfl
  · rw [if_neg h, mul_one]

end Cert.Names

end
-- ==== Proof.Value.Result.lean ====
/- The kernel's result is the reference's, entry by entry. -/
module

public import proofs.«01_k».proof.Proof.Value.Final
public import proofs.«01_k».proof.Proof.Value.Names
public import proofs.«01_k».proof.Proof.KernelIdeal.Frame

@[expose] public section

set_option maxRecDepth 16384

noncomputable section

namespace Cert.Result

open Cert.KernelIdeal Cert.KernelIdeal.Gen
open Cert.KernelIdeal.Call (tokens rows20 rows2 countsOf)
open Cert.KernelIdeal.Pays (dense feature)
open Cert.KernelIdeal.Dense (cnt tok vals mat vec H₁ H₂ H₃ H₄)
open Cert.KernelIdeal.Tally (tally)
open Cert.ReferenceIdeal.Reads (layer)
open Cert.ReferenceIdeal.Value (res_main_v7 res_main_v19 res_main_v43 res_main_v67)
open Cert.Norm (IsReal)
open Idealize.ShloMosaic Idealize.ShloMosaic.TcCoe

/-- An array of real numbers. -/
abbrev Finite {s : Shape} (x : s.Idx → EReal) : Prop := ∀ i, IsReal (x i)

/-- The number by which a row's sum is divided is a real number that is not zero. -/
theorem length_real (x : S4096x50.Idx → BitVec 32) (b : Fin 4096) :
    ∃ n : ℝ, n ≠ 0 ∧ max (Ideal.ofBits .f32 0x42800000#32 - tally (tokens x) b 0) 1 = (n : EReal) := by
  rw [Names.length]
  obtain ⟨s, hs⟩ : IsReal (∑ l : Fin 50, (FloatOps.uitofp (F := Ideal) .f32 (IntOp.cmpi .ne (x (ix2 b l)) 0#32) : EReal)) :=
    IsReal.sum fun l => ⟨_, Names.mask_at _⟩
  rw [hs]
  refine ⟨max s 1, (lt_of_lt_of_le one_pos (le_max_right s 1)).ne', ?_⟩
  exact (EReal.coe_strictMono.monotone.map_max).symm

section

variable (V : Dev Cert.KernelIdeal.nD → Valuation Cert.KernelIdeal.τ Cert.KernelIdeal.sig (Elt Ideal)) (c : Dev Cert.KernelIdeal.nD)
variable (U : Valuation Cert.ReferenceIdeal.τ Cert.ReferenceIdeal.sig (Elt Ideal))

/-- The two programs' arrays: the same arguments, and the call's results in the kernel's. -/
structure Agrees : Prop where
  a0 : U (Proc.devRef .tc Cert.ReferenceIdeal.main_arg0) = vals V c main_arg0
  a1 : U (Proc.devRef .tc Cert.ReferenceIdeal.main_arg1) = vals V c main_arg1
  a2 : U (Proc.devRef .tc Cert.ReferenceIdeal.main_arg2) = vals V c main_arg2
  a3 : U (Proc.devRef .tc Cert.ReferenceIdeal.main_arg3) = vals V c main_arg3
  a4 : U (Proc.devRef .tc Cert.ReferenceIdeal.main_arg4) = vals V c main_arg4
  a5 : U (Proc.devRef .tc Cert.ReferenceIdeal.main_arg5) = vals V c main_arg5
  a6 : U (Proc.devRef .tc Cert.ReferenceIdeal.main_arg6) = vals V c main_arg6
  a7 : U (Proc.devRef .tc Cert.ReferenceIdeal.main_arg7) = vals V c main_arg7
  a8 : U (Proc.devRef .tc Cert.ReferenceIdeal.main_arg8) = vals V c main_arg8
  a9 : U (Proc.devRef .tc Cert.ReferenceIdeal.main_arg9) = vals V c main_arg9
  a10 : U (Proc.devRef .tc Cert.ReferenceIdeal.main_arg10) = vals V c main_arg10
  a11 : U (Proc.devRef .tc Cert.ReferenceIdeal.main_arg11) = vals V c main_arg11
  a12 : U (Proc.devRef .tc Cert.ReferenceIdeal.main_arg12) = vals V c main_arg12
  a13 : U (Proc.devRef .tc Cert.ReferenceIdeal.main_arg13) = vals V c main_arg13
  a14 : U (Proc.devRef .tc Cert.ReferenceIdeal.main_arg14) = vals V c main_arg14
  a15 : U (Proc.devRef .tc Cert.ReferenceIdeal.main_arg15) = vals V c main_arg15
  a16 : U (Proc.devRef .tc Cert.ReferenceIdeal.main_arg16) = vals V c main_arg16
  a17 : U (Proc.devRef .tc Cert.ReferenceIdeal.main_arg17) = vals V c main_arg17
  a18 : U (Proc.devRef .tc Cert.ReferenceIdeal.main_arg18) = vals V c main_arg18
  a19 : U (Proc.devRef .tc Cert.ReferenceIdeal.main_arg19) = vals V c main_arg19
  counts : vals V c main_v1_0 = countsOf (F := Ideal) (tokens (vals V c main_arg0))
  positions : vals V c main_v1_1 = rows20 (F := Ideal) (vals V c main_arg4) (vals V c main_arg1)
  sides : vals V c main_v1_2 = rows2 (F := Ideal) (vals V c main_arg5) (vals V c main_arg2)
  names_lt : ∀ i, ((vals V c main_arg0 : IVec S4096x50 32) i).toNat < 1000
  positions_lt : ∀ i, ((vals V c main_arg1 : IVec S4096 32) i).toNat < 20
  sides_lt : ∀ i, ((vals V c main_arg2 : IVec S4096 32) i).toNat < 2
  padding : ∀ e : Fin 128, (vals V c main_arg3 : FVec Ideal S1000x128 .f32) (ix2 0 e) = (0 : EReal)
  f3 : Finite (vals V c main_arg3 : FVec Ideal S1000x128 .f32)
  f4 : Finite (vals V c main_arg4 : FVec Ideal S20x128 .f32)
  f5 : Finite (vals V c main_arg5 : FVec Ideal S2x128 .f32)
  f6 : Finite (vals V c main_arg6 : FVec Ideal S512x1024 .f32)
  f7 : Finite (vals V c main_arg7 : FVec Ideal S1024 .f32)
  f8 : Finite (vals V c main_arg8 : FVec Ideal S1024 .f32)
  f9 : Finite (vals V c main_arg9 : FVec Ideal S1024 .f32)
  f10 : Finite (vals V c main_arg10 : FVec Ideal S1024x1024 .f32)
  f11 : Finite (vals V c main_arg11 : FVec Ideal S1024 .f32)
  f12 : Finite (vals V c main_arg12 : FVec Ideal S1024 .f32)
  f13 : Finite (vals V c main_arg13 : FVec Ideal S1024 .f32)
  f14 : Finite (vals V c main_arg14 : FVec Ideal S1024x512 .f32)
  f15 : Finite (vals V c main_arg15 : FVec Ideal S512 .f32)
  f16 : Finite (vals V c main_arg16 : FVec Ideal S512 .f32)

variable {V c U} (h : Agrees V c U)
include h

theorem cnt_eq (r : Fin 4096) (v : Fin 1024) : cnt V c r v = tally (tokens (vals V c main_arg0)) r v := by
  refine Eq.trans ?_ (Cert.KernelIdeal.Tally.countsOf_flat (tokens (vals V c main_arg0))
    (fun j => (Cert.KernelIdeal.Call.tokens_lt _ 1000 (by decide) h.names_lt j).trans (by decide)) r v)
  show (vals V c main_v1_0 : FVec Ideal S4194304 .f32) _ = _
  rw [h.counts]
  exact congrArg _ (funext fun a => match a with | 0 => rfl)

/-- The sum of a row's vectors. -/
theorem sum_eq (r : Fin 4096) (e : Fin 128) :
    @Eq EReal (∑ v : Fin 1024, cnt V c r v * tok V c v e) (res_main_v7 U (ix2 r e)) := by
  have hl : ∀ i, ((U (Proc.devRef .tc Cert.ReferenceIdeal.main_arg0) : IVec S4096x50 32) i).toNat < 1000 := by
    rw [h.a0]
    exact h.names_lt
  have e₁ := Cert.ReferenceIdeal.Reads.v7_at U hl r e
  have e₂ := Names.vectors (vals V c main_arg0) h.names_lt
    (fun j => (Cert.KernelIdeal.Call.tokens_lt _ 1000 (by decide) h.names_lt j).trans (by decide)) (vals V c main_arg3) h.f3 h.padding r e
  refine (Finset.sum_congr rfl fun v _ => congrArg (· * tok V c v e) (cnt_eq h r v)).trans (e₂.trans (Eq.trans ?_ e₁.symm))
  refine Finset.sum_congr rfl fun l _ => ?_
  simp only [h.a0, h.a3]

/-- The number by which a row's sum is divided. -/
theorem length_eq (r : Fin 4096) : max (Ideal.ofBits .f32 0x42800000#32 - cnt V c r 0) 1
    = max (Ideal.ofBits .f32 0x3F800000#32) (∑ l : Fin 50, FloatOps.uitofp (F := Ideal) .f32
        (IntOp.cmpi .ne (U (Proc.devRef .tc Cert.ReferenceIdeal.main_arg0) (ix2 r l)) 0#32)) := by
  rw [cnt_eq h, Names.length, max_comm, Ideal.ofBits_one_f32]
  simp only [h.a0]

/-- The first layer's rows are the reference's. -/
theorem first (r : Fin 4096) (j : Fin 1024) : @Eq EReal (H₁ V c r j) (res_main_v19 U (ix2 r j)) := by
  have hp : ∀ i, ((U (Proc.devRef .tc Cert.ReferenceIdeal.main_arg1) : IVec S4096 32) i).toNat < 20 := by
    rw [h.a1]
    exact h.positions_lt
  have hs : ∀ i, ((U (Proc.devRef .tc Cert.ReferenceIdeal.main_arg2) : IVec S4096 32) i).toNat < 2 := by
    rw [h.a2]
    exact h.sides_lt
  refine Eq.trans ?_ (Cert.ReferenceIdeal.Reads.v19_at U _ rfl hp hs r j).symm
  unfold Cert.KernelIdeal.Dense.H₁
  rw [length_eq h, show (fun e => ∑ v : Fin 1024, cnt V c r v * tok V c v e) = fun e => (res_main_v7 U : FVec Ideal S4096x128 .f32) (ix2 r e) from
    funext fun e => sum_eq h r e, h.positions, h.sides]
  simp only [h.a4, h.a1, h.a5, h.a2, h.a6, h.a7]

theorem first_real (r : Fin 4096) (j : Fin 1024) : IsReal (H₁ V c r j) := by
  obtain ⟨n, hn, e⟩ := length_real (vals V c main_arg0) r
  unfold Cert.KernelIdeal.Dense.H₁
  refine IsReal.max_zero (IsReal.dense (fun k => ?_) (fun k => h.f6 _) (h.f7 _))
  rw [cnt_eq h, e]
  refine IsReal.feature (fun e => IsReal.sum fun v => ?_) hn (fun e => ?_) (fun e => ?_) k
  · rw [cnt_eq h]
    refine IsReal.mul ⟨_, Names.tally_real _ _ _⟩ ?_
    unfold Cert.KernelIdeal.Dense.tok
    split
    · exact h.f3 _
    · exact ⟨0, rfl⟩
  · rw [h.positions]
    exact h.f4 _
  · rw [h.sides]
    exact h.f5 _

/-- The second layer's rows are the reference's. -/
theorem second (r : Fin 4096) (j : Fin 1024) : @Eq EReal (H₂ V c r j) (res_main_v43 U (ix2 r j)) := by
  refine Eq.trans ?_ (Cert.ReferenceIdeal.Reads.v43_at U _ rfl r j).symm
  unfold Cert.KernelIdeal.Dense.H₂ Cert.KernelIdeal.Dense.layer
  rw [Norm.layer_eq (H₁ V c) _ _ _ _ (first_real h) (fun l => h.f8 _), show H₁ V c = fun r j => (res_main_v19 U : FVec Ideal S4096x1024 .f32) (ix2 r j) from
    funext fun r => funext fun j => first h r j]
  simp only [h.a8, h.a9, h.a10, h.a11]

theorem second_real (r : Fin 4096) (j : Fin 1024) : IsReal (H₂ V c r j) := by
  unfold Cert.KernelIdeal.Dense.H₂ Cert.KernelIdeal.Dense.layer
  rw [Norm.layer_eq (H₁ V c) _ _ _ _ (first_real h) (fun l => h.f8 _)]
  exact IsReal.max_zero (IsReal.layer (first_real h) (fun l => h.f8 _) (fun l => h.f9 _) (fun l k => h.f10 _) (fun k => h.f11 _) r j)

/-- The third layer's rows are the reference's. -/
theorem third (r : Fin 4096) (j : Fin 512) : @Eq EReal (H₃ V c r j) (res_main_v67 U (ix2 r j)) := by
  refine Eq.trans ?_ (Cert.ReferenceIdeal.Reads.v67_at U _ rfl r j).symm
  unfold Cert.KernelIdeal.Dense.H₃ Cert.KernelIdeal.Dense.layer
  rw [Norm.layer_eq (H₂ V c) _ _ _ _ (second_real h) (fun l => h.f12 _), show H₂ V c = fun r j => (res_main_v43 U : FVec Ideal S4096x1024 .f32) (ix2 r j) from
    funext fun r => funext fun j => second h r j]
  simp only [h.a12, h.a13, h.a14, h.a15]

theorem third_real (r : Fin 4096) (j : Fin 512) : IsReal (H₃ V c r j) := by
  unfold Cert.KernelIdeal.Dense.H₃ Cert.KernelIdeal.Dense.layer
  rw [Norm.layer_eq (H₂ V c) _ _ _ _ (second_real h) (fun l => h.f12 _)]
  exact IsReal.max_zero (IsReal.layer (second_real h) (fun l => h.f12 _) (fun l => h.f13 _) (fun l k => h.f14 _) (fun k => h.f15 _) r j)

/-- The result is the reference's. -/
theorem result (r : Fin 4096) (j : Fin 1000) :
    @Eq EReal (H₄ V c r j) (Cert.ReferenceIdeal.Value.val2 U (Proc.devRef .tc Cert.ReferenceIdeal.main_v90) (ix2 r j)) := by
  refine Eq.trans ?_ (Cert.ReferenceIdeal.Reads.out_at U _ rfl r j).symm
  unfold Cert.KernelIdeal.Dense.H₄ Cert.KernelIdeal.Dense.layer
  rw [Norm.layer_eq (H₃ V c) _ _ _ _ (third_real h) (fun l => h.f16 _), show H₃ V c = fun r j => (res_main_v67 U : FVec Ideal S4096x512 .f32) (ix2 r j) from
    funext fun r => funext fun j => third h r j]
  simp only [h.a16, h.a17, h.a18, h.a19]

/-- The whole array of results. -/
theorem results : @Eq (FVec Ideal S4096x1000 .f32) (vals (Cert.KernelIdeal.Dense.done V) c main_v25)
    (Cert.ReferenceIdeal.Value.val2 U (Proc.devRef .tc Cert.ReferenceIdeal.main_v90)) := by
  funext i
  have hi : i = ix2 (i 0) (i 1) := funext fun a => match a with | 0 => rfl | 1 => rfl
  rw [hi]
  exact (Cert.KernelIdeal.Dense.result V c (i 0) (i 1)).trans (result h (i 0) (i 1))

end

end Cert.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Pre_in_range
public import proofs.«01_k».proof.Proof.Gen.Pre_usable
public import proofs.«01_k».proof.Proof.Kernel.Frame
public import proofs.«01_k».proof.Proof.KernelIdeal.Frame
public import proofs.«01_k».proof.Proof.Ranges
public import proofs.«01_k».proof.Proof.Value.Result

@[expose] public section

set_option maxRecDepth 16384

noncomputable section

namespace Cert.Proof

open Idealize.ShloMosaic Idealize.ShloMosaic.StableHlo Idealize.SL.Sem
open Idealize.ShloMosaic.Pipeline (ucRefs)

theorem kernel : Cert.quiescent_Kernel := fun m ρ hpre =>
  (θ_run Cert.Kernel.defs _ _).mono (fun _ h => ⟨fun c => Cert.Kernel.Call.kept_args m h c, h.2⟩)
    (Cert.Kernel.Call.run (F := Bits) m ρ fun c => by
      obtain ⟨h₁, h₂, h₃⟩ := Cert.Ranges.of_range _ _ _ _ _ _ _ _ _ _ _ _ _ _ _ _ _ _ _ _ (hpre c)
      exact Cert.Kernel.Call.feed_ok m c h₁ h₂ h₃)

theorem kernelIdeal : Cert.quiescent_KernelIdeal := fun m ρ hpre =>
  (θ_run Cert.KernelIdeal.defs _ _).mono (fun _ h => ⟨fun c => Cert.KernelIdeal.Call.kept_args m h c, h.2⟩)
    (Cert.KernelIdeal.Call.run (F := Ideal) m ρ fun c => by
      obtain ⟨h₁, h₂, h₃⟩ := Cert.Ranges.of_range _ _ _ _ _ _ _ _ _ _ _ _ _ _ _ _ _ _ _ _ (hpre c)
      exact Cert.KernelIdeal.Call.feed_ok m c h₁ h₂ h₃)

/-- What the second precondition says of the ranges. -/
theorem usable_ok (m : (ℓ : Loc Cert.KernelIdeal.nD Cert.KernelIdeal.τ Cert.KernelIdeal.sig) → Buf (Elt Ideal) ℓ)
    (hpre : Cert.Pre_KernelIdeal_usable m) (c : Dev Cert.KernelIdeal.nD) : (Cert.KernelIdeal.Call.feed m c).Ok := by
  obtain ⟨⟨h₁, h₂, h₃⟩, -⟩ := Cert.Ranges.of_usable _ _ _ _ _ _ _ _ _ _ _ _ _ _ _ _ _ _ _ _ (hpre c)
  exact Cert.KernelIdeal.Call.feed_ok m c h₁ h₂ h₃

theorem kernelIdeal_usable : Cert.quiescent_KernelIdeal_pre_usable := fun m ρ hpre =>
  (θ_run Cert.KernelIdeal.defs _ _).mono (fun _ h => ⟨fun c => Cert.KernelIdeal.Call.kept_args m h c, h.2⟩)
    (Cert.KernelIdeal.Call.run (F := Ideal) m ρ (usable_ok m hpre))

/-- The reference's run: its arguments as they were, and it has no semaphore. -/
theorem reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the two programs' arrays are to each other, from memories that agree on the arguments. -/
theorem agrees (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_usable m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.Result.Agrees (Cert.KernelIdeal.Call.mid m) c (launchContents m' c) := by
  obtain ⟨⟨h₁, h₂, h₃⟩, hz, f3, f4, f5, f6, f7, f8, f9, f10, f11, f12, f13, f14, f15, f16⟩ := Cert.Ranges.of_usable _ _ _ _ _ _ _ _ _ _ _ _ _ _ _ _ _ _ _ _ (hpre c)
  obtain ⟨r₁, r₂, r₃⟩ := Cert.KernelIdeal.Call.mid_results m c
  have k : ∀ {r}, r ∈ Cert.KernelIdeal.Dense.args → Cert.KernelIdeal.Dense.vals (Cert.KernelIdeal.Call.mid m) c r = m ((c.tc : Thread Cert.KernelIdeal.nD Cert.KernelIdeal.τ).loc r) :=
    fun h => Cert.KernelIdeal.Call.mid_arg m c h
  have k0 := k (r := Cert.KernelIdeal.main_arg0) (by simp)
  have k1 := k (r := Cert.KernelIdeal.main_arg1) (by simp)
  have k2 := k (r := Cert.KernelIdeal.main_arg2) (by simp)
  have k3 := k (r := Cert.KernelIdeal.main_arg3) (by simp)
  have k4 := k (r := Cert.KernelIdeal.main_arg4) (by simp)
  have k5 := k (r := Cert.KernelIdeal.main_arg5) (by simp)
  have k6 := k (r := Cert.KernelIdeal.main_arg6) (by simp)
  have k7 := k (r := Cert.KernelIdeal.main_arg7) (by simp)
  have k8 := k (r := Cert.KernelIdeal.main_arg8) (by simp)
  have k9 := k (r := Cert.KernelIdeal.main_arg9) (by simp)
  have k10 := k (r := Cert.KernelIdeal.main_arg10) (by simp)
  have k11 := k (r := Cert.KernelIdeal.main_arg11) (by simp)
  have k12 := k (r := Cert.KernelIdeal.main_arg12) (by simp)
  have k13 := k (r := Cert.KernelIdeal.main_arg13) (by simp)
  have k14 := k (r := Cert.KernelIdeal.main_arg14) (by simp)
  have k15 := k (r := Cert.KernelIdeal.main_arg15) (by simp)
  have k16 := k (r := Cert.KernelIdeal.main_arg16) (by simp)
  have k17 := k (r := Cert.KernelIdeal.main_arg17) (by simp)
  have k18 := k (r := Cert.KernelIdeal.main_arg18) (by simp)
  have k19 := k (r := Cert.KernelIdeal.main_arg19) (by simp)
  obtain ⟨a0, a1, a2, a3, a4, a5, a6, a7, a8, a9, a10, a11, a12, a13, a14, a15, a16, a17, a18, a19⟩ := hagree
  exact {
    a0 := a0.trans k0.symm
    a1 := a1.trans k1.symm
    a2 := a2.trans k2.symm
    a3 := a3.trans k3.symm
    a4 := a4.trans k4.symm
    a5 := a5.trans k5.symm
    a6 := a6.trans k6.symm
    a7 := a7.trans k7.symm
    a8 := a8.trans k8.symm
    a9 := a9.trans k9.symm
    a10 := a10.trans k10.symm
    a11 := a11.trans k11.symm
    a12 := a12.trans k12.symm
    a13 := a13.trans k13.symm
    a14 := a14.trans k14.symm
    a15 := a15.trans k15.symm
    a16 := a16.trans k16.symm
    a17 := a17.trans k17.symm
    a18 := a18.trans k18.symm
    a19 := a19.trans k19.symm
    counts := by rw [k0]; exact r₁
    positions := by rw [k4, k1]; exact r₂
    sides := by rw [k5, k2]; exact r₃
    names_lt := by rw [k0]; exact h₁
    positions_lt := by rw [k1]; exact h₂
    sides_lt := by rw [k2]; exact h₃
    padding := by rw [k3]; exact hz
    f3 := by rw [k3]; exact f3
    f4 := by rw [k4]; exact f4
    f5 := by rw [k5]; exact f5
    f6 := by rw [k6]; exact f6
    f7 := by rw [k7]; exact f7
    f8 := by rw [k8]; exact f8
    f9 := by rw [k9]; exact f9
    f10 := by rw [k10]; exact f10
    f11 := by rw [k11]; exact f11
    f12 := by rw [k12]; exact f12
    f13 := by rw [k13]; exact f13
    f14 := by rw [k14]; exact f14
    f15 := by rw [k15]; exact f15
    f16 := by rw [k16]; exact f16 }

theorem result_mem : (Proc.devRef .tc Cert.KernelIdeal.main_v25 : DevRef Cert.KernelIdeal.τ Cert.KernelIdeal.sig) ∈ ucRefs Cert.KernelIdeal.τ Cert.KernelIdeal.sig := by
  decide +kernel

/-- The kernel's result is the reference's. -/
theorem algebraic : Cert.algebraic_KernelIdeal_ReferenceIdeal_pre_usable := by
  intro m ρ m' ρ' hpre hagree
  refine ⟨fun c => Cert.KernelIdeal.Call.last m c (Proc.devRef .tc Cert.KernelIdeal.main_v25),
    (θ_run Cert.KernelIdeal.defs _ _).mono (fun _ h c =>
      ⟨Cert.KernelIdeal.Call.uc m Cert.KernelIdeal.main_v25 result_mem h c, Cert.KernelIdeal.Call.kept_args m h c⟩)
      (Cert.KernelIdeal.Call.run (F := Ideal) m ρ (usable_ok m hpre)), ?_⟩
  refine (θ_run Cert.ReferenceIdeal.defs _ _).mono (fun r h c => ⟨?_, (h c).2⟩) (Cert.ReferenceIdeal.Value.run (F := Ideal) m' ρ')
  have e := Cert.Result.results (agrees m m' hpre c (hagree c))
  exact (h c).1.trans ((Cert.ReferenceIdeal.Value.val2_main_v90 _).symm.trans e.symm)

theorem claim : Cert.Claim := ⟨Cert.Kernel.Gen.facts, Cert.KernelIdeal.Gen.facts, Cert.ReferenceIdeal.Gen.facts, Cert.Pre_in_range.Gen.facts,
  Cert.Pre_usable.Gen.facts, kernel, kernelIdeal, kernelIdeal_usable, reference, fun m ρ _ => reference m ρ trivial, trivial, algebraic⟩

end Cert.Proof

end
